-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v38_0)) (v1 : (c : Dev Cert.Kernel2Ideal.nD) → Buf (Elt Ideal) ((c.tc : Thread Cert.Kernel2Ideal.nD Cert.Kernel2Ideal.τ).loc Cert.Kernel2Ideal.main_v38_1)) (v2 : (c : Dev Cert.Kernel2Ideal.nD) → Buf (Elt Ideal) ((c.tc : Thread Cert.Kernel2Ideal.nD Cert.Kernel2Ideal.τ).loc Cert.Kernel2Ideal.main_v38_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v38_0) = v0 c
          ∧ r.2.mem ((c.tc : Thread Cert.Kernel2Ideal.nD Cert.Kernel2Ideal.τ).loc Cert.Kernel2Ideal.main_v38_1) = v1 c
          ∧ r.2.mem ((c.tc : Thread Cert.Kernel2Ideal.nD Cert.Kernel2Ideal.τ).loc Cert.Kernel2Ideal.main_v38_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v74) = v0 c
          ∧ r.2.mem ((c.tc : Thread Cert.Reference2Ideal.nD Cert.Reference2Ideal.τ).loc Cert.Reference2Ideal.main_v75) = v1 c
          ∧ r.2.mem ((c.tc : Thread Cert.Reference2Ideal.nD Cert.Reference2Ideal.τ).loc Cert.Reference2Ideal.main_v77) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)) (v4 : (c : Dev Cert.Kernel3Ideal.nD) → Buf (Elt Ideal) ((c.tc : Thread Cert.Kernel3Ideal.nD Cert.Kernel3Ideal.τ).loc Cert.Kernel3Ideal.main_v6_4)) (v5 : (c : Dev Cert.Kernel3Ideal.nD) → Buf (Elt Ideal) ((c.tc : Thread Cert.Kernel3Ideal.nD Cert.Kernel3Ideal.τ).loc Cert.Kernel3Ideal.main_v6_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_v6_4) = v4 c
          ∧ r.2.mem ((c.tc : Thread Cert.Kernel3Ideal.nD Cert.Kernel3Ideal.τ).loc Cert.Kernel3Ideal.main_v6_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v125) = v0 c
          ∧ r.2.mem ((c.tc : Thread Cert.Reference3Ideal.nD Cert.Reference3Ideal.τ).loc Cert.Reference3Ideal.main_v126) = v1 c
          ∧ r.2.mem ((c.tc : Thread Cert.Reference3Ideal.nD Cert.Reference3Ideal.τ).loc Cert.Reference3Ideal.main_v127) = v2 c
          ∧ r.2.mem ((c.tc : Thread Cert.Reference3Ideal.nD Cert.Reference3Ideal.τ).loc Cert.Reference3Ideal.main_v128) = v3 c
          ∧ r.2.mem ((c.tc : Thread Cert.Reference3Ideal.nD Cert.Reference3Ideal.τ).loc Cert.Reference3Ideal.main_v99) = v4 c
          ∧ r.2.mem ((c.tc : Thread Cert.Reference3Ideal.nD Cert.Reference3Ideal.τ).loc Cert.Reference3Ideal.main_v124) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  IdealRules.named_const.Statement Cert.Kernel4Ideal.κ "root" .f32 0x3F3504F3#32 (((Real.sqrt 2)⁻¹ : ℝ) : EReal)
  ∧ IdealRules.named_const.Statement Cert.Kernel4Ideal.κ "bell" .f32 0x3ECC422A#32 (((Real.sqrt (2 * Real.pi))⁻¹ : ℝ) : EReal)

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)
      ∧ m' ((c.tc : Thread Cert.Reference4Ideal.nD Cert.Reference4Ideal.τ).loc Cert.Reference4Ideal.main_arg17) = m ((c.tc : Thread Cert.Kernel4Ideal.nD Cert.Kernel4Ideal.τ).loc Cert.Kernel4Ideal.main_arg17)) →
    ∃ (v0 : (c : Dev Cert.Kernel4Ideal.nD) → Buf (Elt Ideal) ((c.tc : Thread Cert.Kernel4Ideal.nD Cert.Kernel4Ideal.τ).loc Cert.Kernel4Ideal.main_v81)) (v1 : (c : Dev Cert.Kernel4Ideal.nD) → Buf (Elt Ideal) ((c.tc : Thread Cert.Kernel4Ideal.nD Cert.Kernel4Ideal.τ).loc Cert.Kernel4Ideal.main_v82)) (v2 : (c : Dev Cert.Kernel4Ideal.nD) → Buf (Elt Ideal) ((c.tc : Thread Cert.Kernel4Ideal.nD Cert.Kernel4Ideal.τ).loc Cert.Kernel4Ideal.main_v83)) (v3 : (c : Dev Cert.Kernel4Ideal.nD) → Buf (Elt Ideal) ((c.tc : Thread Cert.Kernel4Ideal.nD Cert.Kernel4Ideal.τ).loc Cert.Kernel4Ideal.main_v84)) (v4 : (c : Dev Cert.Kernel4Ideal.nD) → Buf (Elt Ideal) ((c.tc : Thread Cert.Kernel4Ideal.nD Cert.Kernel4Ideal.τ).loc Cert.Kernel4Ideal.main_v85)) (v5 : (c : Dev Cert.Kernel4Ideal.nD) → Buf (Elt Ideal) ((c.tc : Thread Cert.Kernel4Ideal.nD Cert.Kernel4Ideal.τ).loc Cert.Kernel4Ideal.main_v78)) (v6 : (c : Dev Cert.Kernel4Ideal.nD) → Buf (Elt Ideal) ((c.tc : Thread Cert.Kernel4Ideal.nD Cert.Kernel4Ideal.τ).loc Cert.Kernel4Ideal.main_v80)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v81) = v0 c
          ∧ r.2.mem ((c.tc : Thread Cert.Kernel4Ideal.nD Cert.Kernel4Ideal.τ).loc Cert.Kernel4Ideal.main_v82) = v1 c
          ∧ r.2.mem ((c.tc : Thread Cert.Kernel4Ideal.nD Cert.Kernel4Ideal.τ).loc Cert.Kernel4Ideal.main_v83) = v2 c
          ∧ r.2.mem ((c.tc : Thread Cert.Kernel4Ideal.nD Cert.Kernel4Ideal.τ).loc Cert.Kernel4Ideal.main_v84) = v3 c
          ∧ r.2.mem ((c.tc : Thread Cert.Kernel4Ideal.nD Cert.Kernel4Ideal.τ).loc Cert.Kernel4Ideal.main_v85) = v4 c
          ∧ r.2.mem ((c.tc : Thread Cert.Kernel4Ideal.nD Cert.Kernel4Ideal.τ).loc Cert.Kernel4Ideal.main_v78) = v5 c
          ∧ r.2.mem ((c.tc : Thread Cert.Kernel4Ideal.nD Cert.Kernel4Ideal.τ).loc Cert.Kernel4Ideal.main_v80) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
          ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v193) = v0 c
          ∧ r.2.mem ((c.tc : Thread Cert.Reference4Ideal.nD Cert.Reference4Ideal.τ).loc Cert.Reference4Ideal.main_v195) = v1 c
          ∧ r.2.mem ((c.tc : Thread Cert.Reference4Ideal.nD Cert.Reference4Ideal.τ).loc Cert.Reference4Ideal.main_v125) = v2 c
          ∧ r.2.mem ((c.tc : Thread Cert.Reference4Ideal.nD Cert.Reference4Ideal.τ).loc Cert.Reference4Ideal.main_v159) = v3 c
          ∧ r.2.mem ((c.tc : Thread Cert.Reference4Ideal.nD Cert.Reference4Ideal.τ).loc Cert.Reference4Ideal.main_v156) = v4 c
          ∧ r.2.mem ((c.tc : Thread Cert.Reference4Ideal.nD Cert.Reference4Ideal.τ).loc Cert.Reference4Ideal.main_v153) = v5 c
          ∧ r.2.mem ((c.tc : Thread Cert.Reference4Ideal.nD Cert.Reference4Ideal.τ).loc Cert.Reference4Ideal.main_v148) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16)
          ∧ r.2.mem ((c.tc : Thread Cert.Reference4Ideal.nD Cert.Reference4Ideal.τ).loc Cert.Reference4Ideal.main_arg17) = m' ((c.tc : Thread Cert.Reference4Ideal.nD Cert.Reference4Ideal.τ).loc Cert.Reference4Ideal.main_arg17))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite3 : Cert.Pre_finite3.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S8192x1024 : Shape := ⟨2, ![8192, 1024]⟩
abbrev S1x8192 : Shape := ⟨2, ![1, 8192]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x8192 : S_.BroadcastsInDim S1x8192 (![] : Fin 0 → Fin S1x8192.rank)
  reducesTo_S1x8192_S_d0_1 : S1x8192.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_arg4 : FVec F S1x1024 .f32) (main_arg5 : FVec F S1x1024x5632 .f32) (main_arg6 : FVec F S1x2816x1024 .f32) (main_v13 : IVec S_ 1) (main_v16 : IVec S1x8192 1) : IVec S_ 1 :=
  let main_c_5 : IVec S_ 1 := constantI S_ 1 1#1
  let main_v17 : IVec S_ 1 := (fun x v => Host.reduce IntOp.andi x v reducesTo_S1x8192_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024x5632 .f32 := Host.absf main_arg5
  let main_cst_8 : FVec F S_ .f32 := constant S_ .f32 0x7F800000#32
  let main_v25 : FVec F S1x1024x5632 .f32 := broadcastInDim S1x1024x5632 ![] bcast_S_S1x1024x5632 main_cst_8
  let main_v26 : IVec S1x1024x5632 1 := cmpf .olt main_v24 main_v25
  let main_c_9 : IVec S_ 1 := constantI S_ 1 1#1
  let main_v27 : IVec S_ 1 := (fun x v => Host.reduce IntOp.andi x v reducesTo_S1x1024x5632_S_d0_1_2 h_S_) main_v26 main_c_9
  let main_v28 : IVec S_ 1 := andi main_v23 main_v27
  let main_v29 : FVec F S1x2816x1024 .f32 := Host.absf main_arg6
  let main_cst_10 : FVec F S_ .f32 := constant S_ .f32 0x7F800000#32
  let main_v30 : FVec F S1x2816x1024 .f32 := broadcastInDim S1x2816x1024 ![] bcast_S_S1x2816x1024 main_cst_10
  let main_v31 : IVec S1x2816x1024 1 := cmpf .olt main_v29 main_v30
  let main_c_11 : IVec S_ 1 := constantI S_ 1 1#1
  let main_v32 : IVec S_ 1 := (fun x v => Host.reduce IntOp.andi x v reducesTo_S1x2816x1024_S_d0_1_2 h_S_) main_v31 main_c_11
  let main_v33 : IVec S_ 1 := andi main_v28 main_v32
  main_v33

def fn {F : FTy → Type} [FloatOps F] (main_arg0 : FVec F S8192x1024 .f32) (main_arg1 : FVec F S8192x1024 .f32) (main_arg2 : FVec F S1x8192 .f32) (main_arg3 : FVec F S1x8192 .f32) (main_arg4 : FVec F S1x1024 .f32) (main_arg5 : FVec F S1x1024x5632 .f32) (main_arg6 : FVec F S1x2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x8192 .f32 := Host.absf main_arg2
  let main_cst_2 : FVec F S_ .f32 := constant S_ .f32 0x7F800000#32
  let main_v10 : FVec F S1x8192 .f32 := broadcastInDim S1x8192 ![] bcast_S_S1x8192 main_cst_2
  let main_v11 : IVec S1x8192 1 := cmpf .olt main_v9 main_v10
  let main_c_3 : IVec S_ 1 := constantI S_ 1 1#1
  let main_v12 : IVec S_ 1 := (fun x v => Host.reduce IntOp.andi x v reducesTo_S1x8192_S_d0_1 h_S_) main_v11 main_c_3
  let main_v13 : IVec S_ 1 := andi main_v8 main_v12
  let main_v14 : FVec F S1x8192 .f32 := Host.absf main_arg3
  let main_cst_4 : FVec F S_ .f32 := constant S_ .f32 0x7F800000#32
  let main_v15 : FVec F S1x8192 .f32 := broadcastInDim S1x8192 ![] bcast_S_S1x8192 main_cst_4
  let main_v16 : IVec S1x8192 1 := cmpf .olt main_v14 main_v15
  fn_part1 (F := F) main_arg4 main_arg5 main_arg6 main_v13 main_v16
-- ==== Pre_finite3.lean ====
abbrev S8192x1024 : Shape := ⟨2, ![8192, 1024]⟩
abbrev S1x8192 : Shape := ⟨2, ![1, 8192]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x8192 : S_.BroadcastsInDim S1x8192 (![] : Fin 0 → Fin S1x8192.rank)
  reducesTo_S1x8192_S_d0_1 : S1x8192.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part2 {F : FTy → Type} [FloatOps F] (main_arg7 : FVec F S1x2816x1024 .f32) (main_v33 : IVec S_ 1) : IVec S_ 1 :=
  let main_v34 : FVec F S1x2816x1024 .f32 := Host.absf main_arg7
  let main_cst_12 : FVec F S_ .f32 := constant S_ .f32 0x7F800000#32
  let main_v35 : FVec F S1x2816x1024 .f32 := broadcastInDim S1x2816x1024 ![] bcast_S_S1x2816x1024 main_cst_12
  let main_v36 : IVec S1x2816x1024 1 := cmpf .olt main_v34 main_v35
  let main_c_13 : IVec S_ 1 := constantI S_ 1 1#1
  let main_v37 : IVec S_ 1 := (fun x v => Host.reduce IntOp.andi x v reducesTo_S1x2816x1024_S_d0_1_2 h_S_) main_v36 main_c_13
  let main_v38 : IVec S_ 1 := andi main_v33 main_v37
  main_v38

def fn_part1 {F : FTy → Type} [FloatOps F] (main_arg4 : FVec F S1x1024 .f32) (main_arg5 : FVec F S1x1024 .f32) (main_arg6 : FVec F S1x1024x5632 .f32) (main_arg7 : FVec F S1x2816x1024 .f32) (main_v13 : IVec S_ 1) (main_v16 : IVec S1x8192 1) : IVec S_ 1 :=
  let main_c_5 : IVec S_ 1 := constantI S_ 1 1#1
  let main_v17 : IVec S_ 1 := (fun x v => Host.reduce IntOp.andi x v reducesTo_S1x8192_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x1024x5632 .f32 := Host.absf main_arg6
  let main_cst_10 : FVec F S_ .f32 := constant S_ .f32 0x7F800000#32
  let main_v30 : FVec F S1x1024x5632 .f32 := broadcastInDim S1x1024x5632 ![] bcast_S_S1x1024x5632 main_cst_10
  let main_v31 : IVec S1x1024x5632 1 := cmpf .olt main_v29 main_v30
  let main_c_11 : IVec S_ 1 := constantI S_ 1 1#1
  let main_v32 : IVec S_ 1 := (fun x v => Host.reduce IntOp.andi x v reducesTo_S1x1024x5632_S_d0_1_2 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S1x8192 .f32) (main_arg3 : FVec F S1x8192 .f32) (main_arg4 : FVec F S1x1024 .f32) (main_arg5 : FVec F S1x1024 .f32) (main_arg6 : FVec F S1x1024x5632 .f32) (main_arg7 : FVec F S1x2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x8192 .f32 := Host.absf main_arg2
  let main_cst_2 : FVec F S_ .f32 := constant S_ .f32 0x7F800000#32
  let main_v10 : FVec F S1x8192 .f32 := broadcastInDim S1x8192 ![] bcast_S_S1x8192 main_cst_2
  let main_v11 : IVec S1x8192 1 := cmpf .olt main_v9 main_v10
  let main_c_3 : IVec S_ 1 := constantI S_ 1 1#1
  let main_v12 : IVec S_ 1 := (fun x v => Host.reduce IntOp.andi x v reducesTo_S1x8192_S_d0_1 h_S_) main_v11 main_c_3
  let main_v13 : IVec S_ 1 := andi main_v8 main_v12
  let main_v14 : FVec F S1x8192 .f32 := Host.absf main_arg3
  let main_cst_4 : FVec F S_ .f32 := constant S_ .f32 0x7F800000#32
  let main_v15 : FVec F S1x8192 .f32 := broadcastInDim S1x8192 ![] bcast_S_S1x8192 main_cst_4
  let main_v16 : IVec S1x8192 1 := cmpf .olt main_v14 main_v15
  fn_part1 (F := F) main_arg4 main_arg5 main_arg6 main_arg7 main_v13 main_v16
-- ==== Pre_finite4.lean ====
abbrev S8192x1024 : Shape := ⟨2, ![8192, 1024]⟩
abbrev S1x8192 : Shape := ⟨2, ![1, 8192]⟩
abbrev S1x1024 : Shape := ⟨2, ![1, 1024]⟩
abbrev S1x1024x2048 : Shape := ⟨3, ![1, 1024, 2048]⟩
abbrev S1x2048 : Shape := ⟨2, ![1, 2048]⟩
abbrev S1x512 : Shape := ⟨2, ![1, 512]⟩
abbrev S1x8x128x128 : Shape := ⟨4, ![1, 8, 128, 128]⟩
abbrev S1x8x128 : Shape := ⟨3, ![1, 8, 128]⟩
abbrev S1x31x512 : Shape := ⟨3, ![1, 31, 512]⟩
abbrev S1x1024x1024 : Shape := ⟨3, ![1, 1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x8192 : S_.BroadcastsInDim S1x8192 (![] : Fin 0 → Fin S1x8192.rank)
  reducesTo_S1x8192_S_d0_1 : S1x8192.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x2048 : S_.BroadcastsInDim S1x1024x2048 (![] : Fin 0 → Fin S1x1024x2048.rank)
  reducesTo_S1x1024x2048_S_d0_1_2 : S1x1024x2048.ReducesTo [0, 1, 2] S_
  bcast_S_S1x2048 : S_.BroadcastsInDim S1x2048 (![] : Fin 0 → Fin S1x2048.rank)
  reducesTo_S1x2048_S_d0_1 : S1x2048.ReducesTo [0, 1] S_
  bcast_S_S1x512 : S_.BroadcastsInDim S1x512 (![] : Fin 0 → Fin S1x512.rank)
  reducesTo_S1x512_S_d0_1 : S1x512.ReducesTo [0, 1] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part3 {F : FTy → Type} [FloatOps F] (main_arg15 : FVec F S1x512 .f32) (main_arg17 : FVec F S1x1024x1024 .f32) (main_v48 : IVec S_ 1) (main_v49 : FVec F S1x8x128 .f32) (main_v50 : FVec F S1x8x128 .f32) : IVec S_ 1 :=
  let main_v51 : IVec S1x8x128 1 := cmpf .olt main_v49 main_v50
  let main_c_19 : IVec S_ 1 := constantI S_ 1 1#1
  let main_v52 : IVec S_ 1 := (fun x v => Host.reduce IntOp.andi x v reducesTo_S1x8x128_S_d0_1_2 h_S_) main_v51 main_c_19
  let main_v53 : IVec S_ 1 := andi main_v48 main_v52
  let main_v54 : FVec F S1x512 .f32 := Host.absf main_arg15
  let main_cst_20 : FVec F S_ .f32 := constant S_ .f32 0x7F800000#32
  let main_v55 : FVec F S1x512 .f32 := broadcastInDim S1x512 ![] bcast_S_S1x512 main_cst_20
  let main_v56 : IVec S1x512 1 := cmpf .olt main_v54 main_v55
  let main_c_21 : IVec S_ 1 := constantI S_ 1 1#1
  let main_v57 : IVec S_ 1 := (fun x v => Host.reduce IntOp.andi x v reducesTo_S1x512_S_d0_1 h_S_) main_v56 main_c_21
  let main_v58 : IVec S_ 1 := andi main_v53 main_v57
  let main_v59 : FVec F S1x1024x1024 .f32 := Host.absf main_arg17
  let main_cst_22 : FVec F S_ .f32 := constant S_ .f32 0x7F800000#32
  let main_v60 : FVec F S1x1024x1024 .f32 := broadcastInDim S1x1024x1024 ![] bcast_S_S1x1024x1024 main_cst_22
  let main_v61 : IVec S1x1024x1024 1 := cmpf .olt main_v59 main_v60
  let main_c_23 : IVec S_ 1 := constantI S_ 1 1#1
  let main_v62 : IVec S_ 1 := (fun x v => Host.reduce IntOp.andi x v reducesTo_S1x1024x1024_S_d0_1_2 h_S_) main_v61 main_c_23
  let main_v63 : IVec S_ 1 := andi main_v58 main_v62
  main_v63

def fn_part2 {F : FTy → Type} [FloatOps F] (main_arg7 : FVec F S1x512 .f32) (main_arg8 : FVec F S1x512 .f32) (main_arg9 : FVec F S1x8x128x128 .f32) (main_arg10 : FVec F S1x8x128 .f32) (main_arg15 : FVec F S1x512 .f32) (main_arg17 : FVec F S1x1024x1024 .f32) (main_v33 : IVec S_ 1) : IVec S_ 1 :=
  let main_v34 : FVec F S1x512 .f32 := Host.absf main_arg7
  let main_cst_12 : FVec F S_ .f32 := constant S_ .f32 0x7F800000#32
  let main_v35 : FVec F S1x512 .f32 := broadcastInDim S1x512 ![] bcast_S_S1x512 main_cst_12
  let main_v36 : IVec S1x512 1 := cmpf .olt main_v34 main_v35
  let main_c_13 : IVec S_ 1 := constantI S_ 1 1#1
  let main_v37 : IVec S_ 1 := (fun x v => Host.reduce IntOp.andi x v reducesTo_S1x512_S_d0_1 h_S_) main_v36 main_c_13
  let main_v38 : IVec S_ 1 := andi main_v33 main_v37
  let main_v39 : FVec F S1x512 .f32 := Host.absf main_arg8
  let main_cst_14 : FVec F S_ .f32 := constant S_ .f32 0x7F800000#32
  let main_v40 : FVec F S1x512 .f32 := broadcastInDim S1x512 ![] bcast_S_S1x512 main_cst_14
  let main_v41 : IVec S1x512 1 := cmpf .olt main_v39 main_v40
  let main_c_15 : IVec S_ 1 := constantI S_ 1 1#1
  let main_v42 : IVec S_ 1 := (fun x v => Host.reduce IntOp.andi x v reducesTo_S1x512_S_d0_1 h_S_) main_v41 main_c_15
  let main_v43 : IVec S_ 1 := andi main_v38 main_v42
  let main_v44 : FVec F S1x8x128x128 .f32 := Host.absf main_arg9
  let main_cst_16 : FVec F S_ .f32 := constant S_ .f32 0x7F800000#32
  let main_v45 : FVec F S1x8x128x128 .f32 := broadcastInDim S1x8x128x128 ![] bcast_S_S1x8x128x128 main_cst_16
  let main_v46 : IVec S1x8x128x128 1 := cmpf .olt main_v44 main_v45
  let main_c_17 : IVec S_ 1 := constantI S_ 1 1#1
  let main_v47 : IVec S_ 1 := (fun x v => Host.reduce IntOp.andi x v reducesTo_S1x8x128x128_S_d0_1_2_3 h_S_) main_v46 main_c_17
  let main_v48 : IVec S_ 1 := andi main_v43 main_v47
  let main_v49 : FVec F S1x8x128 .f32 := Host.absf main_arg10
  let main_cst_18 : FVec F S_ .f32 := constant S_ .f32 0x7F800000#32
  let main_v50 : FVec F S1x8x128 .f32 := broadcastInDim S1x8x128 ![] bcast_S_S1x8x128 main_cst_18
  fn_part3 (F := F) main_arg15 main_arg17 main_v48 main_v49 main_v50

def fn_part1 {F : FTy → Type} [FloatOps F] (main_arg4 : FVec F S1x1024 .f32) (main_arg5 : FVec F S1x1024x2048 .f32) (main_arg6 : FVec F S1x2048 .f32) (main_arg7 : FVec F S1x512 .f32) (main_arg8 : FVec F S1x512 .f32) (main_arg9 : FVec F S1x8x128x128 .f32) (main_arg10 : FVec F S1x8x128 .f32) (main_arg15 : FVec F S1x512 .f32) (main_arg17 : FVec F S1x1024x1024 .f32) (main_v13 : IVec S_ 1) (main_v16 : IVec S1x8192 1) : IVec S_ 1 :=
  let main_c_5 : IVec S_ 1 := constantI S_ 1 1#1
  let main_v17 : IVec S_ 1 := (fun x v => Host.reduce IntOp.andi x v reducesTo_S1x8192_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024x2048 .f32 := Host.absf main_arg5
  let main_cst_8 : FVec F S_ .f32 := constant S_ .f32 0x7F800000#32
  let main_v25 : FVec F S1x1024x2048 .f32 := broadcastInDim S1x1024x2048 ![] bcast_S_S1x1024x2048 main_cst_8
  let main_v26 : IVec S1x1024x2048 1 := cmpf .olt main_v24 main_v25
  let main_c_9 : IVec S_ 1 := constantI S_ 1 1#1
  let main_v27 : IVec S_ 1 := (fun x v => Host.reduce IntOp.andi x v reducesTo_S1x1024x2048_S_d0_1_2 h_S_) main_v26 main_c_9
  let main_v28 : IVec S_ 1 := andi main_v23 main_v27
  let main_v29 : FVec F S1x2048 .f32 := Host.absf main_arg6
  let main_cst_10 : FVec F S_ .f32 := constant S_ .f32 0x7F800000#32
  let main_v30 : FVec F S1x2048 .f32 := broadcastInDim S1x2048 ![] bcast_S_S1x2048 main_cst_10
  let main_v31 : IVec S1x2048 1 := cmpf .olt main_v29 main_v30
  let main_c_11 : IVec S_ 1 := constantI S_ 1 1#1
  let main_v32 : IVec S_ 1 := (fun x v => Host.reduce IntOp.andi x v reducesTo_S1x2048_S_d0_1 h_S_) main_v31 main_c_11
  let main_v33 : IVec S_ 1 := andi main_v28 main_v32
  fn_part2 (F := F) main_arg7 main_arg8 main_arg9 main_arg10 main_arg15 main_arg17 main_v33

def fn {F : FTy → Type} [FloatOps F] (main_arg0 : FVec F S8192x1024 .f32) (main_arg1 : FVec F S8192x1024 .f32) (main_arg2 : FVec F S1x8192 .f32) (main_arg3 : FVec F S1x8192 .f32) (main_arg4 : FVec F S1x1024 .f32) (main_arg5 : FVec F S1x1024x2048 .f32) (main_arg6 : FVec F S1x2048 .f32) (main_arg7 : FVec F S1x512 .f32) (main_arg8 : FVec F S1x512 .f32) (main_arg9 : FVec F S1x8x128x128 .f32) (main_arg10 : FVec F S1x8x128 .f32) (main_arg11 : FVec F S1x31x512 .f32) (main_arg12 : FVec F S1x512 .f32) (main_arg13 : FVec F S1x512 .f32) (main_arg14 : FVec F S1x512 .f32) (main_arg15 : FVec F S1x512 .f32) (main_arg16 : FVec F S1x512 .f32) (main_arg17 : FVec F S1x1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x8192 .f32 := Host.absf main_arg2
  let main_cst_2 : FVec F S_ .f32 := constant S_ .f32 0x7F800000#32
  let main_v10 : FVec F S1x8192 .f32 := broadcastInDim S1x8192 ![] bcast_S_S1x8192 main_cst_2
  let main_v11 : IVec S1x8192 1 := cmpf .olt main_v9 main_v10
  let main_c_3 : IVec S_ 1 := constantI S_ 1 1#1
  let main_v12 : IVec S_ 1 := (fun x v => Host.reduce IntOp.andi x v reducesTo_S1x8192_S_d0_1 h_S_) main_v11 main_c_3
  let main_v13 : IVec S_ 1 := andi main_v8 main_v12
  let main_v14 : FVec F S1x8192 .f32 := Host.absf main_arg3
  let main_cst_4 : FVec F S_ .f32 := constant S_ .f32 0x7F800000#32
  let main_v15 : FVec F S1x8192 .f32 := broadcastInDim S1x8192 ![] bcast_S_S1x8192 main_cst_4
  let main_v16 : IVec S1x8192 1 := cmpf .olt main_v14 main_v15
  fn_part1 (F := F) main_arg4 main_arg5 main_arg6 main_arg7 main_arg8 main_arg9 main_arg10 main_arg15 main_arg17 main_v13 main_v16
-- ==== Kernel.lean ====
abbrev S8192x1024 : Shape := ⟨2, ![8192, 1024]⟩
abbrev S1x8192 : Shape := ⟨2, ![1, 8192]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩
abbrev S8192x2816 : Shape := ⟨2, ![8192, 2816]⟩
abbrev S2816x1024 : Shape := ⟨2, ![2816, 1024]⟩
abbrev S8x1024 : Shape := ⟨2, ![8, 1024]⟩
abbrev S2048x1408 : Shape := ⟨2, ![2048, 1408]⟩
abbrev S2048x1024 : Shape := ⟨2, ![2048, 1024]⟩
abbrev S1408x1024 : Shape := ⟨2, ![1408, 1024]⟩
abbrev S1024 : Shape := ⟨1, ![1024]⟩

abbrev nBuf : Space → Nat
  | .hbm => 59
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x8192, .f32⟩
  | .hbm, ⟨3, _⟩ => ⟨S1x8192, .f32⟩
  | .hbm, ⟨4, _⟩ => ⟨S1x1024, .f32⟩
  | .hbm, ⟨5, _⟩ => ⟨S1x1024x5632, .f32⟩
  | .hbm, ⟨6, _⟩ => ⟨S1x2816x1024, .f32⟩
  | .hbm, ⟨7, _⟩ => ⟨S1x8192, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S1024x5632, .f32⟩
  | .hbm, ⟨39, _⟩ => ⟨S8192x5632, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S_, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .bf16⟩
  | .hbm, ⟨53, _⟩ => ⟨S2816x1024, .f32⟩
  | .hbm, ⟨54, _⟩ => ⟨S2816x1024, .bf16⟩
  | .hbm, ⟨55, _⟩ => ⟨S1x8192, .f32⟩
  | .hbm, ⟨56, _⟩ => ⟨S1x1024, .f32⟩
  | .hbm, ⟨57, _⟩ => ⟨S2816x1024, .bf16⟩
  | .hbm, ⟨58, _⟩ => ⟨S8x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | .local _ .vmem, ⟨9, _⟩ => ⟨S8x1024, .f32⟩
  | .local _ .vmem, ⟨10, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38_0 : Ref sig .tc := ⟨.hbm, 57, rfl⟩
abbrev main_v38_1 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_6 : BitVec 32 := 0#32
  let v17 : BitVec 1 := Scalar.cmpi .ne v16 c0_i32_6
  v17

def k0_cond4 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c4_i32 : BitVec 32 := 4#32
  let v2 : BitVec 32 := Scalar.muli v1 c4_i32
  let arg2 : BitVec 32 := BitVec.ofNat 32 (i 2).val
  let v3 : BitVec 32 := Scalar.addi v2 arg2
  let c3_i32_9 : BitVec 32 := 3#32
  let v19 : BitVec 1 := Scalar.cmpi .eq v3 c3_i32_9
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]
-- ==== ReferenceIdeal.lean ====
abbrev S8192x1024 : Shape := ⟨2, ![8192, 1024]⟩
abbrev S1x8192 : Shape := ⟨2, ![1, 8192]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩
abbrev S8192x2816 : Shape := ⟨2, ![8192, 2816]⟩
abbrev S2816x1024 : Shape := ⟨2, ![2816, 1024]⟩
abbrev S1024 : Shape := ⟨1, ![1024]⟩
abbrev S1024x2816 : Shape := ⟨2, ![1024, 2816]⟩
abbrev S7x1024 : Shape := ⟨2, ![7, 1024]⟩
abbrev S8x1024 : Shape := ⟨2, ![8, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x8192, .f32⟩
  | .hbm, ⟨3, _⟩ => ⟨S1x8192, .f32⟩
  | .hbm, ⟨4, _⟩ => ⟨S1x1024, .f32⟩
  | .hbm, ⟨5, _⟩ => ⟨S1x1024x5632, .f32⟩
  | .hbm, ⟨6, _⟩ => ⟨S1x2816x1024, .f32⟩
  | .hbm, ⟨7, _⟩ => ⟨S1x8192, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S1024x5632, .f32⟩
  | .hbm, ⟨39, _⟩ => ⟨S8192x5632, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S_, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S2816x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S1024x2816, .f32⟩
  | .hbm, ⟨63, _⟩ => ⟨S2816x1024, .f32⟩
  | .hbm, ⟨64, _⟩ => ⟨S2816x1024, .bf16⟩
  | .hbm, ⟨65, _⟩ => ⟨S_, .f32⟩
  | .hbm, ⟨66, _⟩ => ⟨S7x1024, .f32⟩
  | .hbm, ⟨67, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_3 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_4 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]
-- ==== Kernel2.lean ====
abbrev S8192x1024 : Shape := ⟨2, ![8192, 1024]⟩
abbrev S1x8192 : Shape := ⟨2, ![1, 8192]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S8x1024 : Shape := ⟨2, ![8, 1024]⟩
abbrev S512x1024 : Shape := ⟨2, ![512, 1024]⟩
abbrev S512x2816 : Shape := ⟨2, ![512, 2816]⟩
abbrev S512x5632 : Shape := ⟨2, ![512, 5632]⟩
abbrev S256x1024 : Shape := ⟨2, ![256, 1024]⟩
abbrev S1408x1024 : Shape := ⟨2, ![1408, 1024]⟩
abbrev S256x1408 : Shape := ⟨2, ![256, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩
abbrev S1024 : Shape := ⟨1, ![1024]⟩

abbrev nBuf : Space → Nat
  | .hbm => 52
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x8192, .f32⟩
  | .hbm, ⟨3, _⟩ => ⟨S1x8192, .f32⟩
  | .hbm, ⟨4, _⟩ => ⟨S1x1024, .f32⟩
  | .hbm, ⟨5, _⟩ => ⟨S1x1024x5632, .f32⟩
  | .hbm, ⟨6, _⟩ => ⟨S1x2816x1024, .f32⟩
  | .hbm, ⟨7, _⟩ => ⟨S1024x5632, .f32⟩
  | .hbm, ⟨8, _⟩ => ⟨S1024x5632, .bf16⟩
  | .hbm, ⟨9, _⟩ => ⟨S1024x4x1408, .bf16⟩
  | .hbm, ⟨10, _⟩ => ⟨S4x1024x1408, .bf16⟩
  | .hbm, ⟨11, _⟩ => ⟨S2816x1024, .f32⟩
  | .hbm, ⟨12, _⟩ => ⟨S2816x1024, .bf16⟩
  | .hbm, ⟨13, _⟩ => ⟨S1x8192, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S1024x5632, .f32⟩
  | .hbm, ⟨45, _⟩ => ⟨S8192x5632, .f32⟩
  | .hbm, ⟨46, _⟩ => ⟨S8192x5632, .bf16⟩
  | .hbm, ⟨47, _⟩ => ⟨S8192x2816, .bf16⟩
  | .hbm, ⟨48, _⟩ => ⟨S8192x2816, .bf16⟩
  | .hbm, ⟨49, _⟩ => ⟨S8192x5632, .bf16⟩
  | .hbm, ⟨50, _⟩ => ⟨S8192x1024, .f32⟩
  | .hbm, ⟨51, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S1x8192, .f32⟩
  | .local _ .vmem, ⟨9, _⟩ => ⟨S1x8192, .f32⟩
  | .local _ .vmem, ⟨10, _⟩ => ⟨S1x1024, .f32⟩
  | .local _ .vmem, ⟨11, _⟩ => ⟨S4x1024x1408, .bf16⟩
  | .local _ .vmem, ⟨12, _⟩ => ⟨S2816x1024, .bf16⟩
  | .local _ .vmem, ⟨13, _⟩ => ⟨S512x5632, .bf16⟩
  | .local _ .vmem, ⟨14, _⟩ => ⟨S512x5632, .bf16⟩
  | .local _ .vmem, ⟨15, _⟩ => ⟨S512x1024, .f32⟩
  | .local _ .vmem, ⟨16, _⟩ => ⟨S512x1024, .f32⟩
  | .local _ .vmem, ⟨17, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38_0 : Ref sig .tc := ⟨.hbm, 49, rfl⟩
abbrev main_v38_1 : Ref sig .tc := ⟨.hbm, 50, rfl⟩
abbrev main_v38_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x1408 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S8192x1024 : Shape := ⟨2, ![8192, 1024]⟩
abbrev S1x8192 : Shape := ⟨2, ![1, 8192]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩
abbrev S8192x2816 : Shape := ⟨2, ![8192, 2816]⟩
abbrev S2816x1024 : Shape := ⟨2, ![2816, 1024]⟩
abbrev S1024 : Shape := ⟨1, ![1024]⟩
abbrev S5x1024 : Shape := ⟨2, ![5, 1024]⟩
abbrev S8x1024 : Shape := ⟨2, ![8, 1024]⟩

abbrev nBuf : Space → Nat
  | .hbm => 112
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x8192, .f32⟩
  | .hbm, ⟨3, _⟩ => ⟨S1x8192, .f32⟩
  | .hbm, ⟨4, _⟩ => ⟨S1x1024, .f32⟩
  | .hbm, ⟨5, _⟩ => ⟨S1x1024x5632, .f32⟩
  | .hbm, ⟨6, _⟩ => ⟨S1x2816x1024, .f32⟩
  | .hbm, ⟨7, _⟩ => ⟨S1x8192, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S1024x5632, .f32⟩
  | .hbm, ⟨43, _⟩ => ⟨S8192x5632, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S_, .f32⟩
  | .hbm, ⟨49, _⟩ => ⟨S8192x2816, .f32⟩
  | .hbm, ⟨50, _⟩ => ⟨S8192x2816, .f32⟩
  | .hbm, ⟨51, _⟩ => ⟨S_, .f32⟩
  | .hbm, ⟨52, _⟩ => ⟨S8192x2816, .f32⟩
  | .hbm, ⟨53, _⟩ => ⟨S8192x2816, .f32⟩
  | .hbm, ⟨54, _⟩ => ⟨S_, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S2816x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x2816, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S8192x2816, .f32⟩
  | .hbm, ⟨72, _⟩ => ⟨S8192x2816, .f32⟩
  | .hbm, ⟨73, _⟩ => ⟨S8192x5632, .f32⟩
  | .hbm, ⟨74, _⟩ => ⟨S8192x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S8192x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S_, .f32⟩
  | .hbm, ⟨92, _⟩ => ⟨S8192, .f32⟩
  | .hbm, ⟨93, _⟩ => ⟨S8192x1, .f32⟩
  | .hbm, ⟨94, _⟩ => ⟨S8192x1024, .f32⟩
  | .hbm, ⟨95, _⟩ => ⟨S8192x1024, .f32⟩
  | .hbm, ⟨96, _⟩ => ⟨S8192x1, .f32⟩
  | .hbm, ⟨97, _⟩ => ⟨S_, .f32⟩
  | .hbm, ⟨98, _⟩ => ⟨S8192x1, .f32⟩
  | .hbm, ⟨99, _⟩ => ⟨S8192x1, .f32⟩
  | .hbm, ⟨100, _⟩ => ⟨S_, .f32⟩
  | .hbm, ⟨101, _⟩ => ⟨S8192, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x5632, .bf16⟩
  | .hbm, ⟨108, _⟩ => ⟨S8192x1024, .f32⟩
  | .hbm, ⟨109, _⟩ => ⟨S_, .f32⟩
  | .hbm, ⟨110, _⟩ => ⟨S5x1024, .f32⟩
  | .hbm, ⟨111, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_v34_2 : Ref sig .tc := ⟨.hbm, 53, rfl⟩
abbrev main_call0_cst_1 : Ref sig .tc := ⟨.hbm, 54, rfl⟩
abbrev main_call0_v6 : Ref sig .tc := ⟨.hbm, 55, rfl⟩
abbrev main_call0_v7 : Ref sig .tc := ⟨.hbm, 56, rfl⟩
abbrev main_v34_1 : Ref sig .tc := ⟨.hbm, 57, rfl⟩
abbrev main_v34_0 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_4 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_5 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_6 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_7 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_8 : Ref sig .tc := ⟨.hbm, 97, rfl⟩
abbrev main_v66 : Ref sig .tc := ⟨.hbm, 98, rfl⟩
abbrev main_v67 : Ref sig .tc := ⟨.hbm, 99, rfl⟩
abbrev main_cst_9 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_10 : Ref sig .tc := ⟨.hbm, 109, rfl⟩
abbrev main_v76 : Ref sig .tc := ⟨.hbm, 110, rfl⟩
abbrev main_v77 : Ref sig .tc := ⟨.hbm, 111, rfl⟩

abbrev nD : Nat := 1
abbrev τ : Topo := Topo.v7x

variable {F : FTy → Type} [FloatOps F]
-- ==== Kernel3.lean ====
abbrev S8192x1024 : Shape := ⟨2, ![8192, 1024]⟩
abbrev S1x8192 : Shape := ⟨2, ![1, 8192]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2816x1024 : Shape := ⟨2, ![2816, 1024]⟩
abbrev S8192x2816 : Shape := ⟨2, ![8192, 2816]⟩
abbrev S8x1024 : Shape := ⟨2, ![8, 1024]⟩
abbrev S512x1024 : Shape := ⟨2, ![512, 1024]⟩
abbrev S512x2816 : Shape := ⟨2, ![512, 2816]⟩
abbrev S256x1024 : Shape := ⟨2, ![256, 1024]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S1408x1024 : Shape := ⟨2, ![1408, 1024]⟩
abbrev S1024 : Shape := ⟨1, ![1024]⟩
abbrev S1 : Shape := ⟨1, ![1]⟩
abbrev S1x1 : Shape := ⟨2, ![1, 1]⟩

abbrev nBuf : Space → Nat
  | .hbm => 20
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x8192, .f32⟩
  | .hbm, ⟨3, _⟩ => ⟨S1x8192, .f32⟩
  | .hbm, ⟨4, _⟩ => ⟨S1x1024, .f32⟩
  | .hbm, ⟨5, _⟩ => ⟨S1x1024, .f32⟩
  | .hbm, ⟨6, _⟩ => ⟨S1x1024x5632, .f32⟩
  | .hbm, ⟨7, _⟩ => ⟨S1x2816x1024, .f32⟩
  | .hbm, ⟨8, _⟩ => ⟨S1024x5632, .f32⟩
  | .hbm, ⟨9, _⟩ => ⟨S1024x5632, .bf16⟩
  | .hbm, ⟨10, _⟩ => ⟨S1024x4x1408, .bf16⟩
  | .hbm, ⟨11, _⟩ => ⟨S4x1024x1408, .bf16⟩
  | .hbm, ⟨12, _⟩ => ⟨S2816x1024, .f32⟩
  | .hbm, ⟨13, _⟩ => ⟨S2816x1024, .bf16⟩
  | .hbm, ⟨14, _⟩ => ⟨S8192x2816, .bf16⟩
  | .hbm, ⟨15, _⟩ => ⟨S8192x2816, .bf16⟩
  | .hbm, ⟨16, _⟩ => ⟨S8192x2816, .bf16⟩
  | .hbm, ⟨17, _⟩ => ⟨S8192x1024, .bf16⟩
  | .hbm, ⟨18, _⟩ => ⟨S8192x1024, .f32⟩
  | .hbm, ⟨19, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x8192, .f32⟩
  | .local _ .vmem, ⟨5, _⟩ => ⟨S1x8192, .f32⟩
  | .local _ .vmem, ⟨6, _⟩ => ⟨S1x1024, .f32⟩
  | .local _ .vmem, ⟨7, _⟩ => ⟨S1x1024, .f32⟩
  | .local _ .vmem, ⟨8, _⟩ => ⟨S4x1024x1408, .bf16⟩
  | .local _ .vmem, ⟨9, _⟩ => ⟨S2816x1024, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1408 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference3Ideal.lean ====
abbrev S8192x1024 : Shape := ⟨2, ![8192, 1024]⟩
abbrev S1x8192 : Shape := ⟨2, ![1, 8192]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩
abbrev S8192x2816 : Shape := ⟨2, ![8192, 2816]⟩
abbrev S2816x1024 : Shape := ⟨2, ![2816, 1024]⟩
abbrev S1024 : Shape := ⟨1, ![1024]⟩
abbrev S3x1024 : Shape := ⟨2, ![3, 1024]⟩
abbrev S8x1024 : Shape := ⟨2, ![8, 1024]⟩

abbrev nBuf : Space → Nat
  | .hbm => 174
  | .vmem => 0
  | .smem => 0
  | _ => 0

abbrev hbmTy0_0 (i : Nat) : BufTy := match i % 128 with
  | 0 => ⟨S8192x1024, .f32⟩
  | 1 => ⟨S8192x1024, .f32⟩
  | 2 => ⟨S1x8192, .f32⟩
  | 3 => ⟨S1x8192, .f32⟩
  | 4 => ⟨S1x1024, .f32⟩
  | 5 => ⟨S1x1024, .f32⟩
  | 6 => ⟨S1x1024x5632, .f32⟩
  | 7 => ⟨S1x2816x1024, .f32⟩
  | 8 => ⟨S1x8192, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S8192x1024, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x1, .f32⟩
  | 28 => ⟨S8192x1024, .f32⟩
  | 29 => ⟨S8192x1024, .f32⟩
  | 30 => ⟨S8192x1024, .f32⟩
  | 31 => ⟨S8192x1024, .f32⟩
  | 32 => ⟨S_, .f32⟩
  | 33 => ⟨S1x1024, .f32⟩
  | 34 => ⟨S1x1024, .f32⟩
  | 35 => ⟨S8192x1024, .f32⟩
  | 36 => ⟨S8192x1024, .f32⟩
  | 37 => ⟨S8192x1024, .f32⟩
  | 38 => ⟨S8192x1024, .f32⟩
  | 39 => ⟨S1024x5632, .f32⟩
  | 40 => ⟨S8192x5632, .f32⟩
  | 41 => ⟨S8192x2816, .f32⟩
  | 42 => ⟨S8192x2816, .f32⟩
  | 43 => ⟨S8192x2816, .f32⟩
  | 44 => ⟨S8192x2816, .f32⟩
  | 45 => ⟨S_, .f32⟩
  | 46 => ⟨S8192x2816, .f32⟩
  | 47 => ⟨S8192x2816, .f32⟩
  | 48 => ⟨S_, .f32⟩
  | 49 => ⟨S8192x2816, .f32⟩
  | 50 => ⟨S8192x2816, .f32⟩
  | 51 => ⟨S8192x2816, .f32⟩
  | 52 => ⟨S8192x2816, .f32⟩
  | 53 => ⟨S2816x1024, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S_, .f32⟩
  | 60 => ⟨S8192, .f32⟩
  | 61 => ⟨S8192x1, .f32⟩
  | 62 => ⟨S_, .f32⟩
  | 63 => ⟨S8192x1, .f32⟩
  | 64 => ⟨S8192x1, .f32⟩
  | 65 => ⟨S_, .f32⟩
  | 66 => ⟨S8192x1, .f32⟩
  | 67 => ⟨S8192x1, .f32⟩
  | 68 => ⟨S8192x1, .f32⟩
  | 69 => ⟨S8192x1, .f32⟩
  | 70 => ⟨S_, .f32⟩
  | 71 => ⟨S8192x1, .f32⟩
  | 72 => ⟨S8192x1, .f32⟩
  | 73 => ⟨S8192x1024, .f32⟩
  | 74 => ⟨S8192x1024, .f32⟩
  | 75 => ⟨S8192x1024, .f32⟩
  | 76 => ⟨S8192x1024, .f32⟩
  | 77 => ⟨S_, .f32⟩
  | 78 => ⟨S1x1024, .f32⟩
  | 79 => ⟨S1x1024, .f32⟩
  | 80 => ⟨S8192x1024, .f32⟩
  | 81 => ⟨S8192x1024, .f32⟩
  | 82 => ⟨S8192x1024, .f32⟩
  | 83 => ⟨S8192x1024, .f32⟩
  | 84 => ⟨S8192x1024, .f32⟩
  | 85 => ⟨S8192x1024, .f32⟩
  | 86 => ⟨S_, .f32⟩
  | 87 => ⟨S8192x1024, .f32⟩
  | 88 => ⟨S8192x1024, .f32⟩
  | 89 => ⟨S_, .f32⟩
  | 90 => ⟨S8192, .f32⟩
  | 91 => ⟨S_, .f32⟩
  | 92 => ⟨S8192, .f32⟩
  | 93 => ⟨S8192, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S8192, .f32⟩
  | 102 => ⟨S_, .f32⟩
  | 103 => ⟨S8192, .f32⟩
  | 104 => ⟨S8192, .f32⟩
  | 105 => ⟨S8192x1024, .f32⟩
  | 106 => ⟨S8192x1024, .f32⟩
  | 107 => ⟨S_, .f32⟩
  | 108 => ⟨S1024, .f32⟩
  | 109 => ⟨S1x1024, .f32⟩
  | 110 => ⟨S8192x1024, .f32⟩
  | 111 => ⟨S_, .f32⟩
  | 112 => ⟨S1024, .f32⟩
  | 113 => ⟨S1x1024, .f32⟩
  | 114 => ⟨S8192x1024, .f32⟩
  | 115 => ⟨S8192x1024, .f32⟩
  | 116 => ⟨S8192x1024, .f32⟩
  | 117 => ⟨S_, .f32⟩
  | 118 => ⟨S1024, .f32⟩
  | 119 => ⟨S1x1024, .f32⟩
  | 120 => ⟨S8192x1024, .f32⟩
  | 121 => ⟨S8192x1024, .f32⟩
  | 122 => ⟨S8192x1024, .f32⟩
  | 123 => ⟨S_, .f32⟩
  | 124 => ⟨S8192, .f32⟩
  | 125 => ⟨S8192x1, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1, .f32⟩
  | 1 => ⟨S_, .f32⟩
  | 2 => ⟨S8192x1, .f32⟩
  | 3 => ⟨S8192x1, .f32⟩
  | 4 => ⟨S_, .f32⟩
  | 5 => ⟨S8192, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1024, .f32⟩
  | 23 => ⟨S8192x1024, .f32⟩
  | 24 => ⟨S8192x1024, .f32⟩
  | 25 => ⟨S8192x1024, .f32⟩
  | 26 => ⟨S_, .f32⟩
  | 27 => ⟨S1x1024, .f32⟩
  | 28 => ⟨S1x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S_, .f32⟩
  | 36 => ⟨S1024, .f32⟩
  | 37 => ⟨S1x1024, .f32⟩
  | 38 => ⟨S1x1024, .f32⟩
  | 39 => ⟨S_, .f32⟩
  | 40 => ⟨S3x1024, .f32⟩
  | 41 => ⟨S8x1024, .f32⟩
  | 42 => ⟨S8192x2816, .bf16⟩
  | 43 => ⟨S8192x2816, .bf16⟩
  | 44 => ⟨S8192x2816, .bf16⟩
  | 45 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_3 : Ref sig .tc := ⟨.hbm, 59, rfl⟩
abbrev main_v39 : Ref sig .tc := ⟨.hbm, 60, rfl⟩
abbrev main_v40 : Ref sig .tc := ⟨.hbm, 61, rfl⟩
abbrev main_cst_4 : Ref sig .tc := ⟨.hbm, 62, rfl⟩
abbrev main_v41 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_6 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_7 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_8 : Ref sig .tc := ⟨.hbm, 86, rfl⟩
abbrev main_v61 : Ref sig .tc := ⟨.hbm, 87, rfl⟩
abbrev main_v62 : Ref sig .tc := ⟨.hbm, 88, rfl⟩
abbrev main_cst_9 : Ref sig .tc := ⟨.hbm, 89, rfl⟩
abbrev main_v63 : Ref sig .tc := ⟨.hbm, 90, rfl⟩
abbrev main_cst_10 : Ref sig .tc := ⟨.hbm, 91, rfl⟩
abbrev main_v64 : Ref sig .tc := ⟨.hbm, 92, rfl⟩
abbrev main_v65 : Ref sig .tc := ⟨.hbm, 93, rfl⟩
abbrev main_cst_11 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_cst_13 : Ref sig .tc := ⟨.hbm, 98, rfl⟩
abbrev main_cst_14 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_16 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_17 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_18 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_19 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_20 : Ref sig .tc := ⟨.hbm, 129, rfl⟩
abbrev main_v92 : Ref sig .tc := ⟨.hbm, 130, rfl⟩
abbrev main_v93 : Ref sig .tc := ⟨.hbm, 131, rfl⟩
abbrev main_cst_21 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_22 : Ref sig .tc := ⟨.hbm, 140, rfl⟩
abbrev main_v101 : Ref sig .tc := ⟨.hbm, 141, rfl⟩
abbrev main_v102 : Ref sig .tc := ⟨.hbm, 142, rfl⟩
abbrev main_cst_23 : Ref sig .tc := ⟨.hbm, 143, rfl⟩
abbrev main_v103 : Ref sig .tc := ⟨.hbm, 144, rfl⟩
abbrev main_v104 : Ref sig .tc := ⟨.hbm, 145, rfl⟩
abbrev main_cst_24 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_25 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_cst_26 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_27 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩

abbrev nD : Nat := 1
abbrev τ : Topo := Topo.v7x

variable {F : FTy → Type} [FloatOps F]
-- ==== Kernel4.lean ====
abbrev S8192x1024 : Shape := ⟨2, ![8192, 1024]⟩
abbrev S1x8192 : Shape := ⟨2, ![1, 8192]⟩
abbrev S1x1024 : Shape := ⟨2, ![1, 1024]⟩
abbrev S1x1024x2048 : Shape := ⟨3, ![1, 1024, 2048]⟩
abbrev S1x2048 : Shape := ⟨2, ![1, 2048]⟩
abbrev S1x512 : Shape := ⟨2, ![1, 512]⟩
abbrev S1x8x128x128 : Shape := ⟨4, ![1, 8, 128, 128]⟩
abbrev S1x8x128 : Shape := ⟨3, ![1, 8, 128]⟩
abbrev S1x31x512 : Shape := ⟨3, ![1, 31, 512]⟩
abbrev S1x1024x1024 : Shape := ⟨3, ![1, 1024, 1024]⟩
abbrev S_ : Shape := ⟨0, ![]⟩
abbrev S8192 : Shape := ⟨1, ![8192]⟩
abbrev S8192x1 : Shape := ⟨2, ![8192, 1]⟩
abbrev S1024x2048 : Shape := ⟨2, ![1024, 2048]⟩
abbrev S8192x2048 : Shape := ⟨2, ![8192, 2048]⟩
abbrev S8192x512 : Shape := ⟨2, ![8192, 512]⟩
abbrev S31x512 : Shape := ⟨2, ![31, 512]⟩
abbrev S8222x512 : Shape := ⟨2, ![8222, 512]⟩
abbrev S1x8222x512 : Shape := ⟨3, ![1, 8222, 512]⟩
abbrev S32x8222x512 : Shape := ⟨3, ![32, 8222, 512]⟩
abbrev S263104x512 : Shape := ⟨2, ![263104, 512]⟩
abbrev S254913x512 : Shape := ⟨2, ![254913, 512]⟩
abbrev S31x8223x512 : Shape := ⟨3, ![31, 8223, 512]⟩
abbrev S31x8192x512 : Shape := ⟨3, ![31, 8192, 512]⟩
abbrev S31x1x512 : Shape := ⟨3, ![31, 1, 512]⟩
abbrev S1024x4x512 : Shape := ⟨3, ![1024, 4, 512]⟩
abbrev S4x1024x512 : Shape := ⟨3, ![4, 1024, 512]⟩
abbrev S128x128 : Shape := ⟨2, ![128, 128]⟩
abbrev S1x128x128 : Shape := ⟨3, ![1, 128, 128]⟩
abbrev S8x128x128 : Shape := ⟨3, ![8, 128, 128]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S32x512 : Shape := ⟨2, ![32, 512]⟩
abbrev S1024x1024 : Shape := ⟨2, ![1024, 1024]⟩
abbrev S8x1024 : Shape := ⟨2, ![8, 1024]⟩
abbrev S8x2048 : Shape := ⟨2, ![8, 2048]⟩
abbrev S8x512 : Shape := ⟨2, ![8, 512]⟩
abbrev S256x1024 : Shape := ⟨2, ![256, 1024]⟩
abbrev S256x2048 : Shape := ⟨2, ![256, 2048]⟩
abbrev S256x512 : Shape := ⟨2, ![256, 512]⟩
abbrev S288x512 : Shape := ⟨2, ![288, 512]⟩
abbrev S7x280x512 : Shape := ⟨3, ![7, 280, 512]⟩
abbrev S512x1024 : Shape := ⟨2, ![512, 1024]⟩
abbrev S256 : Shape := ⟨1, ![256]⟩
abbrev S256x1 : Shape := ⟨2, ![256, 1]⟩
abbrev S256x128 : Shape := ⟨2, ![256, 128]⟩
abbrev S512 : Shape := ⟨1, ![512]⟩
abbrev S280x512 : Shape := ⟨2, ![280, 512]⟩
abbrev S1x280x512 : Shape := ⟨3, ![1, 280, 512]⟩
abbrev S64x128 : Shape := ⟨2, ![64, 128]⟩
abbrev S1x128 : Shape := ⟨2, ![1, 128]⟩
abbrev S8x8x128 : Shape := ⟨3, ![8, 8, 128]⟩
abbrev S1x64x128 : Shape := ⟨3, ![1, 64, 128]⟩
abbrev S128 : Shape := ⟨1, ![128]⟩
abbrev S1x1024x512 : Shape := ⟨3, ![1, 1024, 512]⟩
abbrev S1024x512 : Shape := ⟨2, ![1024, 512]⟩
abbrev S1024 : Shape := ⟨1, ![1024]⟩
abbrev S128x1 : Shape := ⟨2, ![128, 1]⟩

abbrev nBuf : Space → Nat
  | .hbm => 148
  | .vmem => 37
  | .smem => 0
  | _ => 0

abbrev hbmTy0_0 (i : Nat) : BufTy := match i % 128 with
  | 0 => ⟨S8192x1024, .f32⟩
  | 1 => ⟨S8192x1024, .f32⟩
  | 2 => ⟨S1x8192, .f32⟩
  | 3 => ⟨S1x8192, .f32⟩
  | 4 => ⟨S1x1024, .f32⟩
  | 5 => ⟨S1x1024x2048, .f32⟩
  | 6 => ⟨S1x2048, .f32⟩
  | 7 => ⟨S1x512, .f32⟩
  | 8 => ⟨S1x512, .f32⟩
  | 9 => ⟨S1x8x128x128, .f32⟩
  | 10 => ⟨S1x8x128, .f32⟩
  | 11 => ⟨S1x31x512, .f32⟩
  | 12 => ⟨S1x512, .f32⟩
  | 13 => ⟨S1x512, .f32⟩
  | 14 => ⟨S1x512, .f32⟩
  | 15 => ⟨S1x512, .f32⟩
  | 16 => ⟨S1x512, .f32⟩
  | 17 => ⟨S1x1024x1024, .f32⟩
  | 18 => ⟨S1x8192, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S1x1024, .f32⟩
  | 25 => ⟨S1x1024, .f32⟩
  | 26 => ⟨S1x1024, .f32⟩
  | 27 => ⟨S8192x1024, .f32⟩
  | 28 => ⟨S_, .f32⟩
  | 29 => ⟨S8192, .f32⟩
  | 30 => ⟨S8192x1, .f32⟩
  | 31 => ⟨S_, .f32⟩
  | 32 => ⟨S8192x1, .f32⟩
  | 33 => ⟨S8192x1, .f32⟩
  | 34 => ⟨S_, .f32⟩
  | 35 => ⟨S8192x1, .f32⟩
  | 36 => ⟨S8192x1, .f32⟩
  | 37 => ⟨S8192x1, .f32⟩
  | 38 => ⟨S8192x1024, .f32⟩
  | 39 => ⟨S8192x1024, .f32⟩
  | 40 => ⟨S8192x1024, .f32⟩
  | 41 => ⟨S8192x1024, .f32⟩
  | 42 => ⟨S_, .f32⟩
  | 43 => ⟨S1x1024, .f32⟩
  | 44 => ⟨S1x1024, .f32⟩
  | 45 => ⟨S8192x1024, .f32⟩
  | 46 => ⟨S8192x1024, .f32⟩
  | 47 => ⟨S8192x1024, .f32⟩
  | 48 => ⟨S8192x1024, .f32⟩
  | 49 => ⟨S1024x2048, .f32⟩
  | 50 => ⟨S8192x2048, .f32⟩
  | 51 => ⟨S8192x2048, .f32⟩
  | 52 => ⟨S8192x2048, .f32⟩
  | 53 => ⟨S8192x512, .f32⟩
  | 54 => ⟨S8192x512, .f32⟩
  | 55 => ⟨S8192x512, .f32⟩
  | 56 => ⟨S8192x512, .f32⟩
  | 57 => ⟨S_, .f32⟩
  | 58 => ⟨S8192x512, .f32⟩
  | 59 => ⟨S8192x512, .f32⟩
  | 60 => ⟨S_, .f32⟩
  | 61 => ⟨S8192x512, .f32⟩
  | 62 => ⟨S8192x512, .f32⟩
  | 63 => ⟨S8192x512, .f32⟩
  | 64 => ⟨S31x512, .f32⟩
  | 65 => ⟨S_, .i32⟩
  | 66 => ⟨S_, .f32⟩
  | 67 => ⟨S8222x512, .f32⟩
  | 68 => ⟨S1x8222x512, .f32⟩
  | 69 => ⟨S32x8222x512, .f32⟩
  | 70 => ⟨S263104x512, .f32⟩
  | 71 => ⟨S254913x512, .f32⟩
  | 72 => ⟨S31x8223x512, .f32⟩
  | 73 => ⟨S31x8192x512, .f32⟩
  | 74 => ⟨S31x1x512, .f32⟩
  | 75 => ⟨S31x8192x512, .f32⟩
  | 76 => ⟨S31x8192x512, .f32⟩
  | 77 => ⟨S_, .f32⟩
  | 78 => ⟨S8192x512, .f32⟩
  | 79 => ⟨S8192x512, .f32⟩
  | 80 => ⟨S8192x512, .f32⟩
  | 81 => ⟨S1024x2048, .f32⟩
  | 82 => ⟨S1024x2048, .bf16⟩
  | 83 => ⟨S1024x4x512, .bf16⟩
  | 84 => ⟨S4x1024x512, .bf16⟩
  | 85 => ⟨S_, .i1⟩
  | 86 => ⟨S128x128, .i1⟩
  | 87 => ⟨S128x128, .i32⟩
  | 88 => ⟨S_, .i32⟩
  | 89 => ⟨S128x128, .i32⟩
  | 90 => ⟨S128x128, .i32⟩
  | 91 => ⟨S128x128, .i32⟩
  | 92 => ⟨S128x128, .i1⟩
  | 93 => ⟨S_, .i1⟩
  | 94 => ⟨S128x128, .i1⟩
  | 95 => ⟨S128x128, .i1⟩
  | 96 => ⟨S1x128x128, .i1⟩
  | 97 => ⟨S8x128x128, .f32⟩
  | 98 => ⟨S_, .f32⟩
  | 99 => ⟨S_, .f32⟩
  | 100 => ⟨S8x128x128, .i1⟩
  | 101 => ⟨S8x128x128, .f32⟩
  | 102 => ⟨S8x128x128, .f32⟩
  | 103 => ⟨S8x128x128, .bf16⟩
  | 104 => ⟨S8x128x128, .f32⟩
  | 105 => ⟨S8x128x128, .bf16⟩
  | 106 => ⟨S8x128, .f32⟩
  | 107 => ⟨S128x8, .f32⟩
  | 108 => ⟨S128x8x64, .f32⟩
  | 109 => ⟨S128x512, .f32⟩
  | 110 => ⟨S31x512, .f32⟩
  | 111 => ⟨S_, .i32⟩
  | 112 => ⟨S_, .f32⟩
  | 113 => ⟨S32x512, .f32⟩
  | 114 => ⟨S1024x1024, .f32⟩
  | 115 => ⟨S1024x1024, .bf16⟩
  | 116 => ⟨S8192x1024, .f32⟩
  | 117 => ⟨S8192x2048, .bf16⟩
  | 118 => ⟨S8x1024, .f32⟩
  | 119 => ⟨S8x2048, .f32⟩
  | 120 => ⟨S8x512, .f32⟩
  | 121 => ⟨S32x512, .f32⟩
  | 122 => ⟨S8x128x128, .f32⟩
  | 123 => ⟨S128x512, .f32⟩
  | 124 => ⟨S_, .i1⟩
  | 125 => ⟨S128x128, .i1⟩
  | 126 => ⟨S128x128, .i32⟩
  | 127 => ⟨S_, .i32⟩
  | _ => ⟨S8192x1024, .f32⟩

abbrev hbmTy0_1 (i : Nat) : BufTy := match i % 128 with
  | 0 => ⟨S128x128, .i32⟩
  | 1 => ⟨S128x128, .i32⟩
  | 2 => ⟨S128x128, .i32⟩
  | 3 => ⟨S128x128, .i1⟩
  | 4 => ⟨S_, .i1⟩
  | 5 => ⟨S128x128, .i1⟩
  | 6 => ⟨S128x128, .i1⟩
  | 7 => ⟨S1x128x128, .i1⟩
  | 8 => ⟨S_, .f32⟩
  | 9 => ⟨S_, .f32⟩
  | 10 => ⟨S8x128x128, .i1⟩
  | 11 => ⟨S8x128x128, .f32⟩
  | 12 => ⟨S8x128x128, .f32⟩
  | 13 => ⟨S128x8, .f32⟩
  | 14 => ⟨S8x128, .f32⟩
  | 15 => ⟨S8192x1024, .bf16⟩
  | 16 => ⟨S1x1024, .f32⟩
  | 17 => ⟨S1x512, .f32⟩
  | 18 => ⟨S1x512, .f32⟩
  | 19 => ⟨S1x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x512, .f32⟩
  | .local _ .vmem, ⟨7, _⟩ => ⟨S256x512, .f32⟩
  | .local _ .vmem, ⟨8, _⟩ => ⟨S1x8192, .f32⟩
  | .local _ .vmem, ⟨9, _⟩ => ⟨S1x8192, .f32⟩
  | .local _ .vmem, ⟨10, _⟩ => ⟨S1x1024, .f32⟩
  | .local _ .vmem, ⟨11, _⟩ => ⟨S4x1024x512, .bf16⟩
  | .local _ .vmem, ⟨12, _⟩ => ⟨S1x512, .f32⟩
  | .local _ .vmem, ⟨13, _⟩ => ⟨S1x512, .f32⟩
  | .local _ .vmem, ⟨14, _⟩ => ⟨S8x128x128, .bf16⟩
  | .local _ .vmem, ⟨15, _⟩ => ⟨S8x128x128, .bf16⟩
  | .local _ .vmem, ⟨16, _⟩ => ⟨S128x512, .f32⟩
  | .local _ .vmem, ⟨17, _⟩ => ⟨S32x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1024x1024, .bf16⟩
  | .local _ .vmem, ⟨23, _⟩ => ⟨S256x1024, .f32⟩
  | .local _ .vmem, ⟨24, _⟩ => ⟨S256x1024, .f32⟩
  | .local _ .vmem, ⟨25, _⟩ => ⟨S256x2048, .bf16⟩
  | .local _ .vmem, ⟨26, _⟩ => ⟨S256x2048, .bf16⟩
  | .local _ .vmem, ⟨27, _⟩ => ⟨S8x1024, .f32⟩
  | .local _ .vmem, ⟨28, _⟩ => ⟨S8x2048, .f32⟩
  | .local _ .vmem, ⟨29, _⟩ => ⟨S8x512, .f32⟩
  | .local _ .vmem, ⟨30, _⟩ => ⟨S32x512, .f32⟩
  | .local _ .vmem, ⟨31, _⟩ => ⟨S8x128x128, .f32⟩
  | .local _ .vmem, ⟨32, _⟩ => ⟨S128x512, .f32⟩
  | .local _ .vmem, ⟨33, _⟩ => ⟨S288x512, .f32⟩
  | .local _ .vmem, ⟨34, _⟩ => ⟨S7x280x512, .f32⟩
  | .local _ .vmem, ⟨35, _⟩ => ⟨S256x512, .f32⟩
  | .local _ .vmem, ⟨36, _⟩ => ⟨S256x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_3 : Ref sig .tc := ⟨.hbm, 57, rfl⟩
abbrev main_v35 : Ref sig .tc := ⟨.hbm, 58, rfl⟩
abbrev main_v36 : Ref sig .tc := ⟨.hbm, 59, rfl⟩
abbrev main_cst_4 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c : Ref sig .tc := ⟨.hbm, 65, rfl⟩
abbrev main_call0_v0 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_5 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_6 : Ref sig .tc := ⟨.hbm, 85, rfl⟩
abbrev main_v58 : Ref sig .tc := ⟨.hbm, 86, rfl⟩
abbrev main_call1_v0 : Ref sig .tc := ⟨.hbm, 87, rfl⟩
abbrev main_call1_c : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_c_0 : Ref sig .tc := ⟨.hbm, 93, rfl⟩
abbrev main_call1_v5 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_7 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_c_8 : Ref sig .tc := ⟨.hbm, 111, rfl⟩
abbrev main_call3_v0 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74_0 : Ref sig .tc := ⟨.hbm, 116, rfl⟩
abbrev main_v74_1 : Ref sig .tc := ⟨.hbm, 117, rfl⟩
abbrev main_v74_2 : Ref sig .tc := ⟨.hbm, 118, rfl⟩
abbrev main_v74_3 : Ref sig .tc := ⟨.hbm, 119, rfl⟩
abbrev main_v74_4 : Ref sig .tc := ⟨.hbm, 120, rfl⟩
abbrev main_v74_5 : Ref sig .tc := ⟨.hbm, 121, rfl⟩
abbrev main_v74_6 : Ref sig .tc := ⟨.hbm, 122, rfl⟩
abbrev main_v74_7 : Ref sig .tc := ⟨.hbm, 123, rfl⟩
abbrev main_c_9 : Ref sig .tc := ⟨.hbm, 124, rfl⟩
abbrev main_v75 : Ref sig .tc := ⟨.hbm, 125, rfl⟩
abbrev main_call4_v0 : Ref sig .tc := ⟨.hbm, 126, rfl⟩
abbrev main_call4_c : Ref sig .tc := ⟨.hbm, 127, rfl⟩
abbrev main_call4_v1 : Ref sig .tc := ⟨.hbm, 128, rfl⟩
abbrev main_call4_v2 : Ref sig .tc := ⟨.hbm, 129, rfl⟩
abbrev main_call4_v3 : Ref sig .tc := ⟨.hbm, 130, rfl⟩
abbrev main_call4_v4 : Ref sig .tc := ⟨.hbm, 131, rfl⟩
abbrev main_call4_c_0 : Ref sig .tc := ⟨.hbm, 132, rfl⟩
abbrev main_call4_v5 : Ref sig .tc := ⟨.hbm, 133, rfl⟩
abbrev main_v76 : Ref sig .tc := ⟨.hbm, 134, rfl⟩
abbrev main_v77 : Ref sig .tc := ⟨.hbm, 135, rfl⟩
abbrev main_cst_10 : Ref sig .tc := ⟨.hbm, 136, rfl⟩
abbrev main_call5_v0 : Ref sig .tc := ⟨.hbm, 137, rfl⟩
abbrev main_call5_v1 : Ref sig .tc := ⟨.hbm, 138, rfl⟩
abbrev main_call5_v2 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg22_0 : Ref sig .tc := ⟨.vmem, 28, rfl⟩
abbrev cc0_stg23_0 : Ref sig .tc := ⟨.vmem, 29, rfl⟩
abbrev cc0_stg24_0 : Ref sig .tc := ⟨.vmem, 30, rfl⟩
abbrev cc0_stg25_0 : Ref sig .tc := ⟨.vmem, 31, rfl⟩
abbrev cc0_stg26_0 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem22_0 : DmaSem sig := 28
abbrev cc0_sem23_0 : DmaSem sig := 29
abbrev cc0_sem24_0 : DmaSem sig := 30
abbrev cc0_sem25_0 : DmaSem sig := 31
abbrev cc0_sem26_0 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S8x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S8x2048 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S32x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S8x128x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S128x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]
-- ==== Kernel4Ideal.lean ====
variable {F : FTy → Type} [FloatOps F] [Named F]
def κ : String → Option EReal := fun
  | "bell" => some (((Real.sqrt (2 * Real.pi))⁻¹ : ℝ) : EReal)
  | "root" => some (((Real.sqrt 2)⁻¹ : ℝ) : EReal)
  | _ => none
-- ==== Reference4Ideal.lean ====
abbrev S8192x1024 : Shape := ⟨2, ![8192, 1024]⟩
abbrev S1x8192 : Shape := ⟨2, ![1, 8192]⟩
abbrev S1x1024 : Shape := ⟨2, ![1, 1024]⟩
abbrev S1x1024x2048 : Shape := ⟨3, ![1, 1024, 2048]⟩
abbrev S1x2048 : Shape := ⟨2, ![1, 2048]⟩
abbrev S1x512 : Shape := ⟨2, ![1, 512]⟩
abbrev S1x8x128x128 : Shape := ⟨4, ![1, 8, 128, 128]⟩
abbrev S1x8x128 : Shape := ⟨3, ![1, 8, 128]⟩
abbrev S1x31x512 : Shape := ⟨3, ![1, 31, 512]⟩
abbrev S1x1024x1024 : Shape := ⟨3, ![1, 1024, 1024]⟩
abbrev S_ : Shape := ⟨0, ![]⟩
abbrev S8192 : Shape := ⟨1, ![8192]⟩
abbrev S8192x1 : Shape := ⟨2, ![8192, 1]⟩
abbrev S1024x2048 : Shape := ⟨2, ![1024, 2048]⟩
abbrev S8192x2048 : Shape := ⟨2, ![8192, 2048]⟩
abbrev S8x128x128 : Shape := ⟨3, ![8, 128, 128]⟩
abbrev S8x128 : Shape := ⟨2, ![8, 128]⟩
abbrev S8192x512 : Shape := ⟨2, ![8192, 512]⟩
abbrev S64x128x8x64 : Shape := ⟨4, ![64, 128, 8, 64]⟩
abbrev S128x128 : Shape := ⟨2, ![128, 128]⟩
abbrev S1x128x128 : Shape := ⟨3, ![1, 128, 128]⟩
abbrev S8x64x64x128 : Shape := ⟨4, ![8, 64, 64, 128]⟩
abbrev S128x8 : Shape := ⟨2, ![128, 8]⟩
abbrev S1x128x8x1 : Shape := ⟨4, ![1, 128, 8, 1]⟩
abbrev S1x512x1024 : Shape := ⟨3, ![1, 512, 1024]⟩
abbrev S512x1024 : Shape := ⟨2, ![512, 1024]⟩
abbrev S512 : Shape := ⟨1, ![512]⟩
abbrev S1024 : Shape := ⟨1, ![1024]⟩

abbrev nBuf : Space → Nat
  | .hbm => 265
  | .vmem => 0
  | .smem => 0
  | _ => 0

abbrev hbmTy0_0 (i : Nat) : BufTy := match i % 128 with
  | 0 => ⟨S8192x1024, .f32⟩
  | 1 => ⟨S8192x1024, .f32⟩
  | 2 => ⟨S1x8192, .f32⟩
  | 3 => ⟨S1x8192, .f32⟩
  | 4 => ⟨S1x1024, .f32⟩
  | 5 => ⟨S1x1024x2048, .f32⟩
  | 6 => ⟨S1x2048, .f32⟩
  | 7 => ⟨S1x512, .f32⟩
  | 8 => ⟨S1x512, .f32⟩
  | 9 => ⟨S1x8x128x128, .f32⟩
  | 10 => ⟨S1x8x128, .f32⟩
  | 11 => ⟨S1x31x512, .f32⟩
  | 12 => ⟨S1x512, .f32⟩
  | 13 => ⟨S1x512, .f32⟩
  | 14 => ⟨S1x512, .f32⟩
  | 15 => ⟨S1x512, .f32⟩
  | 16 => ⟨S1x512, .f32⟩
  | 17 => ⟨S1x1024x1024, .f32⟩
  | 18 => ⟨S1x8192, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S1x1024, .f32⟩
  | 25 => ⟨S1x1024, .f32⟩
  | 26 => ⟨S1x1024, .f32⟩
  | 27 => ⟨S1x8192, .f32⟩
  | 28 => ⟨S1x1024, .f32⟩
  | 29 => ⟨S1x1024, .f32⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S8192x1024, .f32⟩
  | 37 => ⟨S_, .f32⟩
  | 38 => ⟨S8192, .f32⟩
  | 39 => ⟨S8192x1, .f32⟩
  | 40 => ⟨S_, .f32⟩
  | 41 => ⟨S8192x1, .f32⟩
  | 42 => ⟨S8192x1, .f32⟩
  | 43 => ⟨S_, .f32⟩
  | 44 => ⟨S8192x1, .f32⟩
  | 45 => ⟨S8192x1, .f32⟩
  | 46 => ⟨S8192x1, .f32⟩
  | 47 => ⟨S8192x1024, .f32⟩
  | 48 => ⟨S8192x1024, .f32⟩
  | 49 => ⟨S8192x1024, .f32⟩
  | 50 => ⟨S8192x1024, .f32⟩
  | 51 => ⟨S_, .f32⟩
  | 52 => ⟨S1x1024, .f32⟩
  | 53 => ⟨S1x1024, .f32⟩
  | 54 => ⟨S8192x1024, .f32⟩
  | 55 => ⟨S8192x1024, .f32⟩
  | 56 => ⟨S8192x1024, .f32⟩
  | 57 => ⟨S8192x1024, .f32⟩
  | 58 => ⟨S1024x2048, .f32⟩
  | 59 => ⟨S8192x2048, .f32⟩
  | 60 => ⟨S8192x2048, .f32⟩
  | 61 => ⟨S8192x2048, .f32⟩
  | 62 => ⟨S8192x1024, .f32⟩
  | 63 => ⟨S8x128x128, .f32⟩
  | 64 => ⟨S8x128, .f32⟩
  | 65 => ⟨S_, .f32⟩
  | 66 => ⟨S_, .f32⟩
  | 67 => ⟨S8192x1024, .f32⟩
  | 68 => ⟨S8192x1024, .f32⟩
  | 69 => ⟨S_, .f32⟩
  | 70 => ⟨S_, .f32⟩
  | 71 => ⟨S_, .f32⟩
  | 72 => ⟨S_, .f32⟩
  | 73 => ⟨S8192x1024, .f32⟩
  | 74 => ⟨S_, .f32⟩
  | 75 => ⟨S_, .f32⟩
  | 76 => ⟨S_, .f32⟩
  | 77 => ⟨S8192x1024, .f32⟩
  | 78 => ⟨S8192x1024, .f32⟩
  | 79 => ⟨S8192x1024, .f32⟩
  | 80 => ⟨S8192x1024, .f32⟩
  | 81 => ⟨S8192x1024, .f32⟩
  | 82 => ⟨S_, .f32⟩
  | 83 => ⟨S8192x1024, .f32⟩
  | 84 => ⟨S8192x1024, .f32⟩
  | 85 => ⟨S_, .f32⟩
  | 86 => ⟨S8192x1024, .f32⟩
  | 87 => ⟨S8192x1024, .f32⟩
  | 88 => ⟨S8192x1024, .f32⟩
  | 89 => ⟨S8192x512, .f32⟩
  | 90 => ⟨S8192x512, .f32⟩
  | 91 => ⟨S_, .f32⟩
  | 92 => ⟨S8192, .f32⟩
  | 93 => ⟨S8192x1, .f32⟩
  | 94 => ⟨S_, .f32⟩
  | 95 => ⟨S8192x1, .f32⟩
  | 96 => ⟨S8192x1, .f32⟩
  | 97 => ⟨S8192x512, .f32⟩
  | 98 => ⟨S8192x512, .f32⟩
  | 99 => ⟨S8192x512, .f32⟩
  | 100 => ⟨S_, .f32⟩
  | 101 => ⟨S8192, .f32⟩
  | 102 => ⟨S8192x1, .f32⟩
  | 103 => ⟨S_, .f32⟩
  | 104 => ⟨S8192x1, .f32⟩
  | 105 => ⟨S8192x1, .f32⟩
  | 106 => ⟨S_, .f32⟩
  | 107 => ⟨S8192x1, .f32⟩
  | 108 => ⟨S8192x1, .f32⟩
  | 109 => ⟨S8192x1, .f32⟩
  | 110 => ⟨S8192x1, .f32⟩
  | 111 => ⟨S_, .f32⟩
  | 112 => ⟨S8192x1, .f32⟩
  | 113 => ⟨S8192x1, .f32⟩
  | 114 => ⟨S8192x512, .f32⟩
  | 115 => ⟨S8192x512, .f32⟩
  | 116 => ⟨S8192x512, .f32⟩
  | 117 => ⟨S8192x512, .f32⟩
  | 118 => ⟨S8192x512, .f32⟩
  | 119 => ⟨S8192x512, .f32⟩
  | 120 => ⟨S64x128x8x64, .f32⟩
  | 121 => ⟨S_, .i1⟩
  | 122 => ⟨S128x128, .i1⟩
  | 123 => ⟨S128x128, .i32⟩
  | 124 => ⟨S_, .i32⟩
  | 125 => ⟨S128x128, .i32⟩
  | 126 => ⟨S128x128, .i32⟩
  | 127 => ⟨S128x128, .i32⟩
  | _ => ⟨S8192x1024, .f32⟩

abbrev hbmTy0_1 (i : Nat) : BufTy := match i % 128 with
  | 0 => ⟨S128x128, .i1⟩
  | 1 => ⟨S_, .i1⟩
  | 2 => ⟨S128x128, .i1⟩
  | 3 => ⟨S128x128, .i1⟩
  | 4 => ⟨S1x128x128, .i1⟩
  | 5 => ⟨S_, .f32⟩
  | 6 => ⟨S8x128x128, .f32⟩
  | 7 => ⟨S8x128x128, .i1⟩
  | 8 => ⟨S8x128x128, .f32⟩
  | 9 => ⟨S_, .f32⟩
  | 10 => ⟨S8x128x128, .f32⟩
  | 11 => ⟨S8x64x64x128, .f32⟩
  | 12 => ⟨S64x128x8x64, .f32⟩
  | 13 => ⟨S128x8, .f32⟩
  | 14 => ⟨S1x128x8x1, .f32⟩
  | 15 => ⟨S64x128x8x64, .f32⟩
  | 16 => ⟨S64x128x8x64, .f32⟩
  | 17 => ⟨S8192x512, .f32⟩
  | 18 => ⟨S8192x512, .f32⟩
  | 19 => ⟨S8192x512, .f32⟩
  | 20 => ⟨S_, .f32⟩
  | 21 => ⟨S8192, .f32⟩
  | 22 => ⟨S8192x1, .f32⟩
  | 23 => ⟨S_, .f32⟩
  | 24 => ⟨S8192x1, .f32⟩
  | 25 => ⟨S8192x1, .f32⟩
  | 26 => ⟨S_, .f32⟩
  | 27 => ⟨S8192x1, .f32⟩
  | 28 => ⟨S8192x1, .f32⟩
  | 29 => ⟨S8192x1, .f32⟩
  | 30 => ⟨S8192x1, .f32⟩
  | 31 => ⟨S_, .f32⟩
  | 32 => ⟨S8192x1, .f32⟩
  | 33 => ⟨S8192x1, .f32⟩
  | 34 => ⟨S8192x512, .f32⟩
  | 35 => ⟨S8192x512, .f32⟩
  | 36 => ⟨S8192x512, .f32⟩
  | 37 => ⟨S8192x512, .f32⟩
  | 38 => ⟨S1x512x1024, .f32⟩
  | 39 => ⟨S512x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S8192x512, .f32⟩
  | 46 => ⟨S8192x512, .f32⟩
  | 47 => ⟨S_, .f32⟩
  | 48 => ⟨S512, .f32⟩
  | 49 => ⟨S1x512, .f32⟩
  | 50 => ⟨S8192x512, .f32⟩
  | 51 => ⟨S8192x512, .f32⟩
  | 52 => ⟨S8192x512, .f32⟩
  | 53 => ⟨S_, .f32⟩
  | 54 => ⟨S8192, .f32⟩
  | 55 => ⟨S8192x1, .f32⟩
  | 56 => ⟨S8192x512, .f32⟩
  | 57 => ⟨S8192x512, .f32⟩
  | 58 => ⟨S8192x1, .f32⟩
  | 59 => ⟨S_, .f32⟩
  | 60 => ⟨S8192x1, .f32⟩
  | 61 => ⟨S8192x1, .f32⟩
  | 62 => ⟨S_, .f32⟩
  | 63 => ⟨S8192, .f32⟩
  | 64 => ⟨S8192x512, .f32⟩
  | 65 => ⟨S8192x512, .f32⟩
  | 66 => ⟨S8192x512, .f32⟩
  | 67 => ⟨S8192x512, .f32⟩
  | 68 => ⟨S8192x512, .f32⟩
  | 69 => ⟨S8192x512, .f32⟩
  | 70 => ⟨S8192x512, .f32⟩
  | 71 => ⟨S64x128x8x64, .f32⟩
  | 72 => ⟨S_, .f32⟩
  | 73 => ⟨S128x8, .f32⟩
  | 74 => ⟨S1x128x8x1, .f32⟩
  | 75 => ⟨S_, .f32⟩
  | 76 => ⟨S128x8, .f32⟩
  | 77 => ⟨S8x128, .f32⟩
  | 78 => ⟨S8x64x64x128, .f32⟩
  | 79 => ⟨S8x128x128, .f32⟩
  | 80 => ⟨S8x64x64x128, .f32⟩
  | 81 => ⟨S64x128x8x64, .f32⟩
  | 82 => ⟨S_, .f32⟩
  | 83 => ⟨S8x128x128, .f32⟩
  | 84 => ⟨S8x128x128, .f32⟩
  | 85 => ⟨S8192x512, .f32⟩
  | 86 => ⟨S_, .f32⟩
  | 87 => ⟨S512, .f32⟩
  | 88 => ⟨S1x512, .f32⟩
  | 89 => ⟨S8192x512, .f32⟩
  | 90 => ⟨S_, .f32⟩
  | 91 => ⟨S512, .f32⟩
  | 92 => ⟨S1x512, .f32⟩
  | 93 => ⟨S8192x512, .f32⟩
  | 94 => ⟨S8192x512, .f32⟩
  | 95 => ⟨S8192x512, .f32⟩
  | 96 => ⟨S_, .f32⟩
  | 97 => ⟨S8192, .f32⟩
  | 98 => ⟨S8192x1, .f32⟩
  | 99 => ⟨S8192x512, .f32⟩
  | 100 => ⟨S8192x512, .f32⟩
  | 101 => ⟨S8192x1, .f32⟩
  | 102 => ⟨S_, .f32⟩
  | 103 => ⟨S8192x1, .f32⟩
  | 104 => ⟨S8192x1, .f32⟩
  | 105 => ⟨S_, .f32⟩
  | 106 => ⟨S8192, .f32⟩
  | 107 => ⟨S8192x512, .f32⟩
  | 108 => ⟨S8192x512, .f32⟩
  | 109 => ⟨S8192x512, .f32⟩
  | 110 => ⟨S8192x512, .f32⟩
  | 111 => ⟨S8192x512, .f32⟩
  | 112 => ⟨S8192x512, .f32⟩
  | 113 => ⟨S_, .f32⟩
  | 114 => ⟨S8192, .f32⟩
  | 115 => ⟨S8192x1, .f32⟩
  | 116 => ⟨S_, .f32⟩
  | 117 => ⟨S8192x1, .f32⟩
  | 118 => ⟨S8192x1, .f32⟩
  | 119 => ⟨S_, .f32⟩
  | 120 => ⟨S8192, .f32⟩
  | 121 => ⟨S8192x512, .f32⟩
  | 122 => ⟨S8192x512, .f32⟩
  | 123 => ⟨S8192x1024, .f32⟩
  | 124 => ⟨S8192x1024, .f32⟩
  | 125 => ⟨S8192x1024, .f32⟩
  | 126 => ⟨S_, .f32⟩
  | 127 => ⟨S8192x1024, .f32⟩
  | _ => ⟨S8192x1024, .f32⟩

abbrev hbmTy0_2 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S8192x1024, .bf16⟩
  | 6 => ⟨S_, .f32⟩
  | 7 => ⟨S1024, .f32⟩
  | 8 => ⟨S1x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_cst_0 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_3 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_4 : Ref sig .tc := ⟨.hbm, 69, rfl⟩
abbrev main_v46 : Ref sig .tc := ⟨.hbm, 70, rfl⟩
abbrev main_cst_5 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_6 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_7 : Ref sig .tc := ⟨.hbm, 82, rfl⟩
abbrev main_v56 : Ref sig .tc := ⟨.hbm, 83, rfl⟩
abbrev main_v57 : Ref sig .tc := ⟨.hbm, 84, rfl⟩
abbrev main_cst_8 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_9 : Ref sig .tc := ⟨.hbm, 91, rfl⟩
abbrev main_v63 : Ref sig .tc := ⟨.hbm, 92, rfl⟩
abbrev main_v64 : Ref sig .tc := ⟨.hbm, 93, rfl⟩
abbrev main_cst_10 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_11 : Ref sig .tc := ⟨.hbm, 100, rfl⟩
abbrev main_v70 : Ref sig .tc := ⟨.hbm, 101, rfl⟩
abbrev main_v71 : Ref sig .tc := ⟨.hbm, 102, rfl⟩
abbrev main_cst_12 : Ref sig .tc := ⟨.hbm, 103, rfl⟩
abbrev main_v72 : Ref sig .tc := ⟨.hbm, 104, rfl⟩
abbrev main_v73 : Ref sig .tc := ⟨.hbm, 105, rfl⟩
abbrev main_cst_13 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_14 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_c : Ref sig .tc := ⟨.hbm, 121, rfl⟩
abbrev main_v87 : Ref sig .tc := ⟨.hbm, 122, rfl⟩
abbrev main_call0_v0 : Ref sig .tc := ⟨.hbm, 123, rfl⟩
abbrev main_call0_c : Ref sig .tc := ⟨.hbm, 124, rfl⟩
abbrev main_call0_v1 : Ref sig .tc := ⟨.hbm, 125, rfl⟩
abbrev main_call0_v2 : Ref sig .tc := ⟨.hbm, 126, rfl⟩
abbrev main_call0_v3 : Ref sig .tc := ⟨.hbm, 127, rfl⟩
abbrev main_call0_v4 : Ref sig .tc := ⟨.hbm, 128, rfl⟩
abbrev main_call0_c_0 : Ref sig .tc := ⟨.hbm, 129, rfl⟩
abbrev main_call0_v5 : Ref sig .tc := ⟨.hbm, 130, rfl⟩
abbrev main_v88 : Ref sig .tc := ⟨.hbm, 131, rfl⟩
abbrev main_v89 : Ref sig .tc := ⟨.hbm, 132, rfl⟩
abbrev main_cst_15 : Ref sig .tc := ⟨.hbm, 133, rfl⟩
abbrev main_v90 : Ref sig .tc := ⟨.hbm, 134, rfl⟩
abbrev main_v91_1 : Ref sig .tc := ⟨.hbm, 135, rfl⟩
abbrev main_v91_0 : Ref sig .tc := ⟨.hbm, 136, rfl⟩
abbrev main_call1_cst : Ref sig .tc := ⟨.hbm, 137, rfl⟩
abbrev main_v91_2 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_16 : Ref sig .tc := ⟨.hbm, 148, rfl⟩
abbrev main_v101 : Ref sig .tc := ⟨.hbm, 149, rfl⟩
abbrev main_v102 : Ref sig .tc := ⟨.hbm, 150, rfl⟩
abbrev main_cst_17 : Ref sig .tc := ⟨.hbm, 151, rfl⟩
abbrev main_v103 : Ref sig .tc := ⟨.hbm, 152, rfl⟩
abbrev main_v104 : Ref sig .tc := ⟨.hbm, 153, rfl⟩
abbrev main_cst_18 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_cst_19 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_20 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_21 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_cst_22 : Ref sig .tc := ⟨.hbm, 187, rfl⟩
abbrev main_v134 : Ref sig .tc := ⟨.hbm, 188, rfl⟩
abbrev main_v135 : Ref sig .tc := ⟨.hbm, 189, rfl⟩
abbrev main_cst_23 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_cst_24 : Ref sig .tc := ⟨.hbm, 200, rfl⟩
abbrev main_v145 : Ref sig .tc := ⟨.hbm, 201, rfl⟩
abbrev main_v146 : Ref sig .tc := ⟨.hbm, 202, rfl⟩
abbrev main_cst_25 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_call2_cst : Ref sig .tc := ⟨.hbm, 210, rfl⟩
abbrev main_call2_v0 : Ref sig .tc := ⟨.hbm, 211, rfl⟩
abbrev main_v153 : Ref sig .tc := ⟨.hbm, 212, rfl⟩
abbrev main_v154 : Ref sig .tc := ⟨.hbm, 213, rfl⟩
abbrev main_cst_26 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_cst_27 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_cst_28 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_cst_29 : Ref sig .tc := ⟨.hbm, 230, rfl⟩
abbrev main_v168 : Ref sig .tc := ⟨.hbm, 231, rfl⟩
abbrev main_v169 : Ref sig .tc := ⟨.hbm, 232, rfl⟩
abbrev main_cst_30 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_cst_31 : Ref sig .tc := ⟨.hbm, 241, rfl⟩
abbrev main_v177 : Ref sig .tc := ⟨.hbm, 242, rfl⟩
abbrev main_v178 : Ref sig .tc := ⟨.hbm, 243, rfl⟩
abbrev main_cst_32 : Ref sig .tc := ⟨.hbm, 244, rfl⟩
abbrev main_v179 : Ref sig .tc := ⟨.hbm, 245, rfl⟩
abbrev main_v180 : Ref sig .tc := ⟨.hbm, 246, rfl⟩
abbrev main_cst_33 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_cst_34 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_cst_35 : Ref sig .tc := ⟨.hbm, 262, rfl⟩
abbrev main_v194 : Ref sig .tc := ⟨.hbm, 263, rfl⟩
abbrev main_v195 : Ref sig .tc := ⟨.hbm, 264, rfl⟩

abbrev nD : Nat := 1
abbrev τ : Topo := Topo.v7x

variable {F : FTy → Type} [FloatOps F]
-- ==== Proof.Rows.lean ====
/- Reading back rows written into a buffer, and a whole buffer just filled. -/
module

public import Idealize.ShloMosaic.Lib.Pipeline.ValueKit
public import Idealize.ShloMosaic.Lib.Pointwise
public import Idealize.ShloMosaic.Lib.Claim
public import Idealize.ShloMosaic.Lib.WritesUnit

@[expose] public section

namespace Cert.Proof.Rows

open Idealize.ShloMosaic

variable {sig : RefSig} {Val : EltTy → Type} {e : EltTy} {A B : ℕ}

/-- The last of several stores into a two-axis buffer covers the rows `o … o + W - 1` in full: at one of them the buffer holds the
    stored row. -/
theorem canon_rows_of_mem [∀ e, Nonempty (Val e)] {κ : Kind} {sp : Space} (v : View sig κ sp (⟨2, ![A, B]⟩ : Shape) e) {W : ℕ}
    (o : ℕ) (inb : ∀ a : Fin 2, (![o, 0] : Fin 2 → ℕ) a + (![W, B] : Fin 2 → ℕ) a ≤ (![A, B] : Fin 2 → ℕ) a)
    (w : (⟨2, ![W, B]⟩ : Shape).Idx → Val e) (L : List (View.Piece Val (⟨2, ![A, B]⟩ : Shape) e))
    (y : (⟨2, ![A, B]⟩ : Shape).Idx) (x : (⟨2, ![W, B]⟩ : Shape).Idx)
    (h0 : (y 0 : ℕ) = o + x 0) (h1 : (y 1 : ℕ) = x 1) :
    View.canon ((⟨Rect.unit ![o, 0] ![W, B] inb, w⟩ : View.Piece Val (⟨2, ![A, B]⟩ : Shape) e) :: L) y = w x := by
  rw [← View.read_writes_junk_eq_canon v]
  exact View.read_writes_cons_unit_of_mem v _ inb w L y x rfl fun a => match a with
    | ⟨0, _⟩ => h0
    | ⟨1, _⟩ => h1.trans (Nat.zero_add _).symm

/-- … and at another row it holds what the earlier stores left. -/
theorem canon_rows_of_not_mem [∀ e, Nonempty (Val e)] {κ : Kind} {sp : Space} (v : View sig κ sp (⟨2, ![A, B]⟩ : Shape) e) {W : ℕ}
    (o : ℕ) (inb : ∀ a : Fin 2, (![o, 0] : Fin 2 → ℕ) a + (![W, B] : Fin 2 → ℕ) a ≤ (![A, B] : Fin 2 → ℕ) a)
    (w : (⟨2, ![W, B]⟩ : Shape).Idx → Val e) (L : List (View.Piece Val (⟨2, ![A, B]⟩ : Shape) e))
    (y : (⟨2, ![A, B]⟩ : Shape).Idx) (h : (y 0 : ℕ) < o ∨ o + W ≤ (y 0 : ℕ)) :
    View.canon ((⟨Rect.unit ![o, 0] ![W, B] inb, w⟩ : View.Piece Val (⟨2, ![A, B]⟩ : Shape) e) :: L) y = View.canon L y := by
  rw [← View.read_writes_junk_eq_canon v, ← View.read_writes_junk_eq_canon v]
  exact View.read_writes_cons_unit_of_not_mem v _ inb w L y rfl (0 : Fin 2) h

/-- The same over a buffer whose earlier contents are known. -/
theorem read_rows_of_mem {κ : Kind} {sp : Space} (v : View sig κ sp (⟨2, ![A, B]⟩ : Shape) e) (f : v.ty.Contents Val) {W : ℕ}
    (o : ℕ) (inb : ∀ a : Fin 2, (![o, 0] : Fin 2 → ℕ) a + (![W, B] : Fin 2 → ℕ) a ≤ (![A, B] : Fin 2 → ℕ) a)
    (w : (⟨2, ![W, B]⟩ : Shape).Idx → Val e) (L : List (View.Piece Val (⟨2, ![A, B]⟩ : Shape) e))
    (y : (⟨2, ![A, B]⟩ : Shape).Idx) (x : (⟨2, ![W, B]⟩ : Shape).Idx)
    (h0 : (y 0 : ℕ) = o + x 0) (h1 : (y 1 : ℕ) = x 1) :
    v.read Val (v.writes Val f ((⟨Rect.unit ![o, 0] ![W, B] inb, w⟩ : View.Piece Val (⟨2, ![A, B]⟩ : Shape) e) :: L)) y = w x :=
  View.read_writes_cons_unit_of_mem v _ inb w L y x rfl fun a => match a with
    | ⟨0, _⟩ => h0
    | ⟨1, _⟩ => h1.trans (Nat.zero_add _).symm

theorem read_rows_of_not_mem {κ : Kind} {sp : Space} (v : View sig κ sp (⟨2, ![A, B]⟩ : Shape) e) (f : v.ty.Contents Val) {W : ℕ}
    (o : ℕ) (inb : ∀ a : Fin 2, (![o, 0] : Fin 2 → ℕ) a + (![W, B] : Fin 2 → ℕ) a ≤ (![A, B] : Fin 2 → ℕ) a)
    (w : (⟨2, ![W, B]⟩ : Shape).Idx → Val e) (L : List (View.Piece Val (⟨2, ![A, B]⟩ : Shape) e))
    (y : (⟨2, ![A, B]⟩ : Shape).Idx) (h : (y 0 : ℕ) < o ∨ o + W ≤ (y 0 : ℕ)) :
    v.read Val (v.writes Val f ((⟨Rect.unit ![o, 0] ![W, B] inb, w⟩ : View.Piece Val (⟨2, ![A, B]⟩ : Shape) e) :: L)) y
      = v.read Val (v.writes Val f L) y :=
  View.read_writes_cons_unit_of_not_mem v _ inb w L y rfl (0 : Fin 2) h

/-- One stored row read back … -/
theorem canon_row_mem [∀ e, Nonempty (Val e)] {κ : Kind} {sp : Space} (v : View sig κ sp (⟨2, ![A, B]⟩ : Shape) e)
    {o : ℕ} {inb : ∀ a : Fin 2, (![o, 0] : Fin 2 → ℕ) a + (![1, B] : Fin 2 → ℕ) a ≤ (![A, B] : Fin 2 → ℕ) a}
    {w : (⟨2, ![1, B]⟩ : Shape).Idx → Val e} {L : List (View.Piece Val (⟨2, ![A, B]⟩ : Shape) e)} {r : Fin A} {q : Fin B} (h : (r : ℕ) = o) :
    View.canon ((⟨Rect.unit ![o, 0] ![1, B] inb, w⟩ : View.Piece Val (⟨2, ![A, B]⟩ : Shape) e) :: L) (ix2 r q) = w (ix2 0 q) :=
  canon_rows_of_mem v o inb w L _ (ix2 0 q) h rfl

/-- … another row passed over … -/
theorem canon_row_skip [∀ e, Nonempty (Val e)] {κ : Kind} {sp : Space} (v : View sig κ sp (⟨2, ![A, B]⟩ : Shape) e)
    {o : ℕ} {inb : ∀ a : Fin 2, (![o, 0] : Fin 2 → ℕ) a + (![1, B] : Fin 2 → ℕ) a ≤ (![A, B] : Fin 2 → ℕ) a}
    {w : (⟨2, ![1, B]⟩ : Shape).Idx → Val e} {L : List (View.Piece Val (⟨2, ![A, B]⟩ : Shape) e)} {r : Fin A} {q : Fin B} (h : ¬ (r : ℕ) = o) :
    View.canon ((⟨Rect.unit ![o, 0] ![1, B] inb, w⟩ : View.Piece Val (⟨2, ![A, B]⟩ : Shape) e) :: L) (ix2 r q) = View.canon L (ix2 r q) :=
  canon_rows_of_not_mem v o inb w L _ (by show (r : ℕ) < o ∨ o + 1 ≤ (r : ℕ); omega)

theorem ld_row (X : (⟨2, ![A, B]⟩ : Shape).Idx → Val e)
    {o : ℕ} {inb : ∀ a : Fin 2, (![o, 0] : Fin 2 → ℕ) a + (![1, B] : Fin 2 → ℕ) a ≤ (![A, B] : Fin 2 → ℕ) a} (q : Fin B) :
    View.ld X (Rect.unit ![o, 0] ![1, B] inb) (ix2 0 q) = X (ix2 ⟨o, inb 0⟩ q) :=
  View.ld_unit_apply_of _ _ _ _ _ _ fun a => match a with
    | ⟨0, _⟩ => rfl
    | ⟨1, _⟩ => (Nat.zero_add _).symm

/-- … and a row loaded from the stores. -/
theorem readCov_row [∀ e, Nonempty (Val e)] {κ : Kind} {sp : Space} (v : View sig κ sp (⟨2, ![A, B]⟩ : Shape) e)
    {o : ℕ} {inb : ∀ a : Fin 2, (![o, 0] : Fin 2 → ℕ) a + (![1, B] : Fin 2 → ℕ) a ≤ (![A, B] : Fin 2 → ℕ) a}
    (L : List (View.Piece Val (⟨2, ![A, B]⟩ : Shape) e)) (q : Fin B) :
    v.readCov L (Rect.unit (s := (⟨2, ![A, B]⟩ : Shape)) ![o, 0] ![1, B] inb).toLoadRect (ix2 (0 : Fin 1) q : (⟨2, ![1, B]⟩ : Shape).Idx) = View.canon L (ix2 ⟨o, inb 0⟩ q) := by
  rw [View.readCov_eq_canon']
  exact ld_row (inb := inb) (View.canon L) q

/-- The same three over a buffer whose earlier contents are known. -/
theorem read_row_mem {κ : Kind} {sp : Space} (v : View sig κ sp (⟨2, ![A, B]⟩ : Shape) e) (f : v.ty.Contents Val)
    {o : ℕ} {inb : ∀ a : Fin 2, (![o, 0] : Fin 2 → ℕ) a + (![1, B] : Fin 2 → ℕ) a ≤ (![A, B] : Fin 2 → ℕ) a}
    {w : (⟨2, ![1, B]⟩ : Shape).Idx → Val e} {L : List (View.Piece Val (⟨2, ![A, B]⟩ : Shape) e)} {r : Fin A} {q : Fin B} (h : (r : ℕ) = o) :
    v.read Val (v.writes Val f ((⟨Rect.unit ![o, 0] ![1, B] inb, w⟩ : View.Piece Val (⟨2, ![A, B]⟩ : Shape) e) :: L)) (ix2 r q) = w (ix2 0 q) :=
  read_rows_of_mem v f o inb w L _ (ix2 0 q) h rfl

theorem read_row_skip {κ : Kind} {sp : Space} (v : View sig κ sp (⟨2, ![A, B]⟩ : Shape) e) (f : v.ty.Contents Val)
    {o : ℕ} {inb : ∀ a : Fin 2, (![o, 0] : Fin 2 → ℕ) a + (![1, B] : Fin 2 → ℕ) a ≤ (![A, B] : Fin 2 → ℕ) a}
    {w : (⟨2, ![1, B]⟩ : Shape).Idx → Val e} {L : List (View.Piece Val (⟨2, ![A, B]⟩ : Shape) e)} {r : Fin A} {q : Fin B} (h : ¬ (r : ℕ) = o) :
    v.read Val (v.writes Val f ((⟨Rect.unit ![o, 0] ![1, B] inb, w⟩ : View.Piece Val (⟨2, ![A, B]⟩ : Shape) e) :: L)) (ix2 r q)
      = v.read Val (v.writes Val f L) (ix2 r q) :=
  read_rows_of_not_mem v f o inb w L _ (by show (r : ℕ) < o ∨ o + 1 ≤ (r : ℕ); omega)

end Cert.Proof.Rows
-- ==== Proof.Acc.lean ====
/- What the gated weight-gradient kernel leaves in its accumulator and in its two results, block by block. -/
module

public import proofs.«01_k».proof.Proof.Gen.KernelIdeal.Value
public import proofs.«01_k».proof.Proof.Rows

@[expose] public section

set_option maxRecDepth 16384

noncomputable section

namespace Cert.Proof.GradOut

open Idealize.ShloMosaic Cert.KernelIdeal Cert.KernelIdeal.Gen

theorem prod_at (x : FVec Ideal S2048x1408 .bf16) (d : FVec Ideal S2048x1024 .f32) (j : S1408x1024.Idx) :
    k0_pay1 (F := Ideal) x d j = ∑ k : Fin 2048, x (ix2 k (j 0)) * d (ix2 k (j 1)) := by
  pointwise [k0_pay1]

theorem colsum_at (a : FVec Ideal S1408x1024 .f32) (p : FVec Ideal S1x1024 .f32) (w : FVec Ideal S1408x1024 .bf16) (j : S1x1024.Idx) :
    k0_pay5 (F := Ideal) a p w j = p j + ∑ k : Fin 1408, a (ix2 k (j 1)) * w (ix2 k (j 1)) := by
  pointwise [k0_pay5]

theorem gated_at (a : FVec Ideal S1408x1024 .f32) (g : FVec Ideal S1x1024 .f32) (j : S1408x1024.Idx) :
    k0_pay6 (F := Ideal) a g j = a j * g (ix2 0 (j 1)) := by
  pointwise [k0_pay6]

variable (m : (ℓ : Loc nD τ sig) → Buf (Elt Ideal) ℓ)

theorem acc_at (x : FVec Ideal S2048x1408 .bf16) (d : FVec Ideal S2048x1024 .f32) (a : FVec Ideal S1408x1024 .f32) (j : S1408x1024.Idx) :
    k0_pay3 (F := Ideal) x d a j = a j + k0_pay1 (F := Ideal) x d j := by
  pointwise [k0_pay3]

theorem first_at (x : FVec Ideal S2048x1408 .bf16) (d : FVec Ideal S2048x1024 .f32) (j : S1408x1024.Idx) :
    k0_pay2 (F := Ideal) x d j = 0 + k0_pay1 (F := Ideal) x d j := by
  rw [zero_add]
  pointwise [k0_pay2]

/-- A whole buffer filled with `X` reads back as `X`. -/
theorem read_scratch (X : Vec Ideal S1408x1024 .f32) :
    View.read (Elt Ideal) (View.whole cc0_scratch0) ((Memref.isWhole_whole cc0_scratch0).unread X) = X :=
  (Memref.isWhole_whole cc0_scratch0).read_unread X

theorem scr_A (c : Dev nD) (t : Fin cfg0.N) (h : t.val % 4 = 0) (j : S1408x1024.Idx) :
    (outsAt0 m c t.val t.isLt).2.2 j = 0 + k0_pay1 (F := Ideal) (iblk m c 0 t) (iblk m c 1 t) j := by
  rw [outsAt0_A m c t h (by omega) (by omega)]
  frame_out
  exact first_at _ _ j

theorem scr_B (c : Dev nD) (t : Fin cfg0.N) (h : ¬ t.val % 4 = 0) (j : S1408x1024.Idx) :
    (outsAt0 m c t.val t.isLt).2.2 j = (outsAt0 m c (t.val - 1) (Nat.lt_of_le_of_lt (Nat.sub_le _ _) t.isLt)).2.2 j
      + k0_pay1 (F := Ideal) (iblk m c 0 t) (iblk m c 1 t) j := by
  by_cases h2 : t.val % 4 = 3
  · by_cases h3 : t.val % 8 = 3
    · rw [outsAt0_C m c t h (by omega) h2 h3]
      frame_out
      rw [acc_at, read_scratch]
    · rw [outsAt0_D m c t h (by omega) h2 h3]
      frame_out
      rw [acc_at, read_scratch]
  · rw [outsAt0_B m c t h (by omega) h2]
    frame_out
    rw [acc_at, read_scratch]

theorem idx : ∀ t : Fin cfg0.N, win0_0.index t = ![t.val % 4, t.val / 4] ∧ win0_1.index t = ![t.val % 4, 0]
    ∧ win0_2.index t = ![0, 0] ∧ win0_3.index t = ![t.val / 4, 0] ∧ win0_4.index t = ![t.val / 4, 0] ∧ win0_5.index t = ![0, 0] :=
  (by decide +kernel : ∀ t : Fin grid0.N, _)

/-- The saved activations, the cotangent, the gate and the output weights as the call receives them. -/
abbrev actIn (c : Dev nD) : FVec Ideal S8192x2816 .bf16 := V m c main_v33
abbrev cotIn (c : Dev nD) : FVec Ideal S8192x1024 .f32 := V m c main_arg0
abbrev gateIn (c : Dev nD) : FVec Ideal S1x1024 .f32 := V m c main_v37
abbrev wIn (c : Dev nD) : FVec Ideal S2816x1024 .bf16 := V m c main_v35

theorem act_blk (c : Dev nD) (t : Fin cfg0.N) (k : Fin 2048) (l : Fin 1408) (s : Fin 8192) (a : Fin 2816)
    (hs : (s : ℕ) = t.val % 4 * 2048 + k) (ha : (a : ℕ) = t.val / 4 * 1408 + l) :
    iblk m c 0 t (ix2 k l) = actIn m c (ix2 s a) := by
  blk_point [iblk, idx t]

theorem cot_blk (c : Dev nD) (t : Fin cfg0.N) (k : Fin 2048) (b : Fin 1024) (s : Fin 8192)
    (hs : (s : ℕ) = t.val % 4 * 2048 + k) : iblk m c 1 t (ix2 k b) = cotIn m c (ix2 s b) := by
  blk_point [iblk, idx t]

/-- The accumulator at the last point of a run of four: the product over all 8192 rows, at this run's columns. -/
theorem scr_last (c : Dev nD) (t : Fin cfg0.N) (h : t.val % 4 = 3) (l : Fin 1408) (b : Fin 1024) (a : Fin 2816)
    (ha : (a : ℕ) = t.val / 4 * 1408 + l) :
    (outsAt0 m c t.val t.isLt).2.2 (ix2 l b) = ∑ s : Fin 8192, actIn m c (ix2 s a) * cotIn m c (ix2 s b) := by
  rw [Pipeline.eq_sum_fin_of_reset_step_apply_of_flush (fun n h => (outsAt0 m c n h).2.2) 4 (fun _ => 0) _
    (fun t h j => scr_A m c t h j) (fun t h j => scr_B m c t h j) t h (ix2 l b), zero_add]
  simp only [prod_at]
  refine Fin.sum_mul_add_congr fun s k hl => ?_
  have hN : t.val < 8 := lt_of_lt_of_eq t.isLt N_0
  have e1 : (4 * (t.val / 4) + s.val) % 4 = s.val := by omega
  have e2 : (4 * (t.val / 4) + s.val) / 4 = t.val / 4 := by omega
  have hs := act_blk m c ⟨_, Pipeline.run_point_lt_of_flush t h s⟩ k l ⟨_, hl⟩ a (by simp only [e1]) (by simp only [e2]; exact ha)
  have hd := cot_blk m c ⟨_, Pipeline.run_point_lt_of_flush t h s⟩ k b ⟨_, hl⟩ (by simp only [e1])
  exact Ideal.mul_congr hs hd

theorem zeros_at (j : S8x1024.Idx) : k0_pay4 (F := Ideal) j = 0 := by
  pointwise [k0_pay4]

theorem w_blk (c : Dev nD) (t : Fin cfg0.N) (l : Fin 1408) (b : Fin 1024) (a : Fin 2816)
    (ha : (a : ℕ) = t.val / 4 * 1408 + l) : iblk m c 3 t (ix2 l b) = wIn m c (ix2 a b) := by
  blk_point [iblk, idx t]

theorem gate_blk (c : Dev nD) (t : Fin cfg0.N) (b : Fin 1024) : iblk m c 2 t (ix2 0 b) = gateIn m c (ix2 0 b) := by
  blk_point [iblk, idx t]

/-- The column sums of the accumulator against the weights, added at the last point of a run. -/
theorem colsum_last (c : Dev nD) (t : Fin cfg0.N) (h : t.val % 4 = 3) (b : Fin 1024) (f : Fin 1408 → Fin 2816)
    (hf : ∀ k, (f k : ℕ) = t.val / 4 * 1408 + k) :
    ∑ k : Fin 1408, (outsAt0 m c t.val t.isLt).2.2 (ix2 k b) * iblk m c 3 t (ix2 k b)
      = ∑ k : Fin 1408, (∑ s : Fin 8192, actIn m c (ix2 s (f k)) * cotIn m c (ix2 s b)) * wIn m c (ix2 (f k) b) :=
  Finset.sum_congr rfl fun k _ => Ideal.mul_congr (scr_last m c t h k b (f k) (hf k)) (w_blk m c t k b (f k) (hf k))

theorem outC_5 (c : Dev nD) (t : Fin cfg0.N) (h : t.val % 8 = 3) (r : Fin 8) (b : Fin 1024) :
    (outsAt0 m c t.val t.isLt).2.1 (ix2 r b) = if r.val = 0 then
      ∑ k : Fin 1408, (outsAt0 m c t.val t.isLt).2.2 (ix2 k b) * iblk m c 3 t (ix2 k b) else 0 := by
  rw [outsAt0_C m c t (by omega) (by omega) (by omega) h]
  frame_out
  split_ifs with hr
  · rw [Rows.canon_rows_of_mem (ms0_5 t).view 0 _ _ _ _ (ix2 0 b) (by simp [hr]) (by simp), colsum_at, View.readCov_eq_canon', View.canon_cons_unit_lit]
    · exact (congrArg (· + _) (zeros_at _)).trans (zero_add _)
    · decide
  · rw [Rows.canon_rows_of_not_mem (ms0_5 t).view 0 _ _ _ _ (Or.inr (by show 1 ≤ r.val; omega)), View.canon_cons_unit_lit, zeros_at]
    decide

theorem outD_5 (c : Dev nD) (t : Fin cfg0.N) (h : t.val % 8 = 7) (r : Fin 8) (b : Fin 1024) :
    (outsAt0 m c t.val t.isLt).2.1 (ix2 r b) = (outsAt0 m c (t.val - 1) (Nat.lt_of_le_of_lt (Nat.sub_le _ _) t.isLt)).2.1 (ix2 r b)
      + if r.val = 0 then
      ∑ k : Fin 1408, (outsAt0 m c t.val t.isLt).2.2 (ix2 k b) * iblk m c 3 t (ix2 k b) else 0 := by
  rw [outsAt0_D m c t (by omega) (by omega) (by omega) (by omega)]
  frame_out
  split_ifs with hr
  · rw [Rows.read_rows_of_mem (ms0_5 t).view _ 0 _ _ _ _ (ix2 0 b) (by simp [hr]) (by simp), colsum_at]
    congr 1
    exact View.ld_unit_apply_of _ _ _ _ _ _ fun a => match a with
      | ⟨0, _⟩ => hr
      | ⟨1, _⟩ => (Nat.zero_add _).symm
  · rw [Rows.read_rows_of_not_mem (ms0_5 t).view _ 0 _ _ _ _ (Or.inr (by show 1 ≤ r.val; omega)), add_zero, View.writes_nil, Memref.IsWhole.read_unread]

theorem keep_5 (c : Dev nD) (t : Fin cfg0.N) (h : ¬ t.val % 4 = 3) (ht : t.val ≠ 0) (r : Fin 8) (b : Fin 1024) :
    (outsAt0 m c t.val t.isLt).2.1 (ix2 r b) = (outsAt0 m c (t.val - 1) (Nat.lt_of_le_of_lt (Nat.sub_le _ _) t.isLt)).2.1 (ix2 r b) := by
  by_cases h0 : t.val % 4 = 0
  · rw [outsAt0_A m c t h0 (by omega) (by omega)]
    rfl
  · rw [outsAt0_B m c t h0 (by omega) (by omega)]
    rfl

theorem out_4 (c : Dev nD) (t : Fin cfg0.N) (h : t.val % 4 = 3) (j : S1408x1024.Idx) :
    (outsAt0 m c t.val t.isLt).1 j = (outsAt0 m c t.val t.isLt).2.2 j * iblk m c 2 t (ix2 0 (j 1)) := by
  by_cases h3 : t.val % 8 = 3
  · rw [outsAt0_C m c t (by omega) (by omega) h h3]
    frame_out
    exact gated_at _ _ j
  · rw [outsAt0_D m c t (by omega) (by omega) h h3]
    frame_out
    exact gated_at _ _ j

end Cert.Proof.GradOut

end
-- ==== Proof.Grad.lean ====
/- The two arrays the gated weight-gradient kernel returns, as sums over the whole arrays it receives. -/
module

public import proofs.«01_k».proof.Proof.Acc

@[expose] public section

set_option maxRecDepth 16384

noncomputable section

namespace Cert.Proof.GradOut

open Idealize.ShloMosaic Cert.KernelIdeal Cert.KernelIdeal.Gen

variable (m : (ℓ : Loc nD τ sig) → Buf (Elt Ideal) ℓ)

/-- The weight gradient the call returns: the product scaled, column by column, by the gate. -/
def gradW (x : FVec Ideal S8192x2816 .bf16) (d : FVec Ideal S8192x1024 .f32) (g : FVec Ideal S1x1024 .f32) : FVec Ideal S2816x1024 .bf16 :=
  fun i => (∑ s : Fin 8192, x (ix2 s (i 0)) * d (ix2 s (i 1))) * g (ix2 0 (i 1))

/-- The gate gradient the call returns: the product's column sums against the weights in row 0, zeros below. -/
def gradG (x : FVec Ideal S8192x2816 .bf16) (d : FVec Ideal S8192x1024 .f32) (w : FVec Ideal S2816x1024 .bf16) : FVec Ideal S8x1024 .f32 :=
  fun i => if (i 0 : ℕ) = 0 then
    ∑ k : Fin 2816, (∑ s : Fin 8192, x (ix2 s k) * d (ix2 s (i 1))) * w (ix2 k (i 1)) else 0

theorem gradW_at (x : FVec Ideal S8192x2816 .bf16) (d : FVec Ideal S8192x1024 .f32) (g : FVec Ideal S1x1024 .f32) (a : Fin 2816)
    (b : Fin 1024) : gradW x d g (ix2 a b) = (∑ s : Fin 8192, x (ix2 s a) * d (ix2 s b)) * g (ix2 0 b) := rfl

theorem gradG_at (x : FVec Ideal S8192x2816 .bf16) (d : FVec Ideal S8192x1024 .f32) (w : FVec Ideal S2816x1024 .bf16) (r : Fin 8)
    (b : Fin 1024) : gradG x d w (ix2 r b) = if (r : ℕ) = 0 then
      ∑ k : Fin 2816, (∑ s : Fin 8192, x (ix2 s k) * d (ix2 s b)) * w (ix2 k b) else 0 := rfl

theorem G4_eq (c : Dev nD) : Value.G4 m c = gradW (actIn m c) (cotIn m c) (gateIn m c) := by
  rw [← Value.final4]
  refine (dats m 0 c).arrAt_eq_of_covers 4 _ (by decide +kernel) fun t hf y => ?_
  have hN : t.val < 8 := lt_of_lt_of_eq t.isLt N_0
  have h := (flush0_4 t).mp hf
  idx_vars y
  have he : (win0_4.blk t).view.emb (ix2 y0 y1) = ix2 ⟨t.val / 4 * 1408 + y0.val, by omega⟩ y1 := by
    blk_ext [idx t]
  blk_simp
  rw [after0_4, out_4 m c t h, he]
  exact Ideal.mul_congr (scr_last m c t h y0 y1 _ rfl) (gate_blk m c t y1)

/-- After the last point, row 0 holds both runs' column sums and the other rows zeros. -/
theorem last_5 (c : Dev nD) (t : Fin cfg0.N) (h : t.val = 7) (r : Fin 8) (b : Fin 1024) :
    (outsAt0 m c t.val t.isLt).2.1 (ix2 r b) = gradG (actIn m c) (cotIn m c) (wIn m c) (ix2 r b) := by
  obtain ⟨_, ht⟩ := t
  subst h
  have h6 := keep_5 m c ⟨6, by omega⟩ (by norm_num) (by norm_num) r b
  have h5 := keep_5 m c ⟨5, by omega⟩ (by norm_num) (by norm_num) r b
  have h4 := keep_5 m c ⟨4, by omega⟩ (by norm_num) (by norm_num) r b
  have h7 := outD_5 m c ⟨7, ht⟩ (by norm_num) r b
  have h3 := outC_5 m c ⟨3, by omega⟩ (by norm_num) r b
  refine h7.trans ?_
  rw [show (outsAt0 m c (7 - 1) _).2.1 (ix2 r b) = _ from h6.trans (h5.trans (h4.trans h3))]
  rw [gradG_at]
  by_cases hr : r.val = 0
  · rw [if_pos hr, if_pos hr, if_pos hr]
    rw [colsum_last m c ⟨3, by omega⟩ (by norm_num) b (fun k => ⟨k.val, by omega⟩) (fun k => by simp),
      colsum_last m c ⟨7, by omega⟩ (by norm_num) b (fun k => ⟨1408 + k.val, by omega⟩) (fun k => by simp)]
    exact (Fin.sum_univ_add (a := 1408) (b := 1408) fun k : Fin 2816 =>
      (∑ s : Fin 8192, actIn m c (ix2 s k) * cotIn m c (ix2 s b)) * wIn m c (ix2 k b)).symm
  · rw [if_neg hr, if_neg hr, if_neg hr, add_zero]

theorem G5_eq (c : Dev nD) : Value.G5 m c = gradG (actIn m c) (cotIn m c) (wIn m c) := by
  rw [← Value.final5]
  refine (dats m 0 c).arrAt_eq_of_covers 5 _ (by decide +kernel) fun t hf y => ?_
  have hN : t.val < 8 := lt_of_lt_of_eq t.isLt N_0
  have h := (flush0_5 t).mp hf
  idx_vars y
  have he : (win0_5.blk t).view.emb (ix2 y0 y1) = ix2 y0 y1 := by
    blk_ext [idx t]
  blk_simp
  rw [after0_5, he]
  exact last_5 m c t (by omega) y0 y1

end Cert.Proof.GradOut

end
-- ==== Proof.Reals.lean ====
/- Extended reals that are real numbers: how the operations of the two programs act on them. -/
module

public import Idealize.ShloMosaic.Lib.Pointwise
public import Idealize.ShloMosaic.Lib.ReduceAll
public import Idealize.ShloMosaic.Lib.IdealHost
public import Idealize.ShloMosaic.PureOps.Ideal.Laws

@[expose] public section

noncomputable section

namespace Cert.Proof.Reals

open Idealize.ShloMosaic

theorem coe_sum {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem div_real (a : ℝ) {b : ℝ} (h : b ≠ 0) : Ideal.div (a : EReal) (b : EReal) = ((a / b : ℝ) : EReal) := by
  rw [Ideal.div_coe h, ← EReal.coe_mul, mul_one_div]

theorem rsqrt_real {a : ℝ} (h : 0 < a) : Ideal.rsqrt (a : EReal) = (((Real.sqrt a)⁻¹ : ℝ) : EReal) := by
  rw [Ideal.rsqrt_coe, if_neg (not_lt.mpr h.le), if_neg h.ne']

/-- The square root's small constant and the row length, as real numbers. -/
def eps : ℝ := (8796093 : ℝ) * 2 ^ (-43 : ℤ)

theorem eps_pos : 0 < eps := by unfold eps; positivity

theorem eps_word : Ideal.ofBits .f32 0x358637BD#32 = (eps : EReal) := by
  unfold eps
  simp [Ideal.ofBits, Ideal.ieee]

theorem n1024_word : Ideal.ofBits .f32 0x44800000#32 = ((1024 : ℝ) : EReal) := by
  simp [Ideal.ofBits, Ideal.ieee]
  rw [← EReal.coe_mul]
  norm_num

theorem inv1024_word : Ideal.ofBits .f32 0x3A800000#32 = ((1 / 1024 : ℝ) : EReal) := by
  simp [Ideal.ofBits, Ideal.ieee]
  rw [← EReal.coe_mul]; norm_num

theorem neg_half_word : Ideal.ofBits .f32 0xBF000000#32 = ((-(1 / 2) : ℝ) : EReal) := by
  simp [Ideal.ofBits, Ideal.ieee]
  rw [← EReal.coe_mul]; norm_num

theorem inf_word : Ideal.ofBits .f32 0x7F800000#32 = (⊤ : EReal) := by
  simp [Ideal.ofBits, Ideal.ieee]

theorem one_word : Ideal.ofBits .f32 0x3F800000#32 = ((1 : ℝ) : EReal) := Ideal.ofBits_one_f32

theorem zero_word : Ideal.ofBits .f32 0x00000000#32 = ((0 : ℝ) : EReal) := Ideal.ofBits_zero_f32

/-- A value whose size compares below `+∞` is a real number. -/
theorem real_of_lt (x : EReal) (h : Ideal.cmp .olt (max x (-x)) ⊤ = 1#1) : ∃ r : ℝ, x = r := by
  induction x with
  | bot => simp [Ideal.cmp] at h
  | coe r => exact ⟨r, rfl⟩
  | top => simp [Ideal.cmp] at h

instance : Subsingleton (⟨0, ![]⟩ : Shape).Idx := ⟨fun _ _ => funext fun a => a.elim0⟩

/-- An array for which `jnp.all(jnp.abs(a) < jnp.inf)` came out true holds real numbers. -/
theorem all_real {s u : Shape} {axes : List (Fin s.rank)} (x y : FVec Ideal s .f32) (hy : ∀ i, y i = (⊤ : EReal)) (init : IVec u 1)
    (h : s.ReducesTo axes (⟨0, ![]⟩ : Shape)) (hu : 0 < u.numel) (j : (⟨0, ![]⟩ : Shape).Idx)
    (e : Host.reduce IntOp.andi (cmpf .olt (Host.absf x) y) init h hu j = 1#1) : ∀ i, ∃ r : ℝ, x i = (r : EReal) := fun i => by
  have := Host.reduce_andi_all _ _ h hu j e i
  refine real_of_lt (x i) ?_
  rw [← hy i]
  exact this

end Cert.Proof.Reals

end
-- ==== Proof.Forward.lean ====
/- The feed-forward part of the forward pass, one row at a time, in real numbers. -/
module

public import proofs.«01_k».proof.Proof.Reals

@[expose] public section

noncomputable section

namespace Cert.Proof.Fwd

open Cert.Proof.Reals

/-- The mean square of a row, plus the small constant. -/
def msq (x : Fin 1024 → ℝ) : ℝ := (∑ k, x k * x k) / 1024 + eps

theorem msq_pos (x : Fin 1024 → ℝ) : 0 < msq x :=
  add_pos_of_nonneg_of_pos (div_nonneg (Finset.sum_nonneg fun k _ => mul_self_nonneg (x k)) (by norm_num)) eps_pos

/-- The reciprocal root mean square. -/
def rstd (x : Fin 1024 → ℝ) : ℝ := (Real.sqrt (msq x))⁻¹

/-- The modulated normalised row. -/
def hrow (x g sc sh : Fin 1024 → ℝ) (k : Fin 1024) : ℝ := x k * rstd x * g k * (1 + sc k) + sh k

/-- A row times a matrix. -/
def lin {n p : ℕ} (h : Fin n → ℝ) (W : Fin n → Fin p → ℝ) (j : Fin p) : ℝ := ∑ k, h k * W k j

def sig (v : ℝ) : ℝ := 1 / (1 + Real.exp (-v))

theorem one_add_exp_ne (v : ℝ) : 1 + Real.exp (-v) ≠ 0 := (add_pos one_pos (Real.exp_pos _)).ne'

/-- The gate half and the other half of the widened row, and their gated product. -/
def gcol (j : Fin 2816) : Fin 5632 := ⟨j.val, by omega⟩
def ucol (j : Fin 2816) : Fin 5632 := ⟨2816 + j.val, by omega⟩

def act (p : Fin 5632 → ℝ) (j : Fin 2816) : ℝ := p (gcol j) * sig (p (gcol j)) * p (ucol j)

theorem msq_mul (x : Fin 1024 → ℝ) : (∑ k, x k * x k) * (1 / 1024) + eps = msq x := by
  rw [mul_one_div]; rfl

theorem rsqrt_row (x : Fin 1024 → ℝ) : Idealize.ShloMosaic.Ideal.rsqrt (((∑ k, x k * x k) * (1 / 1024) + eps : ℝ) : EReal) = (rstd x : EReal) := by
  rw [msq_mul, rsqrt_real (msq_pos x)]; rfl

theorem rstd_cube (x : Fin 1024 → ℝ) : rstd x * rstd x * rstd x = rstd x / msq x := by
  rw [rstd, div_eq_mul_inv, ← Real.sqrt_inv]
  rw [Real.mul_self_sqrt (inv_nonneg.mpr (msq_pos x).le), mul_comm]

/-- What a gradient `dn` at the normalised, scaled row gives at the row. -/
def dxrow (x g dn : Fin 1024 → ℝ) (k : Fin 1024) : ℝ :=
  rstd x * (dn k * g k) - x k * (rstd x * rstd x * rstd x) * ((∑ i, dn i * g i * x i) * (1 / 1024))

/-- The derivative of `v · sig v`. -/
def dsilu (v : ℝ) : ℝ := sig v * (1 + v * (1 - sig v))

/-- The arguments as real numbers. -/
structure Args where
  d : Fin 8192 → Fin 1024 → ℝ
  x : Fin 8192 → Fin 1024 → ℝ
  mod : Fin 8192 → ℝ
  g : Fin 1024 → ℝ
  wi : Fin 1024 → Fin 5632 → ℝ
  wo : Fin 2816 → Fin 1024 → ℝ

namespace Args
variable (A : Args)
def sh (k : Fin 1024) : ℝ := A.mod ⟨3072 + k.val, by omega⟩
def sc (k : Fin 1024) : ℝ := A.mod ⟨4096 + k.val, by omega⟩
def gate (k : Fin 1024) : ℝ := A.mod ⟨5120 + k.val, by omega⟩
def h (s : Fin 8192) : Fin 1024 → ℝ := hrow (A.x s) A.g A.sc A.sh
def pre (s : Fin 8192) : Fin 5632 → ℝ := lin (A.h s) A.wi
def a (s : Fin 8192) : Fin 2816 → ℝ := act (A.pre s)

/-- The gradients at the gated product, at its two factors' rows, and at the modulated row. -/
def da (s : Fin 8192) (j : Fin 2816) : ℝ := ∑ k, A.d s k * A.gate k * A.wo j k
def dg (s : Fin 8192) (j : Fin 2816) : ℝ := A.da s j * A.pre s (ucol j) * dsilu (A.pre s (gcol j))
def du (s : Fin 8192) (j : Fin 2816) : ℝ := A.da s j * (A.pre s (gcol j) * sig (A.pre s (gcol j)))
def dh (s : Fin 8192) (k : Fin 1024) : ℝ := (∑ j, A.dg s j * A.wi k (gcol j)) + ∑ j, A.du s j * A.wi k (ucol j)
def dn (s : Fin 8192) (k : Fin 1024) : ℝ := A.dh s k * (1 + A.sc k)
def dx (s : Fin 8192) (k : Fin 1024) : ℝ := A.d s k + rstd (A.x s) * (A.dn s k * A.g k)
  - A.x s k * (rstd (A.x s) * rstd (A.x s) * rstd (A.x s)) * ((∑ i, A.dn s i * A.g i * A.x s i) * (1 / 1024))
end Args

/-- Which of the four pieces a column of the widened row lies in. -/
def dffAt (A : Args) (s : Fin 8192) (q : Fin 5632) : ℝ := if h : q.val < 2816 then A.dg s ⟨q.val, h⟩ else A.du s ⟨q.val - 2816, by omega⟩

/-- What one row adds to row `r` of the accumulator: the gradients at the shift, at the scale and at the norm's weight. -/
def accAt (A : Args) (s : Fin 8192) (r : Fin 8) (q : Fin 1024) : ℝ :=
  if r.val = 0 then A.dh s q else if r.val = 1 then A.dh s q * (A.x s q * rstd (A.x s) * A.g q)
  else if r.val = 2 then A.dn s q * (A.x s q * rstd (A.x s)) else 0

open Idealize.ShloMosaic in
/-- The arguments of the step's feed-forward part hold real arrays. -/
structure Entries (A : Args) (X0 X1 : FVec Ideal (⟨2, ![8192, 1024]⟩ : Shape) .f32) (X2 X3 : FVec Ideal (⟨2, ![1, 8192]⟩ : Shape) .f32)
    (X4 : FVec Ideal (⟨2, ![1, 1024]⟩ : Shape) .f32) (X5 : FVec Ideal (⟨3, ![1, 1024, 5632]⟩ : Shape) .f32)
    (X6 : FVec Ideal (⟨3, ![1, 2816, 1024]⟩ : Shape) .f32) : Prop where
  d : ∀ s k, X0 (ix2 s k) = (A.d s k : EReal)
  x : ∀ s k, X1 (ix2 s k) = (A.x s k : EReal)
  mod : ∀ k, X2 (ix2 0 k) + X3 (ix2 0 k) = (A.mod k : EReal)
  g : ∀ k, X4 (ix2 0 k) = (A.g k : EReal)
  wi : ∀ k j, X5 (ix3 0 k j) = (A.wi k j : EReal)
  wo : ∀ j k, X6 (ix3 0 j k) = (A.wo j k : EReal)

end Cert.Proof.Fwd

end
-- ==== Proof.RefHost.lean ====
/- The reference's forward lines at an index, in real numbers. -/
module

public import proofs.«01_k».proof.Proof.Forward
public import proofs.«01_k».proof.Proof.Gen.ReferenceIdeal.Read

@[expose] public section

set_option maxRecDepth 16384

noncomputable section

namespace Cert.Proof.RefHost

open Idealize.ShloMosaic Cert.ReferenceIdeal Cert.ReferenceIdeal.Read Cert.Proof.Reals Cert.Proof.Fwd

variable (A : Args) (X0 X1 : FVec Ideal S8192x1024 .f32) (X2 X3 : FVec Ideal S1x8192 .f32) (X4 : FVec Ideal S1x1024 .f32)
  (X5 : FVec Ideal S1x1024x5632 .f32) (X6 : FVec Ideal S1x2816x1024 .f32)

theorem h_at (h1 : ∀ s k, X1 (ix2 s k) = (A.x s k : EReal)) (h23 : ∀ k, X2 (ix2 0 k) + X3 (ix2 0 k) = (A.mod k : EReal))
    (h4 : ∀ k, X4 (ix2 0 k) = (A.g k : EReal)) (s : Fin 8192) (k : Fin 1024) :
    val_main_v26 (F := Ideal) X1 X2 X3 X4 (ix2 s k) = (A.h s k : EReal) := by
  pointwise [val_main_v26, val_main_v25, val_main_v24, val_main_v23, val_main_v22, val_main_v21, val_main_v20, val_main_v19,
    val_main_v18, val_main_v17, val_main_v16, val_main_v15, val_main_v14, val_main_v13, val_main_v12, val_main_v11, val_main_v10,
    val_main_v9, val_main_v4, val_main_v5, val_main_v0, val_main_cst, val_main_cst_0, val_main_cst_1, val_main_cst_2]
  simp only [h1, h23, h4, n1024_word, eps_word, ← EReal.coe_mul, coe_sum, div_real _ (show (1024 : ℝ) ≠ 0 by norm_num),
    ← EReal.coe_add, ← EReal.coe_one]
  rw [show (∑ x, A.x s x * A.x s x) / 1024 + eps = msq (A.x s) from rfl, rsqrt_real (msq_pos _)]
  simp only [← EReal.coe_mul, ← EReal.coe_add]
  rfl

theorem a_at (h : ∀ s k, val_main_v26 (F := Ideal) X1 X2 X3 X4 (ix2 s k) = (A.h s k : EReal))
    (h5 : ∀ k j, X5 (ix3 0 k j) = (A.wi k j : EReal)) (s : Fin 8192) (j : Fin 2816) :
    val_main_v32 (F := Ideal) X1 X2 X3 X4 X5 (ix2 s j) = (A.a s j : EReal) := by
  pointwise [val_main_v32, val_main_v31, val_main_v30, val_main_v29, val_main_v28, val_main_v27, val_main_call0_v0, val_main_call0_v1,
    val_main_call0_v2, val_main_call0_v3, val_main_call0_v4, val_main_call0_v5, val_main_call0_cst, val_main_call0_cst_0]
  simp only [h, h5, ← EReal.coe_mul, coe_sum, ← EReal.coe_neg, Ideal.exp_coe, ← EReal.coe_add, ← EReal.coe_one, div_real _ (one_add_exp_ne _)]
  rfl

theorem dw_at (h0 : ∀ s k, X0 (ix2 s k) = (A.d s k : EReal)) (h23 : ∀ k, X2 (ix2 0 k) + X3 (ix2 0 k) = (A.mod k : EReal))
    (ha : ∀ s j, val_main_v32 (F := Ideal) X1 X2 X3 X4 X5 (ix2 s j) = (A.a s j : EReal)) (j : Fin 2816) (k : Fin 1024) :
    val_main_v44 (F := Ideal) X0 X1 X2 X3 X4 X5 (ix2 j k) = ((∑ s, A.gate k * A.d s k * A.a s j : ℝ) : EReal) := by
  pointwise [val_main_v44, val_main_v43, val_main_v42, val_main_v38, val_main_v37, val_main_v6, val_main_v0]
  simp only [h0, h23, ha, ← EReal.coe_mul, coe_sum]
  rfl

theorem dg_at (h0 : ∀ s k, X0 (ix2 s k) = (A.d s k : EReal)) (h6 : ∀ j k, X6 (ix3 0 j k) = (A.wo j k : EReal))
    (ha : ∀ s j, val_main_v32 (F := Ideal) X1 X2 X3 X4 X5 (ix2 s j) = (A.a s j : EReal)) (r : Fin 8) (k : Fin 1024) :
    val_main_v46 (F := Ideal) X0 X1 X2 X3 X4 X5 X6 (ix2 r k)
      = if (r : ℕ) = 0 then ((∑ s, A.d s k * ∑ j, A.a s j * A.wo j k : ℝ) : EReal) else 0 := by
  pointwise [val_main_v46, val_main_v45, val_main_cst_4, val_main_v41, val_main_v40, val_main_v39, val_main_v34, val_main_v33, val_main_cst_3]
  simp only [h0, h6, ha, ← EReal.coe_mul, coe_sum, dite_eq_ite, Nat.lt_one_iff]

end Cert.Proof.RefHost

end
-- ==== Proof.Finite.lean ====
/- What the precondition says of the first pair's arguments: every entry of each is a real number. -/
module

public import proofs.«01_k».proof.Defs
public import proofs.«01_k».proof.Proof.Forward

@[expose] public section

set_option maxRecDepth 16384

noncomputable section

namespace Cert.Proof.Finite

open Idealize.ShloMosaic Cert.Proof.Reals Cert.Pre_finite

instance facts : Cert.Pre_finite.Facts where
  bcast_S_S8192x1024 := by decide
  reducesTo_S8192x1024_S_d0_1 := by decide
  h_S_ := by decide
  bcast_S_S1x8192 := by decide
  reducesTo_S1x8192_S_d0_1 := by decide
  bcast_S_S1x1024 := by decide
  reducesTo_S1x1024_S_d0_1 := by decide
  bcast_S_S1x1024x5632 := by decide
  reducesTo_S1x1024x5632_S_d0_1_2 := by decide
  bcast_S_S1x2816x1024 := by decide
  reducesTo_S1x2816x1024_S_d0_1_2 := by decide

theorem and_one {a b : IVec S_ 1} {j : S_.Idx} (h : andi a b j = 1#1) : a j = 1#1 ∧ b j = 1#1 :=
  IntOp.andi_eq_one.mp h

variable (X0 X1 : FVec Ideal S8192x1024 .f32) (X2 X3 : FVec Ideal S1x8192 .f32) (X4 : FVec Ideal S1x1024 .f32)
  (X5 : FVec Ideal S1x1024x5632 .f32) (X6 : FVec Ideal S1x2816x1024 .f32)

/-- Real entries: a real array that the vector's entries are. -/
def RealVec {s : Shape} (X : FVec Ideal s .f32) : Prop := ∃ f : s.Idx → ℝ, ∀ i, X i = (f i : EReal)

theorem realVec_of {s : Shape} {X : FVec Ideal s .f32} (h : ∀ i, ∃ r : ℝ, X i = (r : EReal)) : RealVec X := by
  choose f hf using h
  exact ⟨f, hf⟩

theorem reals (j : S_.Idx) (h : Cert.Pre_finite.fn X0 X1 X2 X3 X4 X5 X6 j = 1#1) :
    RealVec X0 ∧ RealVec X1 ∧ RealVec X2 ∧ RealVec X3 ∧ RealVec X4 ∧ RealVec X5 ∧ RealVec X6 := by
  obtain ⟨h, h6⟩ := and_one h
  obtain ⟨h, h5⟩ := and_one h
  obtain ⟨h, h4⟩ := and_one h
  obtain ⟨h, h3⟩ := and_one h
  obtain ⟨h, h2⟩ := and_one h
  obtain ⟨h0, h1⟩ := and_one h
  exact ⟨realVec_of (all_real X0 _ (fun _ => inf_word) _ _ _ _ h0), realVec_of (all_real X1 _ (fun _ => inf_word) _ _ _ _ h1),
    realVec_of (all_real X2 _ (fun _ => inf_word) _ _ _ _ h2), realVec_of (all_real X3 _ (fun _ => inf_word) _ _ _ _ h3),
    realVec_of (all_real X4 _ (fun _ => inf_word) _ _ _ _ h4), realVec_of (all_real X5 _ (fun _ => inf_word) _ _ _ _ h5),
    realVec_of (all_real X6 _ (fun _ => inf_word) _ _ _ _ h6)⟩

/-- Arguments of real numbers hold real arrays. -/
theorem entries_of {X0 X1 : FVec Ideal S8192x1024 .f32} {X2 X3 : FVec Ideal S1x8192 .f32} {X4 : FVec Ideal S1x1024 .f32}
    {X5 : FVec Ideal S1x1024x5632 .f32} {X6 : FVec Ideal S1x2816x1024 .f32} (e : RealVec X0 ∧ RealVec X1 ∧ RealVec X2 ∧ RealVec X3 ∧ RealVec X4 ∧ RealVec X5 ∧ RealVec X6) :
    ∃ A, Cert.Proof.Fwd.Entries A X0 X1 X2 X3 X4 X5 X6 := by
  obtain ⟨⟨f0, e0⟩, ⟨f1, e1⟩, ⟨f2, e2⟩, ⟨f3, e3⟩, ⟨f4, e4⟩, ⟨f5, e5⟩, ⟨f6, e6⟩⟩ := e
  exact ⟨⟨fun s k => f0 (ix2 s k), fun s k => f1 (ix2 s k), fun k => f2 (ix2 0 k) + f3 (ix2 0 k), fun k => f4 (ix2 0 k), fun k j => f5 (ix3 0 k j),
    fun j k => f6 (ix3 0 j k)⟩, fun s k => e0 _, fun s k => e1 _, fun k => by rw [e2, e3, ← EReal.coe_add], fun k => e4 _, fun k j => e5 _, fun j k => e6 _⟩

end Cert.Proof.Finite

end
-- ==== Proof.Pair.lean ====
/- The gated weight gradient against the derivative of the forward lines: both programs' results as the same real sums. -/
module

public import proofs.«01_k».proof.Proof.Grad
public import proofs.«01_k».proof.Proof.RefHost
public import proofs.«01_k».proof.Proof.Finite
public import proofs.«01_k».proof.Proof.Gen.ReferenceIdeal
public import proofs.«01_k».proof.Proof.Gen.ReferenceIdeal.Run

@[expose] public section

set_option maxRecDepth 16384

noncomputable section

namespace Cert.Proof.Pair

open Idealize.ShloMosaic Idealize.SL.Sem Cert.Proof.Reals Cert.Proof.Fwd Cert.Proof.RefHost Cert.Proof.Finite

section entry
open Cert.KernelIdeal Cert.KernelIdeal.Gen Cert.Proof.GradOut
variable (m : (ℓ : Loc nD τ sig) → Buf (Elt Ideal) ℓ) (c : Dev nD)

theorem act_in (i : S8192x2816.Idx) : actIn m c i = Cert.ReferenceIdeal.Read.val_main_v32 (F := Ideal) (m (c.tc.loc main_arg1)) (m (c.tc.loc main_arg2))
    (m (c.tc.loc main_arg3)) (m (c.tc.loc main_arg4)) (m (c.tc.loc main_arg5)) i := rfl

theorem gate_in : gateIn m c = Cert.ReferenceIdeal.Read.val_main_v6 (F := Ideal) (m (c.tc.loc main_arg2)) (m (c.tc.loc main_arg3)) := rfl

theorem w_in : wIn m c = Cert.ReferenceIdeal.Read.val_main_v33 (F := Ideal) (m (c.tc.loc main_arg6)) := rfl

variable (X0 X1 : FVec Ideal S8192x1024 .f32) (X2 X3 : FVec Ideal S1x8192 .f32) (X4 : FVec Ideal S1x1024 .f32)
  (X5 : FVec Ideal S1x1024x5632 .f32) (X6 : FVec Ideal S1x2816x1024 .f32)

theorem values {A : Args} (E : Entries A X0 X1 X2 X3 X4 X5 X6) :
    Cert.ReferenceIdeal.Read.val_main_v44 (F := Ideal) X0 X1 X2 X3 X4 X5
      = gradW (Cert.ReferenceIdeal.Read.val_main_v32 (F := Ideal) X1 X2 X3 X4 X5) X0 (Cert.ReferenceIdeal.Read.val_main_v6 (F := Ideal) X2 X3)
    ∧ Cert.ReferenceIdeal.Read.val_main_v46 (F := Ideal) X0 X1 X2 X3 X4 X5 X6
      = gradG (Cert.ReferenceIdeal.Read.val_main_v32 (F := Ideal) X1 X2 X3 X4 X5) X0 (Cert.ReferenceIdeal.Read.val_main_v33 (F := Ideal) X6) := by
  obtain ⟨h0, h1, h23, h4, h5, h6⟩ := E
  have hh := h_at A X1 X2 X3 X4 h1 h23 h4
  have ha := a_at A X1 X2 X3 X4 X5 hh h5
  have hg : ∀ k, Cert.ReferenceIdeal.Read.val_main_v6 (F := Ideal) X2 X3 (ix2 0 k) = (A.gate k : EReal) := fun k => by
    pointwise [Cert.ReferenceIdeal.Read.val_main_v6, Cert.ReferenceIdeal.Read.val_main_v0]
    rw [h23]; rfl
  have hw : ∀ j k, Cert.ReferenceIdeal.Read.val_main_v33 (F := Ideal) X6 (ix2 j k) = (A.wo j k : EReal) := fun j k => by
    pointwise [Cert.ReferenceIdeal.Read.val_main_v33]
    rw [h6]
  constructor
  · funext i
    idx_vars i
    rw [dw_at A X0 X1 X2 X3 X4 X5 h0 h23 ha, gradW_at]
    simp only [ha, h0, hg, ← EReal.coe_mul, coe_sum]
    rw [Finset.sum_mul]
    exact congrArg _ (Finset.sum_congr rfl fun s _ => by ring)
  · funext i
    idx_vars i
    rw [dg_at A X0 X1 X2 X3 X4 X5 X6 h0 h6 ha, gradG_at]
    simp only [ha, h0, hw, ← EReal.coe_mul, coe_sum]
    congr 2
    simp only [Finset.mul_sum, Finset.sum_mul]
    rw [Finset.sum_comm]
    exact Finset.sum_congr rfl fun k _ => Finset.sum_congr rfl fun s _ => by ring
end entry

end Cert.Proof.Pair

end
-- ==== Proof.FfnBwd.lean ====
/- What one point of the feed-forward gradient kernel stores, in real numbers. -/
module

public import proofs.«01_k».proof.Proof.Gen.Kernel2Ideal.Value
public import proofs.«01_k».proof.Proof.Rows
public import proofs.«01_k».proof.Proof.Forward

@[expose] public section

set_option maxRecDepth 16384

noncomputable section

namespace Cert.Proof.FfnBwd

open Idealize.ShloMosaic Cert.Kernel2Ideal Cert.Kernel2Ideal.Gen Cert.Proof.Fwd Cert.Proof.Reals
variable (m : (ℓ : Loc nD τ sig) → Buf (Elt Ideal) ℓ)

/-- Row `r` of the block of point `t`. -/
def row (t : ℕ) (ht : t < 16) (r : Fin 512) : Fin 8192 := ⟨t * 512 + r.val, by omega⟩

/-- The blocks of a point hold the rows `row t` of real arrays. -/
structure Blocks (A : Args) (f : Fin 512 → Fin 8192) (x0 x1 : FVec Ideal S512x1024 .f32) (x2 x3 : FVec Ideal S512x2816 .bf16) (x4 x5 : FVec Ideal S1x8192 .f32)
    (x6 : FVec Ideal S1x1024 .f32) (x7 : FVec Ideal S4x1024x1408 .bf16) (x8 : FVec Ideal S2816x1024 .bf16) : Prop where
  d : ∀ r k, x0 (ix2 r k) = (A.d (f r) k : EReal)
  x : ∀ r k, x1 (ix2 r k) = (A.x (f r) k : EReal)
  g : ∀ r j, x2 (ix2 r j) = (A.pre (f r) (gcol j) : EReal)
  u : ∀ r j, x3 (ix2 r j) = (A.pre (f r) (ucol j) : EReal)
  mod : ∀ k, x4 (ix2 0 k) + x5 (ix2 0 k) = (A.mod k : EReal)
  n : ∀ k, x6 (ix2 0 k) = (A.g k : EReal)
  wi0 : ∀ k j, x7 (ix3 0 k j) = (A.wi k ⟨j.val, by omega⟩ : EReal)
  wi1 : ∀ k j, x7 (ix3 1 k j) = (A.wi k ⟨1408 + j.val, by omega⟩ : EReal)
  wi2 : ∀ k j, x7 (ix3 2 k j) = (A.wi k ⟨2816 + j.val, by omega⟩ : EReal)
  wi3 : ∀ k j, x7 (ix3 3 k j) = (A.wi k ⟨4224 + j.val, by omega⟩ : EReal)
  wo : ∀ j k, x8 (ix2 j k) = (A.wo j k : EReal)

variable {A : Args} {f : Fin 512 → Fin 8192} {x0 x1 : FVec Ideal S512x1024 .f32} {x2 x3 : FVec Ideal S512x2816 .bf16} {x4 x5 : FVec Ideal S1x8192 .f32}
    {x6 : FVec Ideal S1x1024 .f32} {x7 : FVec Ideal S4x1024x1408 .bf16} {x8 : FVec Ideal S2816x1024 .bf16}

/-- The blocks of point `t` hold rows `f` of real arrays. -/
abbrev Holds (A : Args) (f : Fin 512 → Fin 8192) (c : Dev nD) (t : Fin cfg0.N) : Prop :=
  Blocks A f (iblk m c 0 t) (iblk m c 1 t) (iblk m c 2 t) (iblk m c 3 t) (iblk m c 4 t) (iblk m c 5 t) (iblk m c 6 t) (iblk m c 7 t) (iblk m c 8 t)

theorem dff_g {s s' : Fin 8192} {j : Fin 2816} {q : Fin 5632} (hs : s = s') (hq : q.val = j.val) : A.dg s j = dffAt A s' q := by
  subst hs
  rw [dffAt, dif_pos (by omega)]
  exact congrArg _ (Fin.ext hq.symm)

theorem dff_u {s s' : Fin 8192} {j : Fin 2816} {q : Fin 5632} (hs : s = s') (hq : q.val = 2816 + j.val) : A.du s j = dffAt A s' q := by
  subst hs
  rw [dffAt, dif_neg (by omega)]
  exact congrArg _ (Fin.ext (by simp [hq]))

theorem out9 (c : Dev nD) (t : Fin cfg0.N) (H : Holds m A f c t) (r : Fin 512) (q : Fin 5632) :
    (outsAt0 m c t.val t.isLt).1 (ix2 r q) = (dffAt A (f r) q : EReal) := by
  by_cases h0 : t.val % 16 = 0
  on_goal 1 => rw [outsAt0_A m c t h0]
  on_goal 2 => rw [outsAt0_B m c t h0]
  all_goals
    frame_out
    canon_tiles x e
  all_goals
    have e0' : q.val = _ := e1
    pointwise [k0_pay1, k0_pay2, k0_pay3, k0_pay4, k0_pay5, k0_pay6, k0_pay7,k0_pay8, k0_pay9, k0_pay10, k0_pay11, k0_pay12, k0_pay13, k0_pay14, k0_pay15, k0_pay16, k0_pay17,k0_pay18,
        k0_pay19, k0_pay20, k0_pay21, k0_pay22, k0_pay23, k0_pay24, k0_pay25, k0_pay26, k0_pay27, k0_pay28, k0_pay29, k0_pay30, k0_pay31, k0_pay32, k0_pay33, k0_pay34, k0_pay35,
       k0_pay36, k0_pay37,k0_pay38,k0_pay39,k0_pay40,k0_pay41,k0_pay42,k0_pay43,k0_pay44,k0_pay45,k0_pay46,k0_pay47,k0_pay48,k0_pay49,k0_pay50, k0_pay51, k0_pay52, k0_pay53, k0_pay54, k0_pay55]
    simp only [H.d, H.x, H.g, H.u, H.mod, H.n, H.wo, H.wi0, H.wi1, H.wi2, H.wi3, eps_word, inv1024_word, zero_sub, ← EReal.coe_mul, coe_sum, ← EReal.coe_neg, Ideal.exp_coe, ← EReal.coe_one, ← EReal.coe_zero, ← EReal.coe_add, div_real _ (one_add_exp_ne _), ← EReal.coe_sub, rsqrt_row]
    first
    | exact congrArg _ (dff_g (congrArg f (Fin.ext e0.symm)) e0')
    | exact congrArg _ (dff_u (congrArg f (Fin.ext e0.symm)) e0')
    | exact congrArg _ (dff_u (congrArg f (Fin.ext e0.symm)) (e0'.trans (Nat.add_assoc 2816 1408 _)))

/-- The gradient at the modulated row in the order the kernel adds its four products. -/
def dhK (A : Args) (s : Fin 8192) (k : Fin 1024) : ℝ :=
  (∑ j : Fin 1408, A.dg s ⟨j.val, by omega⟩ * A.wi k ⟨j.val, by omega⟩) + (∑ j : Fin 1408, A.du s ⟨j.val, by omega⟩ * A.wi k ⟨2816 + j.val, by omega⟩)
    + (∑ j : Fin 1408, A.dg s ⟨1408 + j.val, by omega⟩ * A.wi k ⟨1408 + j.val, by omega⟩)
    + ∑ j : Fin 1408, A.du s ⟨1408 + j.val, by omega⟩ * A.wi k ⟨4224 + j.val, by omega⟩

theorem dhK_eq (s : Fin 8192) (k : Fin 1024) : dhK A s k = A.dh s k := by
  rw [Args.dh, Fin.sum_univ_add (a := 1408) (b := 1408) fun j : Fin 2816 => A.dg s j * A.wi k (gcol j),
    Fin.sum_univ_add (a := 1408) (b := 1408) fun j : Fin 2816 => A.du s j * A.wi k (ucol j)]
  have h4 : ∀ j : Fin 1408, (⟨4224 + j.val, by omega⟩ : Fin 5632) = ucol (Fin.natAdd 1408 j) := fun j => Fin.ext (by simp [ucol]; omega)
  simp only [dhK, h4]
  rw [add_add_add_comm, ← add_assoc]
  rfl

theorem dx_eq {s s' : Fin 8192} {k k' : Fin 1024} (hs : s = s') (hk : k = k') :
    A.d s k + rstd (fun k => A.x s k) * (dhK A s k * (1 + A.mod ⟨4096 + k.val, by omega⟩) * A.g k)
      - A.x s k * (rstd (fun k => A.x s k) * rstd (fun k => A.x s k) * rstd (fun k => A.x s k))
        * ((∑ i, dhK A s i * (1 + A.mod ⟨4096 + i.val, by omega⟩) * A.g i * A.x s i) * (1 / 1024)) = A.dx s' k' := by
  subst hs hk
  simp only [dhK_eq]
  rfl

theorem out10 (c : Dev nD) (t : Fin cfg0.N) (H : Holds m A f c t) (r : Fin 512) (q : Fin 1024) :
    (outsAt0 m c t.val t.isLt).2.1 (ix2 r q) = (A.dx (f r) q : EReal) := by
  by_cases h0 : t.val % 16 = 0
  on_goal 1 => rw [outsAt0_A m c t h0]
  on_goal 2 => rw [outsAt0_B m c t h0]
  all_goals
    frame_out
    canon_tiles x e
  all_goals
    pointwise [k0_pay1, k0_pay2, k0_pay3, k0_pay4, k0_pay5, k0_pay6, k0_pay7,k0_pay8, k0_pay9, k0_pay10, k0_pay11, k0_pay12, k0_pay13, k0_pay14, k0_pay15, k0_pay16, k0_pay17,k0_pay18,
        k0_pay19, k0_pay20, k0_pay21, k0_pay22, k0_pay23, k0_pay24, k0_pay25, k0_pay26, k0_pay27, k0_pay28, k0_pay29, k0_pay30, k0_pay31, k0_pay32, k0_pay33, k0_pay34, k0_pay35,
       k0_pay36, k0_pay37,k0_pay38,k0_pay39,k0_pay40,k0_pay41,k0_pay42,k0_pay43,k0_pay44,k0_pay45,k0_pay46,k0_pay47,k0_pay48,k0_pay49,k0_pay50, k0_pay51, k0_pay52, k0_pay53, k0_pay54, k0_pay55]
    idx_vars x
    simp only [H.d, H.x, H.g, H.u, H.mod, H.n, H.wo, H.wi0, H.wi1, H.wi2, H.wi3, eps_word, inv1024_word, zero_sub, ← EReal.coe_mul, coe_sum, ← EReal.coe_neg, Ideal.exp_coe, ← EReal.coe_one, ← EReal.coe_zero, ← EReal.coe_add, div_real _ (one_add_exp_ne _), ← EReal.coe_sub, rsqrt_row]
    exact congrArg _ (dx_eq (congrArg f (Fin.ext e0.symm)) (Fin.ext e1.symm))

end Cert.Proof.FfnBwd

end
-- ==== Proof.FfnAcc.lean ====
module

public import proofs.«01_k».proof.Proof.FfnBwd

@[expose] public section

set_option maxRecDepth 16384

noncomputable section

namespace Cert.Proof.FfnBwd

open Idealize.ShloMosaic Cert.Kernel2Ideal Cert.Kernel2Ideal.Gen Cert.Proof.Fwd Cert.Proof.Reals
variable (m : (ℓ : Loc nD τ sig) → Buf (Elt Ideal) ℓ) {A : Args} {f : Fin 512 → Fin 8192}

theorem row0_at (a : FVec Ideal S256x1024 .f32) (p : FVec Ideal S1x1024 .f32) (q : Fin 1024) :
    k0_pay34 (F := Ideal) a p (ix2 0 q) = p (ix2 0 q) + ∑ i : Fin 256, a (ix2 i q) := by pointwise [k0_pay34]

theorem row0_at' (a : FVec Ideal S256x1024 .f32) (p : FVec Ideal S1x1024 .f32) (q : Fin 1024) :
    k0_pay1 (F := Ideal) a p (ix2 0 q) = p (ix2 0 q) + ∑ i : Fin 256, a (ix2 i q) := by pointwise [k0_pay1]

theorem row1_at (a b : FVec Ideal S256x1024 .f32) (g p : FVec Ideal S1x1024 .f32) (q : Fin 1024) :
    k0_pay35 (F := Ideal) a g b p (ix2 0 q) = p (ix2 0 q) + ∑ i : Fin 256, a (ix2 i q) * (b (ix2 i q) * g (ix2 0 q)) := by pointwise [k0_pay35]

theorem row1_at' (a b : FVec Ideal S256x1024 .f32) (g p : FVec Ideal S1x1024 .f32) (q : Fin 1024) :
    k0_pay2 (F := Ideal) a g b p (ix2 0 q) = p (ix2 0 q) + ∑ i : Fin 256, a (ix2 i q) * (b (ix2 i q) * g (ix2 0 q)) := by pointwise [k0_pay2]

theorem row2_at (a b : FVec Ideal S256x1024 .f32) (p : FVec Ideal S1x1024 .f32) (q : Fin 1024) :
    k0_pay36 (F := Ideal) a b p (ix2 0 q) = p (ix2 0 q) + ∑ i : Fin 256, b (ix2 i q) * a (ix2 i q) := by pointwise [k0_pay36]

theorem row2_at' (a b : FVec Ideal S256x1024 .f32) (p : FVec Ideal S1x1024 .f32) (q : Fin 1024) :
    k0_pay3 (F := Ideal) a b p (ix2 0 q) = p (ix2 0 q) + ∑ i : Fin 256, b (ix2 i q) * a (ix2 i q) := by pointwise [k0_pay3]

theorem sum512 (g : Fin 512 → ℝ) : (∑ i : Fin 256, g ⟨i.val, by omega⟩) + ∑ i : Fin 256, g ⟨256 + i.val, by omega⟩ = ∑ i, g i :=
  (Fin.sum_univ_add (a := 256) (b := 256) g).symm

theorem rows0 (q : Fin 1024) {r : Fin 8} (hr : r.val = 0) :
    (∑ i : Fin 256, dhK A (f ⟨i.val, by omega⟩) q) + ∑ i : Fin 256, dhK A (f ⟨256 + i.val, by omega⟩) q = ∑ i, accAt A (f i) r q := by
  rw [sum512 fun i => dhK A (f i) q]
  simp only [accAt, hr, dhK_eq, if_true]

theorem rows1 (q : Fin 1024) {r : Fin 8} (hr : r.val = 1) :
    (∑ i : Fin 256, dhK A (f ⟨i.val, by omega⟩) q * (A.x (f ⟨i.val, by omega⟩) q * rstd (fun k => A.x (f ⟨i.val, by omega⟩) k) * A.g q))
      + ∑ i : Fin 256, dhK A (f ⟨256 + i.val, by omega⟩) q * (A.x (f ⟨256 + i.val, by omega⟩) q * rstd (fun k => A.x (f ⟨256 + i.val, by omega⟩) k) * A.g q)
      = ∑ i, accAt A (f i) r q := by
  rw [sum512 fun i => dhK A (f i) q * (A.x (f i) q * rstd (fun k => A.x (f i) k) * A.g q)]
  simp only [accAt, hr, dhK_eq, if_true, if_neg one_ne_zero]

theorem rows2 (q : Fin 1024) {r : Fin 8} (hr : r.val = 2) :
    (∑ i : Fin 256, dhK A (f ⟨i.val, by omega⟩) q * (1 + A.mod ⟨4096 + q.val, by omega⟩) * (A.x (f ⟨i.val, by omega⟩) q * rstd (fun k => A.x (f ⟨i.val, by omega⟩) k)))
      + ∑ i : Fin 256, dhK A (f ⟨256 + i.val, by omega⟩) q * (1 + A.mod ⟨4096 + q.val, by omega⟩) * (A.x (f ⟨256 + i.val, by omega⟩) q * rstd (fun k => A.x (f ⟨256 + i.val, by omega⟩) k))
      = ∑ i, accAt A (f i) r q := by
  rw [sum512 fun i => dhK A (f i) q * (1 + A.mod ⟨4096 + q.val, by omega⟩) * (A.x (f i) q * rstd (fun k => A.x (f i) k))]
  simp only [accAt, hr, dhK_eq, if_true, if_neg (show ¬ (2 : ℕ) = 0 by decide), if_neg (show ¬ (2 : ℕ) = 1 by decide)]
  rfl

theorem out11A (c : Dev nD) (t : Fin cfg0.N) (h0 : t.val % 16 = 0) (H : Holds m A f c t) (r : Fin 8) (q : Fin 1024) :
    (outsAt0 m c t.val t.isLt).2.2 (ix2 r q) = ((∑ i, accAt A (f i) r q : ℝ) : EReal) := by
  rw [outsAt0_A m c t h0]
  frame_out
  obtain hr | hr | hr | ⟨h0, h1, h2⟩ : r.val = 0 ∨ r.val = 1 ∨ r.val = 2 ∨ (¬ r.val = 0 ∧ ¬ r.val = 1 ∧ ¬ r.val = 2) := by omega
  on_goal 4 =>
    simp (disch := assumption) only [Rows.canon_row_skip (ms0_11 t).view, View.canon_cons_unit_lit]
    simp only [accAt, h0, h1, h2, if_false, Finset.sum_const_zero]
    pointwise [k0_pay4]
  all_goals
    simp (disch := first | exact hr | (rw [hr]; decide) | decide) only [Rows.canon_row_mem (ms0_11 t).view, Rows.canon_row_skip (ms0_11 t).view, Rows.readCov_row,
      row0_at, row0_at', row1_at, row1_at', row2_at, row2_at', View.canon_cons_unit_lit]
    pointwise [k0_pay1, k0_pay2, k0_pay3, k0_pay4, k0_pay5, k0_pay6, k0_pay7,k0_pay8, k0_pay9, k0_pay10, k0_pay11, k0_pay12, k0_pay13, k0_pay14, k0_pay15, k0_pay16, k0_pay17,k0_pay18,
        k0_pay19, k0_pay20, k0_pay21, k0_pay22, k0_pay23, k0_pay24, k0_pay25, k0_pay26, k0_pay27, k0_pay28, k0_pay29, k0_pay30, k0_pay31, k0_pay32, k0_pay33, k0_pay34, k0_pay35,
       k0_pay36, k0_pay37,k0_pay38,k0_pay39,k0_pay40,k0_pay41,k0_pay42,k0_pay43,k0_pay44,k0_pay45,k0_pay46,k0_pay47,k0_pay48,k0_pay49,k0_pay50, k0_pay51, k0_pay52, k0_pay53, k0_pay54, k0_pay55]
    simp only [H.d, H.x, H.g, H.u, H.mod, H.n, H.wo, H.wi0, H.wi1, H.wi2, H.wi3, eps_word, inv1024_word, zero_sub, ← EReal.coe_mul, coe_sum, ← EReal.coe_neg, Ideal.exp_coe, ← EReal.coe_one, ← EReal.coe_zero, ← EReal.coe_add, div_real _ (one_add_exp_ne _), ← EReal.coe_sub, rsqrt_row]
  · exact congrArg _ (rows0 q hr)
  · exact congrArg _ (rows1 q hr)
  · exact congrArg _ (rows2 q hr)

theorem out11B (c : Dev nD) (t : Fin cfg0.N) (h0 : ¬ t.val % 16 = 0) (H : Holds m A f c t) (r : Fin 8) (q : Fin 1024) :
    (outsAt0 m c t.val t.isLt).2.2 (ix2 r q) = (outsAt0 m c (t.val - 1) (Nat.lt_of_le_of_lt (Nat.sub_le _ _) t.isLt)).2.2 (ix2 r q)
      + ((∑ i, accAt A (f i) r q : ℝ) : EReal) := by
  rw [outsAt0_B m c t h0]
  frame_out
  generalize (outsAt0 m c (t.val - 1) (Nat.lt_of_le_of_lt (Nat.sub_le _ _) t.isLt)).2.2 = Z
  obtain hr | hr | hr | ⟨h0, h1, h2⟩ : r.val = 0 ∨ r.val = 1 ∨ r.val = 2 ∨ (¬ r.val = 0 ∧ ¬ r.val = 1 ∧ ¬ r.val = 2) := by omega
  on_goal 4 =>
    simp (disch := assumption) only [Rows.read_row_skip (ms0_11 t).view, View.writes_nil, Memref.IsWhole.read_unread]
    simp only [accAt, h0, h1, h2, if_false, Finset.sum_const_zero, EReal.coe_zero, add_zero]
  all_goals
    simp (disch := first | exact hr | (rw [hr]; decide) | decide) only [Rows.read_row_mem (ms0_11 t).view, Rows.read_row_skip (ms0_11 t).view, Rows.ld_row, Rows.readCov_row,
      Rows.canon_row_mem (ms0_11 t).view, Rows.canon_row_skip (ms0_11 t).view,
      row0_at, row0_at', row1_at, row1_at', row2_at, row2_at', View.writes_nil, Memref.IsWhole.read_unread]
    pointwise [k0_pay1, k0_pay2, k0_pay3, k0_pay4, k0_pay5, k0_pay6, k0_pay7,k0_pay8, k0_pay9, k0_pay10, k0_pay11, k0_pay12, k0_pay13, k0_pay14, k0_pay15, k0_pay16, k0_pay17,k0_pay18,
        k0_pay19, k0_pay20, k0_pay21, k0_pay22, k0_pay23, k0_pay24, k0_pay25, k0_pay26, k0_pay27, k0_pay28, k0_pay29, k0_pay30, k0_pay31, k0_pay32, k0_pay33, k0_pay34, k0_pay35,
       k0_pay36, k0_pay37,k0_pay38,k0_pay39,k0_pay40,k0_pay41,k0_pay42,k0_pay43,k0_pay44,k0_pay45,k0_pay46,k0_pay47,k0_pay48,k0_pay49,k0_pay50, k0_pay51, k0_pay52, k0_pay53, k0_pay54, k0_pay55]
    simp only [H.d, H.x, H.g, H.u, H.mod, H.n, H.wo, H.wi0, H.wi1, H.wi2, H.wi3, eps_word, inv1024_word, zero_sub, ← EReal.coe_mul, coe_sum, ← EReal.coe_neg, Ideal.exp_coe, ← EReal.coe_one, ← EReal.coe_zero, ← EReal.coe_add, div_real _ (one_add_exp_ne _), ← EReal.coe_sub, rsqrt_row]
    rw [add_assoc, ← EReal.coe_add]
  · exact congrArg₂ (· + ·) (congrArg (fun i => Z (ix2 i q)) (Fin.ext hr.symm)) (congrArg _ (rows0 q hr))
  · exact congrArg₂ (· + ·) (congrArg (fun i => Z (ix2 i q)) (Fin.ext hr.symm)) (congrArg _ (rows1 q hr))
  · exact congrArg₂ (· + ·) (congrArg (fun i => Z (ix2 i q)) (Fin.ext hr.symm)) (congrArg _ (rows2 q hr))

end Cert.Proof.FfnBwd

end
-- ==== Proof.RefBwd.lean ====
/- The derivative of the feed-forward lines, as the reference program computes it, in real numbers. -/
module

public import proofs.«01_k».proof.Proof.Forward
public import proofs.«01_k».proof.Proof.Gen.Reference2Ideal.Read

@[expose] public section

set_option maxRecDepth 16384

noncomputable section

namespace Cert.Proof.RefBwd

open Idealize.ShloMosaic Cert.Reference2Ideal Cert.Reference2Ideal.Read Cert.Proof.Reals Cert.Proof.Fwd

variable {A : Args} {X0 X1 : FVec Ideal S8192x1024 .f32} {X2 X3 : FVec Ideal S1x8192 .f32} {X4 : FVec Ideal S1x1024 .f32}
  {X5 : FVec Ideal S1x1024x5632 .f32} {X6 : FVec Ideal S1x2816x1024 .f32} (E : Entries A X0 X1 X2 X3 X4 X5 X6)
include E

theorem ms_at (s : Fin 8192) : val_main_v15 (F := Ideal) X1 (ix2 s 0) = (msq (A.x s) : EReal) := by
  pointwise [val_main_v15, val_main_v14, val_main_v13, val_main_v12, val_main_v11, val_main_v10, val_main_v9, val_main_cst, val_main_cst_0, val_main_cst_1]
  simp only [E.x, n1024_word, eps_word, ← EReal.coe_mul, coe_sum, div_real _ (show (1024 : ℝ) ≠ 0 by norm_num), ← EReal.coe_add]
  rfl

theorem rstd_at (s : Fin 8192) : val_main_v16 (F := Ideal) X1 (ix2 s 0) = (rstd (A.x s) : EReal) := by
  pointwise [val_main_v16]
  rw [ms_at E, rsqrt_real (msq_pos _)]
  rfl

theorem h_at (s : Fin 8192) (k : Fin 1024) : val_main_v29 (F := Ideal) X1 X2 X3 X4 (ix2 s k) = (A.h s k : EReal) := by
  pointwise [val_main_v29, val_main_v28, val_main_v27, val_main_v26, val_main_v25, val_main_v24, val_main_v23, val_main_v22, val_main_v21, val_main_v20,
    val_main_v5, val_main_v4, val_main_v0, val_main_cst_3]
  simp only [E.x, E.mod, E.g, rstd_at E, ← EReal.coe_mul, ← EReal.coe_add, ← EReal.coe_one]
  rfl

theorem pre_at (s : Fin 8192) (q : Fin 5632) : val_main_v31 (F := Ideal) X1 X2 X3 X4 X5 (ix2 s q) = (A.pre s q : EReal) := by
  pointwise [val_main_v31, val_main_v30]
  simp only [h_at E, E.wi, ← EReal.coe_mul, coe_sum]
  rfl

theorem sig_at (s : Fin 8192) (j : Fin 2816) : val_main_v34_2 (F := Ideal) X1 X2 X3 X4 X5 (ix2 s j) = (sig (A.pre s (gcol j)) : EReal) := by
  pointwise [val_main_v34_2, val_main_v32, val_main_call0_v0, val_main_call0_v1, val_main_call0_v2, val_main_call0_v3, val_main_call0_v4,
    val_main_call0_cst, val_main_call0_cst_0]
  simp only [pre_at E, ← EReal.coe_neg, Ideal.exp_coe, ← EReal.coe_add, ← EReal.coe_one, div_real _ (one_add_exp_ne _)]
  rfl

theorem da_at (s : Fin 8192) (j : Fin 2816) : val_main_v42 (F := Ideal) X0 X2 X3 X6 (ix2 s j) = (A.da s j : EReal) := by
  pointwise [val_main_v42, val_main_v41, val_main_v40, val_main_v36, val_main_v6, val_main_v0]
  simp only [E.d, E.mod, E.wo, ← EReal.coe_mul, coe_sum]
  exact congrArg _ (Finset.sum_congr rfl fun k _ => by rw [mul_comm (A.d s k)]; rfl)

theorem dg_at (s : Fin 8192) (j : Fin 2816) : val_main_v45 (F := Ideal) X0 X1 X2 X3 X4 X5 X6 (ix2 s j) = (A.dg s j : EReal) := by
  pointwise [val_main_v45, val_main_call1_v0, val_main_call1_v1, val_main_call1_v2, val_main_v44, val_main_v34_1, val_main_v33, val_main_v32,
    val_main_call0_v7, val_main_call0_v6, val_main_call0_cst_1]
  simp only [da_at E, pre_at E, sig_at E, ← EReal.coe_mul, ← EReal.coe_add, ← EReal.coe_sub, ← EReal.coe_one]
  refine congrArg _ (Eq.trans ?_ (show A.da s j * A.pre s (ucol j) * (sig (A.pre s (gcol j)) * (1 + A.pre s (gcol j) * (1 - sig (A.pre s (gcol j))))) = _ from rfl))
  show A.da s j * A.pre s (ucol j) * sig (A.pre s (gcol j)) + A.pre s (gcol j) * (A.da s j * A.pre s (ucol j)) * (sig (A.pre s (gcol j)) * (1 - sig (A.pre s (gcol j)))) = _
  ring

theorem du_at (s : Fin 8192) (j : Fin 2816) : val_main_v43 (F := Ideal) X0 X1 X2 X3 X4 X5 X6 (ix2 s j) = (A.du s j : EReal) := by
  pointwise [val_main_v43, val_main_v34_0, val_main_v32]
  simp only [da_at E, pre_at E, sig_at E, ← EReal.coe_mul]
  exact congrArg _ (mul_comm _ _)

theorem dff_at (s : Fin 8192) (q : Fin 5632) : val_main_v46 (F := Ideal) X0 X1 X2 X3 X4 X5 X6 (ix2 s q) = (dffAt A s q : EReal) := by
  pointwise [val_main_v46]
  rw [dffAt]
  split_ifs with h h' <;> first
    | exact dg_at E _ _
    | exact du_at E _ _
    | exact absurd rfl h'

theorem dh_at (s : Fin 8192) (k : Fin 1024) : val_main_v47 (F := Ideal) X0 X1 X2 X3 X4 X5 X6 (ix2 s k) = (A.dh s k : EReal) := by
  pointwise [val_main_v47, val_main_v30]
  simp only [dff_at E, E.wi, ← EReal.coe_mul, coe_sum]
  rw [Fin.sum_univ_add (a := 2816) (b := 2816) fun q : Fin 5632 => dffAt A s q * A.wi k q]
  refine congrArg _ (congrArg₂ (· + ·) (Finset.sum_congr rfl fun j _ => ?_) (Finset.sum_congr rfl fun j _ => ?_))
  · rw [dffAt, dif_pos (show (Fin.castAdd 2816 j).val < 2816 from j.isLt)]; rfl
  · rw [dffAt, dif_neg (show ¬ (Fin.natAdd 2816 j).val < 2816 by simp)]
    exact congrArg₂ _ (congrArg _ (Fin.ext (by simp))) rfl

theorem dn_at (s : Fin 8192) (k : Fin 1024) : val_main_v54 (F := Ideal) X0 X1 X2 X3 X4 X5 X6 (ix2 s k) = (A.dn s k : EReal) := by
  pointwise [val_main_v54, val_main_v53, val_main_v25, val_main_v24, val_main_v5, val_main_v0, val_main_cst_3]
  simp only [dh_at E, E.mod, ← EReal.coe_mul, ← EReal.coe_add, ← EReal.coe_one]
  rfl

theorem dx_at (s : Fin 8192) (k : Fin 1024) : val_main_v75 (F := Ideal) X0 X1 X2 X3 X4 X5 X6 (ix2 s k) = (A.dx s k : EReal) := by
  pointwise [val_main_v75, val_main_v73, val_main_v72, val_main_v71, val_main_v70, val_main_v69, val_main_v68, val_main_v67, val_main_v66, val_main_v65,
    val_main_v64, val_main_v63, val_main_v62, val_main_v61, val_main_v60, val_main_v59, val_main_v58, val_main_v19, val_main_v18, val_main_v17,
    val_main_cst_2, val_main_cst_7, val_main_cst_8, val_main_cst_9]
  simp only [dn_at E, E.x, E.d, E.g, rstd_at E, ms_at E, n1024_word, ← EReal.coe_mul, coe_sum, div_real _ (show (1024 : ℝ) ≠ 0 by norm_num),
    div_real _ (msq_pos _).ne', ← EReal.coe_add, Finset.univ_unique, Finset.sum_singleton, show (default : Fin 1) = 0 from rfl, neg_half_word]
  refine congrArg _ ?_
  rw [Args.dx, rstd_cube, show (∑ i, A.dn s i * A.g i * A.x s i) = ∑ i, A.x s i * (A.dn s i * A.g i) from Finset.sum_congr rfl fun i _ => mul_comm _ _]
  ring

theorem acc_at (r : Fin 8) (q : Fin 1024) : val_main_v77 (F := Ideal) X0 X1 X2 X3 X4 X5 X6 (ix2 r q) = ((∑ s, accAt A s r q : ℝ) : EReal) := by
  pointwise [val_main_v77, val_main_v49, val_main_v48, val_main_v52, val_main_v51, val_main_v50, val_main_v57, val_main_v56, val_main_v55, val_main_v76,
    val_main_v23, val_main_v22, val_main_v21, val_main_v20, val_main_cst_4, val_main_cst_5, val_main_cst_6, val_main_cst_10]
  simp only [dn_at E, dh_at E, E.x, E.g, rstd_at E, ← EReal.coe_mul, coe_sum]
  simp only [accAt, Nat.lt_one_iff, Nat.sub_eq_zero_iff_le]
  split_ifs <;> first
    | omega
    | exact congrArg _ (Finset.sum_congr rfl fun s _ => by ring)
    | simp only [Finset.sum_const_zero, EReal.coe_zero]

end Cert.Proof.RefBwd

end
-- ==== Proof.FfnGrad.lean ====
/- The three arrays the feed-forward gradient kernel returns, in real numbers. -/
module

public import proofs.«01_k».proof.Proof.FfnAcc
public import proofs.«01_k».proof.Proof.RefBwd

@[expose] public section

set_option maxRecDepth 16384

noncomputable section

namespace Cert.Proof.FfnBwd

open Idealize.ShloMosaic Cert.Kernel2Ideal Cert.Kernel2Ideal.Gen Cert.Proof.Fwd Cert.Proof.Reals
variable (m : (ℓ : Loc nD τ sig) → Buf (Elt Ideal) ℓ) {A : Args} (c : Dev nD)

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0, 0] ∧ win0_8.index t = ![0, 0]
    ∧ win0_9.index t = ![t.val, 0] ∧ win0_10.index t = ![t.val, 0] ∧ win0_11.index t = ![0, 0] :=
  (by decide +kernel : ∀ t : Fin grid0.N, _)

theorem lt16 (t : Fin cfg0.N) : t.val < 16 := lt_of_lt_of_eq t.isLt N_0

abbrev gIn : FVec Ideal S8192x2816 .bf16 := V m c main_v36
abbrev uIn : FVec Ideal S8192x2816 .bf16 := V m c main_v37
abbrev wiIn : FVec Ideal S4x1024x1408 .bf16 := V m c main_v3
abbrev woIn : FVec Ideal S2816x1024 .bf16 := V m c main_v5

/-- The arguments in memory hold real arrays. -/
abbrev Mem (A : Args) : Prop := Entries A (m (c.tc.loc main_arg0)) (m (c.tc.loc main_arg1)) (m (c.tc.loc main_arg2)) (m (c.tc.loc main_arg3))
  (m (c.tc.loc main_arg4)) (m (c.tc.loc main_arg5)) (m (c.tc.loc main_arg6))

/-- The feed-forward lines' widened row as the host computes it is the reference's. -/
theorem ff_in : V m c main_v34 = Cert.Reference2Ideal.Read.val_main_v31 (F := Ideal) (m (c.tc.loc main_arg1)) (m (c.tc.loc main_arg2))
    (m (c.tc.loc main_arg3)) (m (c.tc.loc main_arg4)) (m (c.tc.loc main_arg5)) := rfl

theorem slice_g (Y : FVec Ideal S8192x5632 .f32) (s : Fin 8192) (j : Fin 2816) :
    extractStridedSlice S8192x2816 ![0, 0] (truncf .bf16 Y bitsLt_bf16_f32 : FVec Ideal S8192x5632 .bf16) slices_S8192x5632_S8192x2816_0_0 (ix2 s j)
      = Y (ix2 s (gcol j)) := by
  pointwise []
  rfl

theorem slice_u (Y : FVec Ideal S8192x5632 .f32) (s : Fin 8192) (j : Fin 2816) :
    extractStridedSlice S8192x2816 ![0, 2816] (truncf .bf16 Y bitsLt_bf16_f32 : FVec Ideal S8192x5632 .bf16) slices_S8192x5632_S8192x2816_0_2816 (ix2 s j)
      = Y (ix2 s (ucol j)) := by
  pointwise []
  rfl

theorem cast_wo (Y : FVec Ideal S1x2816x1024 .f32) (j : Fin 2816) (k : Fin 1024) :
    (truncf .bf16 (shapeCast S2816x1024 Y shapeCasts_S1x2816x1024_S2816x1024) bitsLt_bf16_f32 : FVec Ideal S2816x1024 .bf16) (ix2 j k) = Y (ix3 0 j k) := by
  pointwise []

theorem cast_wi (Y : FVec Ideal S1x1024x5632 .f32) (p : Fin 4) (k : Fin 1024) (j : Fin 1408) (q : Fin 5632) (hq : q.val = p.val * 1408 + j.val) :
    transpose S4x1024x1408 [1, 0, 2] (shapeCast S1024x4x1408 (truncf .bf16 (shapeCast S1024x5632 Y shapeCasts_S1x1024x5632_S1024x5632)
      bitsLt_bf16_f32 : FVec Ideal S1024x5632 .bf16) shapeCasts_S1024x5632_S1024x4x1408) transposes_S1024x4x1408_S4x1024x1408_1_0_2 (ix3 p k j) = Y (ix3 0 k q) := by
  pointwise []
  exact congrArg (fun q => Y (ix3 0 k q)) (Fin.ext hq.symm)

theorem g_in (E : Mem m c A) (s : Fin 8192) (j : Fin 2816) : gIn m c (ix2 s j) = (A.pre s (gcol j) : EReal) :=
  (slice_g (V m c main_v34) s j).trans (RefBwd.pre_at E s (gcol j))

theorem u_in (E : Mem m c A) (s : Fin 8192) (j : Fin 2816) : uIn m c (ix2 s j) = (A.pre s (ucol j) : EReal) :=
  (slice_u (V m c main_v34) s j).trans (RefBwd.pre_at E s (ucol j))

theorem wo_in (E : Mem m c A) (j : Fin 2816) (k : Fin 1024) : woIn m c (ix2 j k) = (A.wo j k : EReal) :=
  (cast_wo (m (c.tc.loc main_arg6)) j k).trans (E.wo j k)

theorem wi_in (E : Mem m c A) (p : Fin 4) (k : Fin 1024) (j : Fin 1408) (q : Fin 5632) (hq : q.val = p.val * 1408 + j.val) :
    wiIn m c (ix3 p k j) = (A.wi k q : EReal) :=
  (cast_wi (m (c.tc.loc main_arg5)) p k j q hq).trans (E.wi k q)

theorem holds (E : Mem m c A) (t : Fin cfg0.N) : Holds m A (row t.val (lt16 t)) c t where
  d r k := Eq.trans (by blk_point [iblk, idx t]; rfl) (E.d (row t.val (lt16 t) r) k)
  x r k := Eq.trans (by blk_point [iblk, idx t]; rfl) (E.x (row t.val (lt16 t) r) k)
  g r j := Eq.trans (by blk_point [iblk, idx t]; rfl) (g_in m c E (row t.val (lt16 t) r) j)
  u r j := Eq.trans (by blk_point [iblk, idx t]; rfl) (u_in m c E (row t.val (lt16 t) r) j)
  mod k := Eq.trans (by blk_point [iblk, idx t]) (E.mod k)
  n k := Eq.trans (by blk_point [iblk, idx t]) (E.g k)
  wi0 k j := Eq.trans (by blk_point [iblk, idx t]) (wi_in m c E 0 k j _ (Nat.zero_add _).symm)
  wi1 k j := Eq.trans (by blk_point [iblk, idx t]) (wi_in m c E 1 k j _ rfl)
  wi2 k j := Eq.trans (by blk_point [iblk, idx t]) (wi_in m c E 2 k j _ rfl)
  wi3 k j := Eq.trans (by blk_point [iblk, idx t]) (wi_in m c E 3 k j _ rfl)
  wo j k := Eq.trans (by blk_point [iblk, idx t]) (wo_in m c E j k)

/-- The three results in real numbers. -/
def gradFf (A : Args) : FVec Ideal S8192x5632 .bf16 := fun i => (dffAt A (i 0) (i 1) : EReal)
def gradX (A : Args) : FVec Ideal S8192x1024 .f32 := fun i => (A.dx (i 0) (i 1) : EReal)
def gradRows (A : Args) : FVec Ideal S8x1024 .f32 := fun i => ((∑ s, accAt A s (i 0) (i 1) : ℝ) : EReal)

theorem arr9_eq (E : Mem m c A) : (dats m 0 c).arrAt 9 cfg0.N = gradFf A := by
  refine (dats m 0 c).arrAt_eq_of_covers 9 _ (by decide +kernel) fun t hf y => ?_
  have hN := lt16 t
  idx_vars y
  have he : (win0_9.blk t).view.emb (ix2 y0 y1) = ix2 (row t.val hN y0) y1 := by
    blk_ext [idx t]
    rfl
  blk_simp
  rw [after0_9, out9 m c t (holds m c E t), he]
  rfl

theorem arr10_eq (E : Mem m c A) : (dats m 0 c).arrAt 10 cfg0.N = gradX A := by
  refine (dats m 0 c).arrAt_eq_of_covers 10 _ (by decide +kernel) fun t hf y => ?_
  have hN := lt16 t
  idx_vars y
  have he : (win0_10.blk t).view.emb (ix2 y0 y1) = ix2 (row t.val hN y0) y1 := by
    blk_ext [idx t]
    rfl
  blk_simp
  rw [after0_10, out10 m c t (holds m c E t), he]
  rfl

/-- After the last point the accumulator holds the sums over all rows. -/
theorem last_11 (E : Mem m c A) (t : Fin cfg0.N) (h : t.val % 16 = 15) (r : Fin 8) (q : Fin 1024) :
    (outsAt0 m c t.val t.isLt).2.2 (ix2 r q) = ((∑ s, accAt A s r q : ℝ) : EReal) := by
  rw [Pipeline.eq_sum_fin_of_reset_step_apply_of_flush (fun n h => (outsAt0 m c n h).2.2) 16 (fun _ => 0)
    (fun t (j : S8x1024.Idx) => ((∑ i, accAt A (row t.val (lt16 t) i) (j 0) (j 1) : ℝ) : EReal))
    (fun t h j => by idx_vars j; rw [zero_add]; exact out11A m c t h (holds m c E t) j0 j1)
    (fun t h j => by idx_vars j; exact out11B m c t h (holds m c E t) j0 j1) t h (ix2 r q), zero_add]
  have hN := lt16 t
  rw [coe_sum]
  refine congrArg _ (Fin.sum_mul_add_congr (S := 16) (n := 512) fun s k hl => ?_)
  exact congrArg (fun s => accAt A s r q) (Fin.ext (by simp [row]; omega))

theorem arr11_eq (E : Mem m c A) : (dats m 0 c).arrAt 11 cfg0.N = gradRows A := by
  refine (dats m 0 c).arrAt_eq_of_covers 11 _ (by decide +kernel) fun t hf y => ?_
  have hN := lt16 t
  have h := (flush0_11 t).mp hf
  idx_vars y
  have he : (win0_11.blk t).view.emb (ix2 y0 y1) = ix2 y0 y1 := by
    blk_ext [idx t]
  blk_simp
  rw [after0_11, he]
  exact last_11 m c E t (by omega) y0 y1

end Cert.Proof.FfnBwd

end
-- ==== Proof.Loss.lean ====
/- The feed-forward part with the final norm and the loss, one row at a time, in real numbers. -/
module

public import proofs.«01_k».proof.Proof.Forward

@[expose] public section

noncomputable section

namespace Cert.Proof.Loss

open Cert.Proof.Reals Cert.Proof.Fwd

/-- The arguments as real numbers. -/
structure Head where
  x : Fin 8192 → Fin 1024 → ℝ
  y : Fin 8192 → Fin 1024 → ℝ
  mod : Fin 8192 → ℝ
  g : Fin 1024 → ℝ
  gf : Fin 1024 → ℝ
  wi : Fin 1024 → Fin 5632 → ℝ
  wo : Fin 2816 → Fin 1024 → ℝ

namespace Head
variable (L : Head)
def sh (k : Fin 1024) : ℝ := L.mod ⟨3072 + k.val, by omega⟩
def sc (k : Fin 1024) : ℝ := L.mod ⟨4096 + k.val, by omega⟩
def gate (k : Fin 1024) : ℝ := L.mod ⟨5120 + k.val, by omega⟩
def shf (k : Fin 1024) : ℝ := L.mod ⟨6144 + k.val, by omega⟩
def scf (k : Fin 1024) : ℝ := L.mod ⟨7168 + k.val, by omega⟩
def h (s : Fin 8192) : Fin 1024 → ℝ := hrow (L.x s) L.g L.sc L.sh
def pre (s : Fin 8192) : Fin 5632 → ℝ := lin (L.h s) L.wi
def a (s : Fin 8192) : Fin 2816 → ℝ := act (L.pre s)

/-- The row that enters the final norm, that norm, and the row's distance from the target. -/
def x2 (s : Fin 8192) (k : Fin 1024) : ℝ := L.x s k + L.gate k * ∑ j, L.a s j * L.wo j k
def nf (s : Fin 8192) (k : Fin 1024) : ℝ := L.x2 s k * rstd (L.x2 s) * L.gf k
def err (s : Fin 8192) (k : Fin 1024) : ℝ := L.nf s k * (1 + L.scf k) + L.shf k - L.y s k

/-- The gradients of the loss at the modulated row, at the normalised one, and at the row itself. -/
def dy (s : Fin 8192) (k : Fin 1024) : ℝ := L.err s k * (1 / 1024)
def dn (s : Fin 8192) (k : Fin 1024) : ℝ := L.dy s k * (1 + L.scf k)
def dx (s : Fin 8192) (k : Fin 1024) : ℝ := rstd (L.x2 s) * (L.dn s k * L.gf k)
  - L.x2 s k * (rstd (L.x2 s) * rstd (L.x2 s) * rstd (L.x2 s)) * ((∑ i, L.dn s i * L.gf i * L.x2 s i) * (1 / 1024))

/-- What one row adds to row `r` of the accumulator: the gradients at the shift, the scale and the norm's weight, and the squared distance. -/
def accAt (s : Fin 8192) (r : Fin 8) (q : Fin 1024) : ℝ :=
  if r.val = 0 then L.dy s q else if r.val = 1 then L.dy s q * L.nf s q
  else if r.val = 2 then L.dn s q * L.x2 s q * rstd (L.x2 s) else if r.val = 3 then L.err s q * L.err s q else 0

/-- The loss. -/
def loss : ℝ := (∑ q, ∑ s, L.err s q * L.err s q) * (1 / 2048)

/-- The accumulator at the end: the rows' sums, and the loss in row 4. -/
def total (r : Fin 8) (q : Fin 1024) : ℝ := if r.val = 4 then L.loss else ∑ s, L.accAt s r q
end Head

open Idealize.ShloMosaic in
/-- The arguments hold real arrays. -/
structure Entries (L : Head) (X0 X1 : FVec Ideal (⟨2, ![8192, 1024]⟩ : Shape) .f32) (X2 X3 : FVec Ideal (⟨2, ![1, 8192]⟩ : Shape) .f32)
    (X4 X5 : FVec Ideal (⟨2, ![1, 1024]⟩ : Shape) .f32) (X6 : FVec Ideal (⟨3, ![1, 1024, 5632]⟩ : Shape) .f32)
    (X7 : FVec Ideal (⟨3, ![1, 2816, 1024]⟩ : Shape) .f32) : Prop where
  x : ∀ s k, X0 (ix2 s k) = (L.x s k : EReal)
  y : ∀ s k, X1 (ix2 s k) = (L.y s k : EReal)
  mod : ∀ k, X2 (ix2 0 k) + X3 (ix2 0 k) = (L.mod k : EReal)
  g : ∀ k, X4 (ix2 0 k) = (L.g k : EReal)
  gf : ∀ k, X5 (ix2 0 k) = (L.gf k : EReal)
  wi : ∀ k j, X6 (ix3 0 k j) = (L.wi k j : EReal)
  wo : ∀ j k, X7 (ix3 0 j k) = (L.wo j k : EReal)

theorem half_word : Idealize.ShloMosaic.Ideal.ofBits .f32 0x3F000000#32 = ((1 / 2 : ℝ) : EReal) := by
  simp [Idealize.ShloMosaic.Ideal.ofBits, Idealize.ShloMosaic.Ideal.ieee]
  rw [← EReal.coe_mul]; norm_num

theorem two_word : Idealize.ShloMosaic.Ideal.ofBits .f32 0x40000000#32 = ((2 : ℝ) : EReal) := by
  simp [Idealize.ShloMosaic.Ideal.ofBits, Idealize.ShloMosaic.Ideal.ieee]
  rw [← EReal.coe_mul]; norm_num

theorem inv2048_word : Idealize.ShloMosaic.Ideal.ofBits .f32 0x3A000000#32 = ((1 / 2048 : ℝ) : EReal) := by
  simp [Idealize.ShloMosaic.Ideal.ofBits, Idealize.ShloMosaic.Ideal.ieee]
  rw [← EReal.coe_mul]; norm_num

end Cert.Proof.Loss

end
-- ==== Proof.LossFwd.lean ====
/- What one point of the feed-forward kernel with the loss stores, in real numbers. -/
module

public import proofs.«01_k».proof.Proof.Gen.Kernel3Ideal.Value
public import proofs.«01_k».proof.Proof.Rows
public import proofs.«01_k».proof.Proof.Loss

@[expose] public section

set_option maxRecDepth 16384

noncomputable section

namespace Cert.Proof.LossFwd

open Idealize.ShloMosaic Cert.Kernel3Ideal Cert.Kernel3Ideal.Gen Cert.Proof.Fwd Cert.Proof.Reals Cert.Proof.Loss
variable (m : (ℓ : Loc nD τ sig) → Buf (Elt Ideal) ℓ)

/-- Row `r` of the block of point `t`. -/
def row (t : ℕ) (ht : t < 16) (r : Fin 512) : Fin 8192 := ⟨t * 512 + r.val, by omega⟩

/-- The blocks of a point hold the rows `f` of real arrays. -/
structure Blocks (L : Head) (f : Fin 512 → Fin 8192) (x0 x1 : FVec Ideal S512x1024 .f32) (x2 x3 : FVec Ideal S1x8192 .f32)
    (x4 x5 : FVec Ideal S1x1024 .f32) (x6 : FVec Ideal S4x1024x1408 .bf16) (x7 : FVec Ideal S2816x1024 .bf16) : Prop where
  x : ∀ r k, x0 (ix2 r k) = (L.x (f r) k : EReal)
  y : ∀ r k, x1 (ix2 r k) = (L.y (f r) k : EReal)
  mod : ∀ k, x2 (ix2 0 k) + x3 (ix2 0 k) = (L.mod k : EReal)
  g : ∀ k, x4 (ix2 0 k) = (L.g k : EReal)
  gf : ∀ k, x5 (ix2 0 k) = (L.gf k : EReal)
  wi0 : ∀ k j, x6 (ix3 0 k j) = (L.wi k ⟨j.val, by omega⟩ : EReal)
  wi1 : ∀ k j, x6 (ix3 1 k j) = (L.wi k ⟨1408 + j.val, by omega⟩ : EReal)
  wi2 : ∀ k j, x6 (ix3 2 k j) = (L.wi k ⟨2816 + j.val, by omega⟩ : EReal)
  wi3 : ∀ k j, x6 (ix3 3 k j) = (L.wi k ⟨4224 + j.val, by omega⟩ : EReal)
  wo : ∀ j k, x7 (ix2 j k) = (L.wo j k : EReal)

variable {L : Head} {f : Fin 512 → Fin 8192}

/-- The blocks of point `t` hold rows `f` of real arrays. -/
abbrev Holds (L : Head) (f : Fin 512 → Fin 8192) (c : Dev nD) (t : Fin cfg0.N) : Prop :=
  Blocks L f (iblk m c 0 t) (iblk m c 1 t) (iblk m c 2 t) (iblk m c 3 t) (iblk m c 4 t) (iblk m c 5 t) (iblk m c 6 t) (iblk m c 7 t)

theorem pre_eq {s s' : Fin 8192} {j j' : Fin 5632} (hs : s = s') (hj : j' = j) : L.pre s j = L.pre s' j' := by subst hs hj; rfl

/-- The gated product, its two factors' columns named outright. -/
def aLo (L : Head) (s : Fin 8192) (j : Fin 1408) : ℝ :=
  L.pre s ⟨j.val, by omega⟩ * sig (L.pre s ⟨j.val, by omega⟩) * L.pre s ⟨2816 + j.val, by omega⟩

theorem aLo_eq {s s' : Fin 8192} {j : Fin 1408} {q : Fin 2816} (hs : s = s') (hq : q.val = j.val) : aLo L s j = L.a s' q := by
  subst hs
  have hb : j.val < 2816 := by clear hq; omega
  obtain rfl : ⟨j.val, hb⟩ = q := Fin.ext hq.symm
  rfl

def aHi (L : Head) (s : Fin 8192) (j : Fin 1408) : ℝ :=
  L.pre s ⟨1408 + j.val, by omega⟩ * sig (L.pre s ⟨1408 + j.val, by omega⟩) * L.pre s ⟨4224 + j.val, by omega⟩

theorem aHi_eq {s s' : Fin 8192} {j : Fin 1408} {q : Fin 2816} (hs : s = s') (hq : q.val = 1408 + j.val) : aHi L s j = L.a s' q := by
  subst hs
  have hb : 1408 + j.val < 2816 := by clear hq; omega
  obtain rfl : ⟨1408 + j.val, hb⟩ = q := Fin.ext hq.symm
  have h4 : (⟨4224 + j.val, by omega⟩ : Fin 5632) = ucol ⟨1408 + j.val, by omega⟩ := Fin.ext (by simp [ucol]; omega)
  rw [aHi, h4]
  rfl

theorem h_eq {s s' : Fin 8192} {k k' : Fin 1024} (hs : s = s') (hk : k' = k) : L.h s k = L.h s' k' := by subst hs hk; rfl

/-- The row that enters the final norm, in the order the kernel adds its two products. -/
def x2K (L : Head) (s : Fin 8192) (k : Fin 1024) : ℝ :=
  L.x s k + L.gate k * ((∑ j : Fin 1408, aLo L s j * L.wo ⟨j.val, by omega⟩ k)
    + ∑ j : Fin 1408, aHi L s j * L.wo ⟨1408 + j.val, by omega⟩ k)

theorem x2K_eq : x2K L = L.x2 := by
  funext s k
  rw [Head.x2, Fin.sum_univ_add (a := 1408) (b := 1408) fun j : Fin 2816 => L.a s j * L.wo j k]
  simp only [x2K, fun j : Fin 1408 => (aHi_eq rfl rfl : aHi L s j = L.a s (Fin.natAdd 1408 j))]
  rfl

/-- The distance from the target, and what follows of it, over that row. -/
def nfK (L : Head) (s : Fin 8192) (k : Fin 1024) : ℝ := x2K L s k * rstd (fun k => x2K L s k) * L.gf k
def errK (L : Head) (s : Fin 8192) (k : Fin 1024) : ℝ := nfK L s k * (1 + L.scf k) + L.shf k - L.y s k
def dnK (L : Head) (s : Fin 8192) (k : Fin 1024) : ℝ := errK L s k * (1 / 1024) * (1 + L.scf k)

theorem nfK_eq : nfK L = L.nf := by funext s k; simp only [nfK, x2K_eq]; rfl
theorem errK_eq : errK L = L.err := by funext s k; simp only [errK, nfK_eq]; rfl
theorem dnK_eq : dnK L = L.dn := by funext s k; simp only [dnK, errK_eq]; rfl

theorem dx_eq {s s' : Fin 8192} {k k' : Fin 1024} (hs : s = s') (hk : k' = k) :
    rstd (fun k => x2K L s k) * (dnK L s k * L.gf k) - x2K L s k * (rstd (fun k => x2K L s k) * rstd (fun k => x2K L s k) * rstd (fun k => x2K L s k))
      * ((∑ i, dnK L s i * L.gf i * x2K L s i) * (1 / 1024)) = L.dx s' k' := by
  subst hs hk
  simp only [dnK_eq, x2K_eq]
  rfl

set_option maxHeartbeats 2000000 in
/-- The five arrays a point stores: the widened row's two halves, their gated product, the modulated row and the gradient. -/
theorem outs (c : Dev nD) (t : Fin cfg0.N) (H : Holds m L f c t) (r : Fin 512) (q : Fin 2816) (k : Fin 1024) :
    (outsAt0 m c t.val t.isLt).1 (ix2 r q) = (L.pre (f r) (gcol q) : EReal)
    ∧ (outsAt0 m c t.val t.isLt).2.1 (ix2 r q) = (L.pre (f r) (ucol q) : EReal)
    ∧ (outsAt0 m c t.val t.isLt).2.2.1 (ix2 r q) = (L.a (f r) q : EReal)
    ∧ (outsAt0 m c t.val t.isLt).2.2.2.1 (ix2 r k) = (L.h (f r) k : EReal)
    ∧ (outsAt0 m c t.val t.isLt).2.2.2.2.1 (ix2 r k) = (L.dx (f r) k : EReal) := by
  by_cases h0 : t.val % 16 = 0
  on_goal 2 => by_cases h1 : t.val % 16 = 15
  on_goal 1 => rw [outsAt0_A m c t h0 (by omega)]
  on_goal 2 => rw [outsAt0_C m c t h0 h1]
  on_goal 3 => rw [outsAt0_B m c t h0 h1]
  all_goals
    refine ⟨?_, ?_, ?_, ?_, ?_⟩ <;> frame_out <;> canon_tiles x e
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58, k0_pay59, k0_pay60]
    simp only [H.x, H.y, H.mod, H.g, H.gf, H.wi0, H.wi1, H.wi2, H.wi3, H.wo, eps_word, inv1024_word, zero_sub, ← EReal.coe_mul, coe_sum, ← EReal.coe_neg, Ideal.exp_coe, ← EReal.coe_one,
      ← EReal.coe_zero, ← EReal.coe_add, div_real _ (one_add_exp_ne _), ← EReal.coe_sub, rsqrt_row]
    first
    | exact congrArg _ (pre_eq (congrArg f (Fin.ext e0.symm)) (Fin.ext e1))
    | exact congrArg _ (pre_eq (congrArg f (Fin.ext e0.symm)) (Fin.ext ((congrArg (2816 + ·) e1).trans (Nat.add_assoc 2816 1408 _).symm)))
    | exact congrArg _ (pre_eq (congrArg f (Fin.ext e0.symm)) (Fin.ext (congrArg (2816 + ·) e1)))
    | exact congrArg _ (aLo_eq (congrArg f (Fin.ext e0.symm)) e1)
    | exact congrArg _ (aHi_eq (congrArg f (Fin.ext e0.symm)) e1)
    | exact congrArg _ (h_eq (congrArg f (Fin.ext e0.symm)) (Fin.ext e1))
    | exact congrArg _ (dx_eq (congrArg f (Fin.ext e0.symm)) (Fin.ext e1))

end Cert.Proof.LossFwd

end
-- ==== Proof.LossAcc.lean ====
/- The accumulated rows of the feed-forward kernel with the loss: what a point adds to them, and the loss at the last point. -/
module

public import proofs.«01_k».proof.Proof.LossFwd

@[expose] public section

set_option maxRecDepth 16384

noncomputable section

namespace Cert.Proof.LossFwd

open Idealize.ShloMosaic Cert.Kernel3Ideal Cert.Kernel3Ideal.Gen Cert.Proof.Fwd Cert.Proof.Reals Cert.Proof.Loss
variable (m : (ℓ : Loc nD τ sig) → Buf (Elt Ideal) ℓ) {L : Head} {f : Fin 512 → Fin 8192}

section rows
variable (a b x d n v : FVec Ideal S256x1024 .f32) (w : FVec Ideal S256x1 .f32) (u z p : FVec Ideal S1x1024 .f32) (q : Fin 1024)

theorem row0a : k0_pay33 (F := Ideal) a b p (ix2 0 q) = p (ix2 0 q) + ∑ i : Fin 256, k0_pay30 (F := Ideal) a b (ix2 i q) := by pointwise [k0_pay33]
theorem row1a : k0_pay34 (F := Ideal) n a b p (ix2 0 q) = p (ix2 0 q) + ∑ i : Fin 256, k0_pay30 (F := Ideal) a b (ix2 i q) * n (ix2 i q) := by
  pointwise [k0_pay34]
theorem row2a : k0_pay35 (F := Ideal) x w d p (ix2 0 q) = p (ix2 0 q) + ∑ i : Fin 256, d (ix2 i q) * x (ix2 i q) * w (ix2 i 0) := by pointwise [k0_pay35]
theorem row3a : k0_pay36 (F := Ideal) a p (ix2 0 q) = p (ix2 0 q) + ∑ i : Fin 256, a (ix2 i q) * a (ix2 i q) := by pointwise [k0_pay36]
theorem row0b : k0_pay59 (F := Ideal) u n z v p (ix2 0 q) = p (ix2 0 q) + ∑ i : Fin 256, k0_pay56 (F := Ideal) u n z v (ix2 i q) := by pointwise [k0_pay59]
theorem row1b : k0_pay60 (F := Ideal) u n z v p (ix2 0 q) = p (ix2 0 q) + ∑ i : Fin 256, k0_pay56 (F := Ideal) u n z v (ix2 i q) * n (ix2 i q) := by
  pointwise [k0_pay60]
theorem row2b : k0_pay1 (F := Ideal) x w d p (ix2 0 q) = p (ix2 0 q) + ∑ i : Fin 256, d (ix2 i q) * x (ix2 i q) * w (ix2 i 0) := by pointwise [k0_pay1]
theorem row3b : k0_pay2 (F := Ideal) a p (ix2 0 q) = p (ix2 0 q) + ∑ i : Fin 256, a (ix2 i q) * a (ix2 i q) := by pointwise [k0_pay2]

/-- The loss out of the accumulated squares. -/
theorem row4 : k0_pay3 (F := Ideal) p (ix2 0 q) = (∑ k, p (ix2 0 k)) * Ideal.ofBits .f32 0x3A000000#32 := by
  pointwise [k0_pay3]
end rows

theorem sum512 (g : Fin 512 → ℝ) : (∑ i : Fin 256, g ⟨i.val, by omega⟩) + ∑ i : Fin 256, g ⟨256 + i.val, by omega⟩ = ∑ i, g i :=
  (Fin.sum_univ_add (a := 256) (b := 256) g).symm

theorem rows (F : Fin 8192 → ℝ) {r : Fin 8} {q : Fin 1024} (h : ∀ s, F s = L.accAt s r q) :
    (∑ i : Fin 256, F (f ⟨i.val, by omega⟩)) + ∑ i : Fin 256, F (f ⟨256 + i.val, by omega⟩) = ∑ i, L.accAt (f i) r q := by
  rw [sum512 fun i => F (f i)]
  simp only [h]

theorem rows0 (q : Fin 1024) {r : Fin 8} (hr : r.val = 0) (s : Fin 8192) : errK L s q * (1 / 1024) = L.accAt s r q := by
  simp only [Head.accAt, hr, errK_eq, if_true]; rfl

theorem rows1 (q : Fin 1024) {r : Fin 8} (hr : r.val = 1) (s : Fin 8192) : errK L s q * (1 / 1024) * nfK L s q = L.accAt s r q := by
  simp only [Head.accAt, hr, errK_eq, nfK_eq, if_true, if_neg one_ne_zero]; rfl

theorem rows2 (q : Fin 1024) {r : Fin 8} (hr : r.val = 2) (s : Fin 8192) : dnK L s q * x2K L s q * rstd (fun k => x2K L s k) = L.accAt s r q := by
  simp only [Head.accAt, hr, dnK_eq, x2K_eq, if_true, if_neg (show ¬ (2 : ℕ) = 0 by decide), if_neg (show ¬ (2 : ℕ) = 1 by decide)]

theorem rows3 (q : Fin 1024) {r : Fin 8} (hr : r.val = 3) (s : Fin 8192) : errK L s q * errK L s q = L.accAt s r q := by
  simp only [Head.accAt, hr, errK_eq, if_true, if_neg (show ¬ (3 : ℕ) = 0 by decide), if_neg (show ¬ (3 : ℕ) = 1 by decide), if_neg (show ¬ (3 : ℕ) = 2 by decide)]

set_option maxHeartbeats 1000000 in
theorem out13A (c : Dev nD) (t : Fin cfg0.N) (h0 : t.val % 16 = 0) (H : Holds m L f c t) (r : Fin 8) (q : Fin 1024) :
    (outsAt0 m c t.val t.isLt).2.2.2.2.2 (ix2 r q) = ((∑ i, L.accAt (f i) r q : ℝ) : EReal) := by
  rw [outsAt0_A m c t h0 (by omega)]
  frame_out
  obtain hr | hr | hr | hr | ⟨n0, n1, n2, n3⟩ : r.val = 0 ∨ r.val = 1 ∨ r.val = 2 ∨ r.val = 3 ∨ (¬ r.val = 0 ∧ ¬ r.val = 1 ∧ ¬ r.val = 2 ∧ ¬ r.val = 3) := by omega
  on_goal 5 =>
    simp (disch := assumption) only [Rows.canon_row_skip (ms0_13 t).view, View.canon_cons_unit_lit]
    simp only [Head.accAt, n0, n1, n2, n3, if_false, Finset.sum_const_zero]
    pointwise [k0_pay4]
  all_goals
    simp (disch := first | exact hr | (rw [hr]; decide) | decide) only [Rows.canon_row_mem (ms0_13 t).view, Rows.canon_row_skip (ms0_13 t).view, Rows.readCov_row,
      row0a, row1a, row2a, row3a, row0b, row1b, row2b, row3b, View.canon_cons_unit_lit]
    pointwise [k0_pay1, k0_pay2, k0_pay3, k0_pay4, k0_pay5, k0_pay6, k0_pay7, k0_pay8, k0_pay9, k0_pay10, k0_pay11, k0_pay12, k0_pay13, k0_pay14, k0_pay15, k0_pay16,
        k0_pay17, k0_pay18, k0_pay19, k0_pay20, k0_pay21, k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41, k0_pay42, k0_pay43, k0_pay44, k0_pay45, k0_pay46,
        k0_pay47, k0_pay48, k0_pay49, k0_pay50, k0_pay51, k0_pay52, k0_pay53, k0_pay54, k0_pay55, k0_pay56, k0_pay57, k0_pay58, k0_pay59, k0_pay60]
    simp only [H.x, H.y, H.mod, H.g, H.gf, H.wi0, H.wi1, H.wi2, H.wi3, H.wo, eps_word, inv1024_word, zero_sub, ← EReal.coe_mul, coe_sum, ← EReal.coe_neg,
      Ideal.exp_coe, ← EReal.coe_one, ← EReal.coe_zero, ← EReal.coe_add, div_real _ (one_add_exp_ne _), ← EReal.coe_sub, rsqrt_row]
  · exact congrArg _ (rows (fun s => errK L s q * (1 / 1024)) (rows0 q hr))
  · exact congrArg _ (rows (fun s => errK L s q * (1 / 1024) * nfK L s q) (rows1 q hr))
  · exact congrArg _ (rows (fun s => dnK L s q * x2K L s q * rstd (fun k => x2K L s k)) (rows2 q hr))
  · exact congrArg _ (rows (fun s => errK L s q * errK L s q) (rows3 q hr))

set_option maxHeartbeats 1000000 in
theorem out13B (c : Dev nD) (t : Fin cfg0.N) (h0 : ¬ t.val % 16 = 0) (H : Holds m L f c t) (r : Fin 8) (h4 : ¬ r.val = 4) (q : Fin 1024) :
    (outsAt0 m c t.val t.isLt).2.2.2.2.2 (ix2 r q) = (outsAt0 m c (t.val - 1) (Nat.lt_of_le_of_lt (Nat.sub_le _ _) t.isLt)).2.2.2.2.2 (ix2 r q)
      + ((∑ i, L.accAt (f i) r q : ℝ) : EReal) := by
  by_cases h1 : t.val % 16 = 15
  on_goal 1 => rw [outsAt0_C m c t h0 h1]
  on_goal 2 => rw [outsAt0_B m c t h0 h1]
  all_goals
    frame_out
    generalize (outsAt0 m c (t.val - 1) (Nat.lt_of_le_of_lt (Nat.sub_le _ _) t.isLt)).2.2.2.2.2 = Z
    obtain hr | hr | hr | hr | ⟨n0, n1, n2, n3⟩ : r.val = 0 ∨ r.val = 1 ∨ r.val = 2 ∨ r.val = 3 ∨ (¬ r.val = 0 ∧ ¬ r.val = 1 ∧ ¬ r.val = 2 ∧ ¬ r.val = 3) := by omega
    on_goal 5 =>
      simp (disch := assumption) only [Rows.read_row_skip (ms0_13 t).view, View.writes_nil, Memref.IsWhole.read_unread]
      simp only [Head.accAt, n0, n1, n2, n3, if_false, Finset.sum_const_zero, EReal.coe_zero, add_zero]
  all_goals
    simp (disch := first | exact hr | (rw [hr]; decide) | decide) only [Rows.read_row_mem (ms0_13 t).view, Rows.read_row_skip (ms0_13 t).view, Rows.ld_row,
      Rows.readCov_row, Rows.canon_row_mem (ms0_13 t).view, Rows.canon_row_skip (ms0_13 t).view,
      row0a, row1a, row2a, row3a, row0b, row1b, row2b, row3b, View.writes_nil, Memref.IsWhole.read_unread]
    pointwise [k0_pay1, k0_pay2, k0_pay3, k0_pay4, k0_pay5, k0_pay6, k0_pay7, k0_pay8, k0_pay9, k0_pay10, k0_pay11, k0_pay12, k0_pay13, k0_pay14, k0_pay15, k0_pay16,
        k0_pay17, k0_pay18, k0_pay19, k0_pay20, k0_pay21, k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41, k0_pay42, k0_pay43, k0_pay44, k0_pay45, k0_pay46,
        k0_pay47, k0_pay48, k0_pay49, k0_pay50, k0_pay51, k0_pay52, k0_pay53, k0_pay54, k0_pay55, k0_pay56, k0_pay57, k0_pay58, k0_pay59, k0_pay60]
    simp only [H.x, H.y, H.mod, H.g, H.gf, H.wi0, H.wi1, H.wi2, H.wi3, H.wo, eps_word, inv1024_word, zero_sub, ← EReal.coe_mul, coe_sum, ← EReal.coe_neg,
      Ideal.exp_coe, ← EReal.coe_one, ← EReal.coe_zero, ← EReal.coe_add, div_real _ (one_add_exp_ne _), ← EReal.coe_sub, rsqrt_row]
    rw [add_assoc, ← EReal.coe_add]
    refine congrArg₂ (· + ·) (congrArg (fun i => Z (ix2 i q)) (Fin.ext hr.symm)) (congrArg _ ?_)
    first
    | exact rows (fun s => errK L s q * (1 / 1024)) (rows0 q hr)
    | exact rows (fun s => errK L s q * (1 / 1024) * nfK L s q) (rows1 q hr)
    | exact rows (fun s => dnK L s q * x2K L s q * rstd (fun k => x2K L s k)) (rows2 q hr)
    | exact rows (fun s => errK L s q * errK L s q) (rows3 q hr)

/-- At the last point row 4 becomes the loss, out of row 3. -/
theorem out13C (c : Dev nD) (t : Fin cfg0.N) (h0 : ¬ t.val % 16 = 0) (h1 : t.val % 16 = 15) (q : Fin 1024) :
    (outsAt0 m c t.val t.isLt).2.2.2.2.2 (ix2 4 q)
      = (∑ k, (outsAt0 m c t.val t.isLt).2.2.2.2.2 (ix2 3 k)) * Ideal.ofBits .f32 0x3A000000#32 := by
  rw [outsAt0_C m c t h0 h1]
  frame_out
  simp (disch := decide) only [Rows.read_row_mem (ms0_13 t).view, Rows.read_row_skip (ms0_13 t).view, Rows.ld_row,
    Rows.readCov_row, Rows.canon_row_mem (ms0_13 t).view, Rows.canon_row_skip (ms0_13 t).view, row4]

end Cert.Proof.LossFwd

end
-- ==== Proof.RefLoss.lean ====
/- The loss and its derivative, as the reference program computes them, in real numbers. -/
module

public import proofs.«01_k».proof.Proof.Loss
public import proofs.«01_k».proof.Proof.Gen.Reference3Ideal.Read

@[expose] public section

set_option maxRecDepth 16384

noncomputable section

namespace Cert.Proof.RefLoss

open Idealize.ShloMosaic Cert.Reference3Ideal Cert.Reference3Ideal.Read Cert.Proof.Reals Cert.Proof.Fwd Cert.Proof.Loss

variable {L : Head} {X0 X1 : FVec Ideal S8192x1024 .f32} {X2 X3 : FVec Ideal S1x8192 .f32} {X4 X5 : FVec Ideal S1x1024 .f32}
  {X6 : FVec Ideal S1x1024x5632 .f32} {X7 : FVec Ideal S1x2816x1024 .f32} (E : Entries L X0 X1 X2 X3 X4 X5 X6 X7)
include E

theorem rstd_at (s : Fin 8192) : val_main_v16 (F := Ideal) X0 (ix2 s 0) = (rstd (L.x s) : EReal) := by
  pointwise [val_main_v9, val_main_v10, val_main_v11, val_main_v12, val_main_v13, val_main_v14, val_main_v15, val_main_v16, val_main_cst, val_main_cst_0, val_main_cst_1]
  simp only [E.x, n1024_word, eps_word, ← EReal.coe_mul, coe_sum, div_real _ (show (1024 : ℝ) ≠ 0 by norm_num), ← EReal.coe_add]
  exact rsqrt_real (msq_pos _)

theorem h_at (s : Fin 8192) (k : Fin 1024) : val_main_v26 (F := Ideal) X0 X2 X3 X4 (ix2 s k) = (L.h s k : EReal) := by
  pointwise [val_main_v17, val_main_v18, val_main_v19, val_main_v20, val_main_v21, val_main_v22, val_main_v23, val_main_v24, val_main_v25, val_main_v26, val_main_v0, val_main_v4, val_main_v5, val_main_cst_2]
  simp only [E.x, E.mod, E.g, rstd_at E, ← EReal.coe_mul, ← EReal.coe_add, ← EReal.coe_one]
  rfl

theorem pre_at (s : Fin 8192) (q : Fin 5632) : val_main_v28 (F := Ideal) X0 X2 X3 X4 X6 (ix2 s q) = (L.pre s q : EReal) := by
  pointwise [val_main_v27, val_main_v28]
  simp only [h_at E, E.wi, ← EReal.coe_mul, coe_sum]
  rfl

theorem g_at (s : Fin 8192) (j : Fin 2816) : val_main_v29 (F := Ideal) X0 X2 X3 X4 X6 (ix2 s j) = (L.pre s (gcol j) : EReal) := by
  pointwise [val_main_v29]
  exact pre_at E s (gcol j)

theorem u_at (s : Fin 8192) (j : Fin 2816) : val_main_v30 (F := Ideal) X0 X2 X3 X4 X6 (ix2 s j) = (L.pre s (ucol j) : EReal) := by
  pointwise [val_main_v30]
  exact pre_at E s (ucol j)

theorem a_at (s : Fin 8192) (j : Fin 2816) : val_main_v32 (F := Ideal) X0 X2 X3 X4 X6 (ix2 s j) = (L.a s j : EReal) := by
  pointwise [val_main_v31, val_main_v32, val_main_call0_v0, val_main_call0_v1, val_main_call0_v2, val_main_call0_v3, val_main_call0_v4, val_main_call0_v5,
    val_main_call0_cst, val_main_call0_cst_0]
  simp only [g_at E, u_at E, ← EReal.coe_neg, Ideal.exp_coe, ← EReal.coe_add, ← EReal.coe_one, div_real _ (one_add_exp_ne _), ← EReal.coe_mul]
  rfl

theorem x2_at (s : Fin 8192) (k : Fin 1024) : val_main_v37 (F := Ideal) X0 X2 X3 X4 X6 X7 (ix2 s k) = (L.x2 s k : EReal) := by
  pointwise [val_main_v33, val_main_v34, val_main_v35, val_main_v36, val_main_v37, val_main_v0, val_main_v6]
  simp only [a_at E, E.wo, E.x, E.mod, ← EReal.coe_mul, coe_sum, ← EReal.coe_add]
  rfl

theorem ms_at (s : Fin 8192) : val_main_v44 (F := Ideal) X0 X2 X3 X4 X6 X7 (ix2 s 0) = (msq (L.x2 s) : EReal) := by
  pointwise [val_main_v38, val_main_v39, val_main_v40, val_main_v41, val_main_v42, val_main_v43, val_main_v44, val_main_cst_3, val_main_cst_4, val_main_cst_5]
  simp only [x2_at E, n1024_word, eps_word, ← EReal.coe_mul, coe_sum, div_real _ (show (1024 : ℝ) ≠ 0 by norm_num), ← EReal.coe_add]
  rfl

theorem rf_at (s : Fin 8192) : val_main_v45 (F := Ideal) X0 X2 X3 X4 X6 X7 (ix2 s 0) = (rstd (L.x2 s) : EReal) := by
  pointwise [val_main_v45]
  rw [ms_at E, rsqrt_real (msq_pos _)]
  rfl

theorem nf_at (s : Fin 8192) (k : Fin 1024) : val_main_v52 (F := Ideal) X0 X2 X3 X4 X5 X6 X7 (ix2 s k) = (L.nf s k : EReal) := by
  pointwise [val_main_v49, val_main_v50, val_main_v51, val_main_v52]
  simp only [x2_at E, rf_at E, E.gf, ← EReal.coe_mul]
  rfl

theorem err_at (s : Fin 8192) (k : Fin 1024) : val_main_v59 (F := Ideal) X0 X1 X2 X3 X4 X5 X6 X7 (ix2 s k) = (L.err s k : EReal) := by
  pointwise [val_main_v53, val_main_v54, val_main_v55, val_main_v56, val_main_v57, val_main_v58, val_main_v59, val_main_v0, val_main_v7, val_main_v8, val_main_cst_7]
  simp only [nf_at E, E.mod, E.y, ← EReal.coe_mul, ← EReal.coe_add, ← EReal.coe_one, ← EReal.coe_sub]
  rfl

theorem dy_at (s : Fin 8192) (k : Fin 1024) : val_main_v73 (F := Ideal) X0 X1 X2 X3 X4 X5 X6 X7 (ix2 s k) = (L.dy s k : EReal) := by
  pointwise [val_main_v61, val_main_v62, val_main_v68, val_main_v69, val_main_v70, val_main_v71, val_main_v72, val_main_v73, val_main_cst_8, val_main_cst_13, val_main_cst_14, val_main_cst_15]
  simp only [err_at E, half_word, two_word, n1024_word, ← EReal.coe_mul, ← EReal.coe_one, div_real _ (show (1024 : ℝ) ≠ 0 by norm_num)]
  exact congrArg _ (by rw [Head.dy]; ring)

theorem dn_at (s : Fin 8192) (k : Fin 1024) : val_main_v80 (F := Ideal) X0 X1 X2 X3 X4 X5 X6 X7 (ix2 s k) = (L.dn s k : EReal) := by
  pointwise [val_main_v53, val_main_v54, val_main_v79, val_main_v80, val_main_v0, val_main_v8, val_main_cst_7]
  simp only [dy_at E, E.mod, ← EReal.coe_mul, ← EReal.coe_add, ← EReal.coe_one]
  rfl

theorem dx_at (s : Fin 8192) (k : Fin 1024) : val_main_v99 (F := Ideal) X0 X1 X2 X3 X4 X5 X6 X7 (ix2 s k) = (L.dx s k : EReal) := by
  pointwise [val_main_v84, val_main_v85, val_main_v86, val_main_v87, val_main_v88, val_main_v89, val_main_v90, val_main_v91, val_main_v92, val_main_v93, val_main_v94, val_main_v95, val_main_v96, val_main_v97, val_main_v98, val_main_v99, val_main_v46, val_main_v47, val_main_v48, val_main_cst_6, val_main_cst_19, val_main_cst_20, val_main_cst_21]
  simp only [dn_at E, x2_at E, E.gf, rf_at E, ms_at E, n1024_word, ← EReal.coe_mul, coe_sum, div_real _ (show (1024 : ℝ) ≠ 0 by norm_num),
    div_real _ (msq_pos _).ne', ← EReal.coe_add, Finset.univ_unique, Finset.sum_singleton, show (default : Fin 1) = 0 from rfl, neg_half_word]
  refine congrArg _ ?_
  rw [Head.dx, rstd_cube, show (∑ i, L.dn s i * L.gf i * L.x2 s i) = ∑ i, L.x2 s i * (L.dn s i * L.gf i) from Finset.sum_congr rfl fun i _ => mul_comm _ _]
  ring

omit E in
/-- The distance the squares are summed of is the loss's. -/
theorem err_twice : val_main_v118 (F := Ideal) X0 X1 X2 X3 X4 X5 X6 X7 = val_main_v59 (F := Ideal) X0 X1 X2 X3 X4 X5 X6 X7 := rfl

theorem loss_at (i : S_.Idx) : val_main_v67 (F := Ideal) X0 X1 X2 X3 X4 X5 X6 X7 i = (L.loss : EReal) := by
  pointwise [val_main_v63, val_main_v64, val_main_v65, val_main_v66, val_main_v67, val_main_v60, val_main_cst_9, val_main_cst_10, val_main_cst_11, val_main_cst_12]
  simp only [err_at E, n1024_word, half_word, ← EReal.coe_mul, coe_sum, div_real _ (show (1024 : ℝ) ≠ 0 by norm_num)]
  refine congrArg _ ?_
  rw [Head.loss, Finset.sum_comm, ← Finset.sum_div]
  ring

theorem acc_at (r : Fin 8) (q : Fin 1024) : val_main_v124 (F := Ideal) X0 X1 X2 X3 X4 X5 X6 X7 (ix2 r q) = (L.total r q : EReal) := by
  pointwise [val_main_v74, val_main_v75, val_main_v76, val_main_v77, val_main_v78, val_main_v81, val_main_v82, val_main_v83, val_main_v119, val_main_v120, val_main_v121, val_main_v122, val_main_v123, val_main_v124, val_main_v49, val_main_v50, val_main_cst_16, val_main_cst_17, val_main_cst_18, val_main_cst_26, val_main_cst_27]
  simp only [err_twice, loss_at E, dy_at E, dn_at E, err_at E, nf_at E, x2_at E, rf_at E, ← EReal.coe_mul, coe_sum]
  simp only [Head.total, Head.accAt, Nat.lt_one_iff, Nat.sub_eq_zero_iff_le]
  split_ifs <;> first
    | omega
    | exact congrArg _ (Finset.sum_congr rfl fun s _ => by ring)
    | simp only [Finset.sum_const_zero, EReal.coe_zero]
    | rfl

end Cert.Proof.RefLoss

end
-- ==== Proof.LossArr.lean ====
/- The six arrays the feed-forward kernel with the loss returns, in real numbers, and what its arguments must hold. -/
module

public import proofs.«01_k».proof.Proof.LossAcc
public import proofs.«01_k».proof.Proof.RefLoss
public import proofs.«01_k».proof.Proof.Finite

@[expose] public section

set_option maxRecDepth 16384

noncomputable section

namespace Cert.Proof.LossFwd

open Idealize.ShloMosaic Cert.Kernel3Ideal Cert.Kernel3Ideal.Gen Cert.Proof.Fwd Cert.Proof.Reals Cert.Proof.Loss

section finite
open Cert.Proof.Finite

instance facts : Cert.Pre_finite3.Facts where
  bcast_S_S8192x1024 := by decide
  reducesTo_S8192x1024_S_d0_1 := by decide
  h_S_ := by decide
  bcast_S_S1x8192 := by decide
  reducesTo_S1x8192_S_d0_1 := by decide
  bcast_S_S1x1024 := by decide
  reducesTo_S1x1024_S_d0_1 := by decide
  bcast_S_S1x1024x5632 := by decide
  reducesTo_S1x1024x5632_S_d0_1_2 := by decide
  bcast_S_S1x2816x1024 := by decide
  reducesTo_S1x2816x1024_S_d0_1_2 := by decide

variable {X0 X1 : FVec Ideal S8192x1024 .f32} {X2 X3 : FVec Ideal S1x8192 .f32} {X4 X5 : FVec Ideal S1x1024 .f32}
  {X6 : FVec Ideal S1x1024x5632 .f32} {X7 : FVec Ideal S1x2816x1024 .f32}

/-- Arguments of which the precondition holds hold real arrays. -/
theorem entries_of (j : (⟨0, ![]⟩ : Shape).Idx) (h : Cert.Pre_finite3.fn X0 X1 X2 X3 X4 X5 X6 X7 j = 1#1) :
    ∃ L, Entries L X0 X1 X2 X3 X4 X5 X6 X7 := by
  obtain ⟨h, h7⟩ := and_one h
  obtain ⟨h, h6⟩ := and_one h
  obtain ⟨h, h5⟩ := and_one h
  obtain ⟨h, h4⟩ := and_one h
  obtain ⟨h, h3⟩ := and_one h
  obtain ⟨h, h2⟩ := and_one h
  obtain ⟨h0, h1⟩ := and_one h
  obtain ⟨f0, e0⟩ := realVec_of (all_real X0 _ (fun _ => inf_word) _ _ _ _ h0)
  obtain ⟨f1, e1⟩ := realVec_of (all_real X1 _ (fun _ => inf_word) _ _ _ _ h1)
  obtain ⟨f2, e2⟩ := realVec_of (all_real X2 _ (fun _ => inf_word) _ _ _ _ h2)
  obtain ⟨f3, e3⟩ := realVec_of (all_real X3 _ (fun _ => inf_word) _ _ _ _ h3)
  obtain ⟨f4, e4⟩ := realVec_of (all_real X4 _ (fun _ => inf_word) _ _ _ _ h4)
  obtain ⟨f5, e5⟩ := realVec_of (all_real X5 _ (fun _ => inf_word) _ _ _ _ h5)
  obtain ⟨f6, e6⟩ := realVec_of (all_real X6 _ (fun _ => inf_word) _ _ _ _ h6)
  obtain ⟨f7, e7⟩ := realVec_of (all_real X7 _ (fun _ => inf_word) _ _ _ _ h7)
  exact ⟨⟨fun s k => f0 (ix2 s k), fun s k => f1 (ix2 s k), fun k => f2 (ix2 0 k) + f3 (ix2 0 k), fun k => f4 (ix2 0 k), fun k => f5 (ix2 0 k),
    fun k j => f6 (ix3 0 k j), fun j k => f7 (ix3 0 j k)⟩, fun s k => e0 _, fun s k => e1 _, fun k => by rw [e2, e3, ← EReal.coe_add], fun k => e4 _,
    fun k => e5 _, fun k j => e6 _, fun j k => e7 _⟩
end finite

variable (m : (ℓ : Loc nD τ sig) → Buf (Elt Ideal) ℓ) {L : Head} (c : Dev nD)

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0, 0] ∧ win0_7.index t = ![0, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![0, 0] :=
  (by decide +kernel : ∀ t : Fin grid0.N, _)

theorem lt16 (t : Fin cfg0.N) : t.val < 16 := lt_of_lt_of_eq t.isLt N_0

abbrev wiIn : FVec Ideal S4x1024x1408 .bf16 := V m c main_v3
abbrev woIn : FVec Ideal S2816x1024 .bf16 := V m c main_v5

/-- The arguments in memory hold real arrays. -/
abbrev Mem (L : Head) : Prop := Entries L (m (c.tc.loc main_arg0)) (m (c.tc.loc main_arg1)) (m (c.tc.loc main_arg2)) (m (c.tc.loc main_arg3))
  (m (c.tc.loc main_arg4)) (m (c.tc.loc main_arg5)) (m (c.tc.loc main_arg6)) (m (c.tc.loc main_arg7))

theorem cast_wo (Y : FVec Ideal S1x2816x1024 .f32) (j : Fin 2816) (k : Fin 1024) :
    (truncf .bf16 (shapeCast S2816x1024 Y shapeCasts_S1x2816x1024_S2816x1024) bitsLt_bf16_f32 : FVec Ideal S2816x1024 .bf16) (ix2 j k) = Y (ix3 0 j k) := by
  pointwise []

theorem cast_wi (Y : FVec Ideal S1x1024x5632 .f32) (p : Fin 4) (k : Fin 1024) (j : Fin 1408) (q : Fin 5632) (hq : q.val = p.val * 1408 + j.val) :
    transpose S4x1024x1408 [1, 0, 2] (shapeCast S1024x4x1408 (truncf .bf16 (shapeCast S1024x5632 Y shapeCasts_S1x1024x5632_S1024x5632)
      bitsLt_bf16_f32 : FVec Ideal S1024x5632 .bf16) shapeCasts_S1024x5632_S1024x4x1408) transposes_S1024x4x1408_S4x1024x1408_1_0_2 (ix3 p k j) = Y (ix3 0 k q) := by
  pointwise []
  exact congrArg (fun q => Y (ix3 0 k q)) (Fin.ext hq.symm)

theorem wo_in (E : Mem m c L) (j : Fin 2816) (k : Fin 1024) : woIn m c (ix2 j k) = (L.wo j k : EReal) :=
  (cast_wo (m (c.tc.loc main_arg7)) j k).trans (E.wo j k)

theorem wi_in (E : Mem m c L) (p : Fin 4) (k : Fin 1024) (j : Fin 1408) (q : Fin 5632) (hq : q.val = p.val * 1408 + j.val) :
    wiIn m c (ix3 p k j) = (L.wi k q : EReal) :=
  (cast_wi (m (c.tc.loc main_arg6)) p k j q hq).trans (E.wi k q)

theorem holds (E : Mem m c L) (t : Fin cfg0.N) : Holds m L (row t.val (lt16 t)) c t where
  x r k := Eq.trans (by blk_point [iblk, idx t]; rfl) (E.x (row t.val (lt16 t) r) k)
  y r k := Eq.trans (by blk_point [iblk, idx t]; rfl) (E.y (row t.val (lt16 t) r) k)
  mod k := Eq.trans (by blk_point [iblk, idx t]) (E.mod k)
  g k := Eq.trans (by blk_point [iblk, idx t]) (E.g k)
  gf k := Eq.trans (by blk_point [iblk, idx t]) (E.gf k)
  wi0 k j := Eq.trans (by blk_point [iblk, idx t]) (wi_in m c E 0 k j _ (Nat.zero_add _).symm)
  wi1 k j := Eq.trans (by blk_point [iblk, idx t]) (wi_in m c E 1 k j _ rfl)
  wi2 k j := Eq.trans (by blk_point [iblk, idx t]) (wi_in m c E 2 k j _ rfl)
  wi3 k j := Eq.trans (by blk_point [iblk, idx t]) (wi_in m c E 3 k j _ rfl)
  wo j k := Eq.trans (by blk_point [iblk, idx t]) (wo_in m c E j k)

/-- The six results in real numbers. -/
def resG (L : Head) : FVec Ideal S8192x2816 .bf16 := fun i => (L.pre (i 0) (gcol (i 1)) : EReal)
def resU (L : Head) : FVec Ideal S8192x2816 .bf16 := fun i => (L.pre (i 0) (ucol (i 1)) : EReal)
def resA (L : Head) : FVec Ideal S8192x2816 .bf16 := fun i => (L.a (i 0) (i 1) : EReal)
def resH (L : Head) : FVec Ideal S8192x1024 .bf16 := fun i => (L.h (i 0) (i 1) : EReal)
def resX (L : Head) : FVec Ideal S8192x1024 .f32 := fun i => (L.dx (i 0) (i 1) : EReal)
def resRows (L : Head) : FVec Ideal S8x1024 .f32 := fun i => (L.total (i 0) (i 1) : EReal)

theorem arr8_eq (E : Mem m c L) : (dats m 0 c).arrAt 8 cfg0.N = resG L := by
  refine (dats m 0 c).arrAt_eq_of_covers 8 _ (by decide +kernel) fun t hf y => ?_
  have hN := lt16 t
  idx_vars y
  have he : (win0_8.blk t).view.emb (ix2 y0 y1) = ix2 (row t.val hN y0) y1 := by
    blk_ext [idx t]
    rfl
  blk_simp
  rw [after0_8, (outs m c t (holds m c E t) y0 y1 0).1, he]
  rfl

theorem arr9_eq (E : Mem m c L) : (dats m 0 c).arrAt 9 cfg0.N = resU L := by
  refine (dats m 0 c).arrAt_eq_of_covers 9 _ (by decide +kernel) fun t hf y => ?_
  have hN := lt16 t
  idx_vars y
  have he : (win0_9.blk t).view.emb (ix2 y0 y1) = ix2 (row t.val hN y0) y1 := by
    blk_ext [idx t]
    rfl
  blk_simp
  rw [after0_9, (outs m c t (holds m c E t) y0 y1 0).2.1, he]
  rfl

theorem arr10_eq (E : Mem m c L) : (dats m 0 c).arrAt 10 cfg0.N = resA L := by
  refine (dats m 0 c).arrAt_eq_of_covers 10 _ (by decide +kernel) fun t hf y => ?_
  have hN := lt16 t
  idx_vars y
  have he : (win0_10.blk t).view.emb (ix2 y0 y1) = ix2 (row t.val hN y0) y1 := by
    blk_ext [idx t]
    rfl
  blk_simp
  rw [after0_10, (outs m c t (holds m c E t) y0 y1 0).2.2.1, he]
  rfl

theorem arr11_eq (E : Mem m c L) : (dats m 0 c).arrAt 11 cfg0.N = resH L := by
  refine (dats m 0 c).arrAt_eq_of_covers 11 _ (by decide +kernel) fun t hf y => ?_
  have hN := lt16 t
  idx_vars y
  have he : (win0_11.blk t).view.emb (ix2 y0 y1) = ix2 (row t.val hN y0) y1 := by
    blk_ext [idx t]
    rfl
  blk_simp
  rw [after0_11, (outs m c t (holds m c E t) y0 0 y1).2.2.2.1, he]
  rfl

theorem arr12_eq (E : Mem m c L) : (dats m 0 c).arrAt 12 cfg0.N = resX L := by
  refine (dats m 0 c).arrAt_eq_of_covers 12 _ (by decide +kernel) fun t hf y => ?_
  have hN := lt16 t
  idx_vars y
  have he : (win0_12.blk t).view.emb (ix2 y0 y1) = ix2 (row t.val hN y0) y1 := by
    blk_ext [idx t]
    rfl
  blk_simp
  rw [after0_12, (outs m c t (holds m c E t) y0 0 y1).2.2.2.2, he]
  rfl

/-- After the last point a row other than the loss's holds the sums over all rows. -/
theorem last_sum (E : Mem m c L) (t : Fin cfg0.N) (h : t.val % 16 = 15) (r : Fin 8) (h4 : ¬ r.val = 4) (q : Fin 1024) :
    (outsAt0 m c t.val t.isLt).2.2.2.2.2 (ix2 r q) = ((∑ s, L.accAt s r q : ℝ) : EReal) := by
  rw [Pipeline.eq_sum_fin_of_reset_step_apply_of_flush (fun n h (k : Fin 1024) => (outsAt0 m c n h).2.2.2.2.2 (ix2 r k)) 16 (fun _ => 0)
    (fun t (k : Fin 1024) => ((∑ i, L.accAt (row t.val (lt16 t) i) r k : ℝ) : EReal))
    (fun t h k => by rw [zero_add]; exact out13A m c t h (holds m c E t) r k)
    (fun t h k => out13B m c t h (holds m c E t) r h4 k) t h q, zero_add]
  have hN := lt16 t
  rw [coe_sum]
  refine congrArg _ (Fin.sum_mul_add_congr (S := 16) (n := 512) fun s k hl => ?_)
  exact congrArg (fun s => L.accAt s r q) (Fin.ext (by simp [row]; omega))

theorem last_13 (E : Mem m c L) (t : Fin cfg0.N) (h : t.val % 16 = 15) (r : Fin 8) (q : Fin 1024) :
    (outsAt0 m c t.val t.isLt).2.2.2.2.2 (ix2 r q) = (L.total r q : EReal) := by
  by_cases h4 : r.val = 4
  · obtain rfl : r = 4 := Fin.ext h4
    rw [out13C m c t (by omega) h]
    simp only [last_sum m c E t h 3 (by decide), inv2048_word, coe_sum, ← EReal.coe_mul]
    rfl
  · rw [last_sum m c E t h r h4, Head.total, if_neg h4]

theorem arr13_eq (E : Mem m c L) : (dats m 0 c).arrAt 13 cfg0.N = resRows L := by
  refine (dats m 0 c).arrAt_eq_of_covers 13 _ (by decide +kernel) fun t hf y => ?_
  have hN := lt16 t
  have h := (flush0_13 t).mp hf
  idx_vars y
  have he : (win0_13.blk t).view.emb (ix2 y0 y1) = ix2 y0 y1 := by
    blk_ext [idx t]
  blk_simp
  rw [after0_13, he]
  exact last_13 m c E t (by omega) y0 y1

end Cert.Proof.LossFwd

end
-- ==== Proof.Mix.lean ====
/- The spatial gating branch of the mixer and its derivative, one chunk of 128 rows at a time, in real numbers. -/
module

public import proofs.«01_k».proof.Proof.Loss

@[expose] public section

noncomputable section

namespace Cert.Proof.Mix

open Idealize.ShloMosaic Cert.Proof.Reals

/-- The error function, the two constants of the exact gelu, the gelu and its slope. -/
def er (r : ℝ) : ℝ := 2 / Real.sqrt Real.pi * ∫ t in (0 : ℝ)..r, Real.exp (-(t ^ 2))
def root : ℝ := (Real.sqrt 2)⁻¹
def bell : ℝ := (Real.sqrt (2 * Real.pi))⁻¹
def cdf (u : ℝ) : ℝ := 1 / 2 * (1 + er (u * root))
def gel (u : ℝ) : ℝ := u * cdf u
def dgel (u : ℝ) : ℝ := cdf u + u * (Real.exp (-(1 / 2) * u * u) * bell)

theorem erf_real (r : ℝ) : Ideal.erf (r : EReal) = (er r : EReal) := rfl

/-- The reciprocal root of a row's mean square over 512 columns, and that mean square with its small constant. -/
def msq (x : Fin 512 → ℝ) : ℝ := (∑ k, x k * x k) * (1 / 512) + eps
def rstd (x : Fin 512 → ℝ) : ℝ := (Real.sqrt (msq x))⁻¹

theorem msq_pos (x : Fin 512 → ℝ) : 0 < msq x :=
  add_pos_of_nonneg_of_pos (mul_nonneg (Finset.sum_nonneg fun k _ => mul_self_nonneg (x k)) (by norm_num)) eps_pos

theorem rsqrt_row (x : Fin 512 → ℝ) : Ideal.rsqrt ((((∑ k, x k * x k) * (1 / 512) + eps : ℝ)) : EReal) = (rstd x : EReal) :=
  rsqrt_real (msq_pos x)

theorem rstd_cube (x : Fin 512 → ℝ) : rstd x / msq x = rstd x * rstd x * rstd x := by
  have h := Real.mul_self_sqrt (msq_pos x).le
  have h0 : Real.sqrt (msq x) ≠ 0 := (Real.sqrt_pos.mpr (msq_pos x)).ne'
  unfold rstd
  have h1 : (msq x)⁻¹ = (Real.sqrt (msq x))⁻¹ * (Real.sqrt (msq x))⁻¹ := by rw [← mul_inv, h]
  rw [div_eq_mul_inv, h1, mul_assoc]

/-- The weights: the layer norm's scale and shift, the branch norm's scale, the masked mixing matrices and their bias. -/
structure Weights where
  lg : Fin 512 → ℝ
  lb : Fin 512 → ℝ
  ga : Fin 512 → ℝ
  w : Fin 8 → Fin 128 → Fin 128 → ℝ
  b : Fin 8 → Fin 128 → ℝ

/-- A chunk: the branch's two halves before the gelu, and the gradient that arrives at the normalised branch. -/
structure Chunk where
  u : Fin 128 → Fin 512 → ℝ
  v : Fin 128 → Fin 512 → ℝ
  d : Fin 128 → Fin 512 → ℝ

def head (q : Fin 512) : Fin 8 := ⟨q.val / 64, by omega⟩
def col (h : Fin 8) (j : Fin 64) : Fin 512 := ⟨64 * h.val + j.val, by omega⟩

section chunk
variable (W : Weights) (X : Chunk)

/-- The layer norm of the second half's gelu. -/
def gv (s : Fin 128) (q : Fin 512) : ℝ := gel (X.v s q)
def vc (s : Fin 128) (q : Fin 512) : ℝ := gv X s q - (∑ k, gv X s k) * (1 / 512)
def vr (s : Fin 128) : ℝ := rstd (vc X s)
def vh (s : Fin 128) (q : Fin 512) : ℝ := vc X s q * vr X s
def vl (s : Fin 128) (q : Fin 512) : ℝ := vh X s q * W.lg q + W.lb q

/-- The mixed rows, the gated product and its norm. -/
def mx (s : Fin 128) (q : Fin 512) : ℝ := (∑ t, W.w (head q) s t * vl W X t q) + W.b (head q) s
def ya (s : Fin 128) (q : Fin 512) : ℝ := gel (X.u s q) * mx W X s q
def ra (s : Fin 128) : ℝ := rstd (ya W X s)
def tg (s : Fin 128) (q : Fin 512) : ℝ := X.d s q * ya W X s q * ra W X s

/-- The gradients at the gated product, at the first half, at the mixed rows, at the layer norm's output and at the second half. -/
def ta (s : Fin 128) (q : Fin 512) : ℝ := X.d s q * W.ga q
def dya (s : Fin 128) (q : Fin 512) : ℝ := ra W X s * ta W X s q
  - ya W X s q * (ra W X s * ra W X s * ra W X s) * ((∑ k, ta W X s k * ya W X s k) * (1 / 512))
def du (s : Fin 128) (q : Fin 512) : ℝ := dya W X s q * mx W X s q * dgel (X.u s q)
def dm (s : Fin 128) (q : Fin 512) : ℝ := dya W X s q * gel (X.u s q)
def dl (t : Fin 128) (q : Fin 512) : ℝ := ∑ s, W.w (head q) s t * dm W X s q
def dvh (t : Fin 128) (q : Fin 512) : ℝ := dl W X t q * W.lg q
def dv (t : Fin 128) (q : Fin 512) : ℝ := vr X t * (dvh W X t q - (∑ k, dvh W X t k) * (1 / 512)
  - vh X t q * ((∑ k, dvh W X t k * vh X t k) * (1 / 512))) * dgel (X.v t q)

/-- A chunk's share of the mixing matrices' and the bias's gradients. -/
def sw (h : Fin 8) (s t : Fin 128) : ℝ := ∑ j, dm W X s (col h j) * vl W X t (col h j)
def sb (h : Fin 8) (s : Fin 128) : ℝ := ∑ j, dm W X s (col h j)
end chunk

theorem inv512_word : Ideal.ofBits .f32 0x3B000000#32 = ((1 / 512 : ℝ) : EReal) := by
  simp [Ideal.ofBits, Ideal.ieee]
  rw [← EReal.coe_mul]; norm_num

theorem n512_word : Ideal.ofBits .f32 0x44000000#32 = ((512 : ℝ) : EReal) := by
  simp [Ideal.ofBits, Ideal.ieee]
  rw [← EReal.coe_mul]; norm_num

theorem four_word : Ideal.ofBits .f32 0x40800000#32 = ((4 : ℝ) : EReal) := by
  simp [Ideal.ofBits, Ideal.ieee]
  rw [← EReal.coe_mul]; norm_num

/-- The half of 128 columns that a mask keeps. -/
theorem sum_lo (f : Fin 128 → ℝ) : (∑ j : Fin 128, if j.val < 64 then f j else 0) = ∑ j : Fin 64, f ⟨j.val, by omega⟩ := by
  rw [Fin.sum_univ_add (a := 64) (b := 64) fun j : Fin 128 => if j.val < 64 then f j else 0]
  have h2 : ∀ j : Fin 64, (if (Fin.natAdd 64 j : Fin 128).val < 64 then f (Fin.natAdd 64 j) else 0) = 0 := fun j =>
    if_neg (show ¬ (Fin.natAdd 64 j : Fin 128).val < 64 from not_lt.mpr (Nat.le_add_right 64 _))
  have h1 : ∀ j : Fin 64, (if (Fin.castAdd 64 j : Fin 128).val < 64 then f (Fin.castAdd 64 j) else 0) = f ⟨j.val, by omega⟩ := fun j => if_pos j.isLt
  rw [Finset.sum_congr rfl fun j _ => h1 j, Finset.sum_eq_zero fun j _ => h2 j, add_zero]

theorem sum_hi (f : Fin 128 → ℝ) : (∑ j : Fin 128, if j.val < 64 then 0 else f j) = ∑ j : Fin 64, f ⟨64 + j.val, by omega⟩ := by
  rw [Fin.sum_univ_add (a := 64) (b := 64) fun j : Fin 128 => if j.val < 64 then 0 else f j]
  have h2 : ∀ j : Fin 64, (if (Fin.natAdd 64 j : Fin 128).val < 64 then 0 else f (Fin.natAdd 64 j)) = f ⟨64 + j.val, by omega⟩ := fun j =>
    if_neg (show ¬ (Fin.natAdd 64 j : Fin 128).val < 64 from not_lt.mpr (Nat.le_add_right 64 _))
  have h1 : ∀ j : Fin 64, (if (Fin.castAdd 64 j : Fin 128).val < 64 then 0 else f (Fin.castAdd 64 j)) = 0 := fun j => if_pos j.isLt
  rw [Finset.sum_eq_zero fun j _ => h1 j, zero_add, Finset.sum_congr rfl fun j _ => h2 j]

end Cert.Proof.Mix

end
-- ==== Proof.MixRow.lean ====
/- What the mixer's spatial branch computes for a block of two chunks, in real numbers. -/
module

public import proofs.«01_k».proof.Proof.Gen.Kernel4Ideal.Skeleton
public import proofs.«01_k».proof.Proof.Mix

@[expose] public section

set_option maxRecDepth 16384

noncomputable section

namespace Cert.Proof.Mix

open Idealize.ShloMosaic Cert.Kernel4Ideal Cert.Kernel4Ideal.Gen Cert.Proof.Reals Cert.Proof.Loss

/-- A row's chunk among the block's two, and its place in the chunk. -/
def ck (i : Fin 256) : Fin 2 := ⟨i.val / 128, by omega⟩
def rw_ (i : Fin 256) : Fin 128 := ⟨i.val % 128, by omega⟩

/-- A block of 256 rows, a column and a row that hold real arrays. -/
def Is {φ : FTy} (v : FVec Ideal S256x512 φ) (f : Fin 2 → Fin 128 → Fin 512 → ℝ) : Prop :=
  ∀ i q, v (ix2 i q) = ((f (ck i) (rw_ i) q : ℝ) : EReal)
def IsR (v : FVec Ideal S256x1 .f32) (f : Fin 2 → Fin 128 → ℝ) : Prop := ∀ i, v (ix2 i 0) = ((f (ck i) (rw_ i) : ℝ) : EReal)
def IsV (v : FVec Ideal S1x512 .f32) (f : Fin 512 → ℝ) : Prop := ∀ q, v (ix2 0 q) = ((f q : ℝ) : EReal)

theorem named_root : Named.named (F := Ideal) κ "root" (φ := .f32) 0x3F3504F3#32 = (root : EReal) :=
  IdealRules.named_const.ideal_named_scalar _ _ _ _ rfl

theorem named_bell : Named.named (F := Ideal) κ "bell" (φ := .f32) 0x3ECC422A#32 = (bell : EReal) :=
  IdealRules.named_const.ideal_named_scalar _ _ _ _ rfl

theorem erf_at (r : ℝ) : FloatOps.erf (F := Ideal) (φ := .f32) (r : EReal) = (er r : EReal) := rfl

theorem exp_at (r : ℝ) : Ideal.exp (r : EReal) = (Real.exp r : EReal) := rfl

/-- The mask that keeps the first 64 of 128 columns. -/
theorem mask (j : Fin 128) (a b : EReal) :
    Scalar.select (IntOp.cmpi CmpIPredicate.slt (BitVec.ofNat 32 j.val) 64#32) a b = if j.val < 64 then a else b := by
  have h : ∀ j : Fin 128, IntOp.cmpi CmpIPredicate.slt (BitVec.ofNat 32 j.val) 64#32 = if j.val < 64 then 1#1 else 0#1 := by decide
  rw [h]
  split <;> rfl

variable {W : Weights} {X : Fin 2 → Chunk}

/-! ## The branch's forward values -/

section forward
variable {v18 v19 v30 v21 v41 v196 : FVec Ideal S256x512 .f32} {v26 v27 : FVec Ideal S1x512 .f32} {v75 v76 : FVec Ideal S256x512 .f32}

theorem is21 (h : Is v18 fun c => (X c).u) : Is (φ := .f32) (k0_pay21 v18) fun c => (X c).u := by
  intro i q
  pointwise [k0_pay21]
  exact h i q

theorem is22 (h : Is v18 fun c => (X c).v) : Is (φ := .f32) (k0_pay22 v18) fun c => (X c).v := by
  intro i q
  pointwise [k0_pay22]
  exact h i q

theorem is25 (h : Is v18 fun c => (X c).u) : Is (φ := .f32) (k0_pay25 v18) fun c s q => er ((X c).u s q * root) := by
  intro i q
  pointwise [k0_pay25, k0_pay21]
  simp only [h i q, named_root, ← EReal.coe_mul, erf_at]

theorem is27 (h : Is v19 fun c => (X c).u) (h0 : Is v30 fun c s q => er ((X c).u s q * root)) :
    Is (φ := .f32) (k0_pay27 v19 v30) fun c s q => gel ((X c).u s q) := by
  intro i q
  pointwise [k0_pay27, k0_pay26]
  simp only [h i q, h0 i q, half_word, ← EReal.coe_one, ← EReal.coe_mul, ← EReal.coe_add]
  rfl

theorem is28 (h : Is v19 fun c => (X c).u) (h0 : Is v30 fun c s q => er ((X c).u s q * root)) :
    Is (φ := .f32) (k0_pay28 v19 v30) fun c s q => dgel ((X c).u s q) := by
  intro i q
  pointwise [k0_pay28, k0_pay26]
  simp only [h i q, h0 i q, half_word, neg_half_word, named_bell, ← EReal.coe_one, ← EReal.coe_mul, ← EReal.coe_add, exp_at]
  rfl

theorem is29 (h : Is v21 fun c => (X c).v) : Is (φ := .f32) (k0_pay29 v21) fun c s q => cdf ((X c).v s q) := by
  intro i q
  pointwise [k0_pay29]
  simp only [h i q, half_word, named_root, ← EReal.coe_one, ← EReal.coe_mul, ← EReal.coe_add, erf_at]
  rfl

theorem is30 (h : Is v21 fun c => (X c).v) : Is (φ := .f32) (k0_pay30 v21) fun c s q => dgel ((X c).v s q) := by
  intro i q
  pointwise [k0_pay30]
  simp only [h i q, is29 h i q, neg_half_word, named_bell, ← EReal.coe_mul, ← EReal.coe_add, exp_at]
  rfl

theorem is31 (h : Is v21 fun c => (X c).v) : Is (φ := .f32) (k0_pay31 v21) fun c => vc (X c) := by
  intro i q
  pointwise [k0_pay31]
  simp only [h i _, is29 h i _, inv512_word, ← EReal.coe_mul, coe_sum, ← EReal.coe_sub]
  rfl

theorem is32 (h : Is v21 fun c => (X c).v) : IsR (k0_pay32 v21) fun c => vr (X c) := by
  intro i
  pointwise [k0_pay32]
  simp only [is31 h i _, inv512_word, eps_word, ← EReal.coe_mul, coe_sum, ← EReal.coe_add]
  exact rsqrt_row _

theorem is33 (h : Is v21 fun c => (X c).v) : Is (φ := .f32) (k0_pay33 v21) fun c => vh (X c) := by
  intro i q
  pointwise [k0_pay33]
  simp only [is31 h i _, is32 h i, ← EReal.coe_mul]
  rfl

theorem is34 {g : Fin 512 → ℝ} (h : IsV v26 g) : Is (φ := .f32) (k0_pay34 v26) fun _ _ => g := by
  intro i q
  pointwise [k0_pay34]
  exact h q

theorem is35 (hb : IsV v27 W.lb) (h : Is v75 fun c => vh (X c)) (hg : Is v76 fun _ _ => W.lg) : Is (k0_pay35 v27 v75 v76) fun c => vl W (X c) := by
  intro i q
  pointwise [k0_pay35]
  simp only [h i q, hg i q, hb q, ← EReal.coe_mul, ← EReal.coe_add]
  rfl

theorem is69 (h : Is v41 fun c s q => gel ((X c).u s q)) (h0 : Is v196 fun c => mx W (X c)) : Is (φ := .f32) (k0_pay69 v41 v196) fun c => ya W (X c) := by
  intro i q
  pointwise [k0_pay69]
  simp only [h i q, h0 i q, ← EReal.coe_mul]
  rfl

theorem is70 (h : Is v41 fun c s q => gel ((X c).u s q)) (h0 : Is v196 fun c => mx W (X c)) : IsR (k0_pay70 v41 v196) fun c => ra W (X c) := by
  intro i
  pointwise [k0_pay70]
  simp only [is69 h h0 i _, inv512_word, eps_word, ← EReal.coe_mul, coe_sum, ← EReal.coe_add]
  exact rsqrt_row _
end forward

/-! ## The gradients up to the mixed rows -/

section backward
variable {v14 v41 v43 v59 v75 v196 v351 v421 v422 v661 v693 : FVec Ideal S256x512 .f32} {v352 : FVec Ideal S1x512 .f32} {v361 v73 : FVec Ideal S256x1 .f32}

theorem is77 (hd : Is v14 fun c => (X c).d) (hy : Is v351 fun c => ya W (X c)) (hg : IsV v352 W.ga) (hr : IsR v361 fun c => ra W (X c)) :
    Is (φ := .f32) (k0_pay77 v14 v351 v352 v361) fun c => dya W (X c) := by
  intro i q
  pointwise [k0_pay77]
  simp only [hd i _, hy i _, hg _, hr i, inv512_word, ← EReal.coe_mul, coe_sum, ← EReal.coe_sub]
  rfl

theorem is79 (hd : Is v14 fun c => (X c).d) (hx : Is v43 fun c s q => dgel ((X c).u s q)) (hm : Is v196 fun c => mx W (X c))
    (hy : Is v351 fun c => ya W (X c)) (hg : IsV v352 W.ga) (hr : IsR v361 fun c => ra W (X c)) :
    Is (φ := .f32) (k0_pay79 v14 v43 v196 v351 v352 v361) fun c => du W (X c) := by
  intro i q
  pointwise [k0_pay79]
  simp only [is77 hd hy hg hr i q, hx i q, hm i q, ← EReal.coe_mul]
  rfl

theorem is80 (hd : Is v14 fun c => (X c).d) (hu : Is v41 fun c s q => gel ((X c).u s q))
    (hy : Is v351 fun c => ya W (X c)) (hg : IsV v352 W.ga) (hr : IsR v361 fun c => ra W (X c)) :
    Is (φ := .f32) (k0_pay80 v14 v41 v351 v352 v361) fun c => dm W (X c) := by
  intro i q
  pointwise [k0_pay80]
  simp only [is77 hd hy hg hr i q, hu i q, ← EReal.coe_mul]
  rfl

theorem is81 (hd : Is v14 fun c => (X c).d) (hu : Is v41 fun c s q => gel ((X c).u s q))
    (hy : Is v351 fun c => ya W (X c)) (hg : IsV v352 W.ga) (hr : IsR v361 fun c => ra W (X c)) :
    Is (k0_pay81 v14 v41 v351 v352 v361) fun c => dm W (X c) := by
  intro i q
  pointwise [k0_pay81]
  exact is80 hd hu hy hg hr i q

theorem is136 {v26 : FVec Ideal S1x512 .f32} (hg : IsV v26 W.lg) (h : Is v661 fun c => dl W (X c)) : Is (φ := .f32) (k0_pay136 v26 v661) fun c => dvh W (X c) := by
  intro i q
  pointwise [k0_pay136]
  simp only [hg q, h i q, ← EReal.coe_mul]
  rfl

theorem is137 {v676 : FVec Ideal S256x512 .f32} (hx : Is v59 fun c s q => dgel ((X c).v s q)) (hr : IsR v73 fun c => vr (X c)) (hh : Is v75 fun c => vh (X c))
    (h : Is v676 fun c => dvh W (X c)) : Is (φ := .f32) (k0_pay137 v59 v73 v75 v676) fun c => dv W (X c) := by
  intro i q
  pointwise [k0_pay137]
  simp only [hx i q, hr i, hh i _, h i _, inv512_word, ← EReal.coe_mul, coe_sum, ← EReal.coe_sub]
  rfl
end backward

end Cert.Proof.Mix

end
-- ==== Proof.MixBlk.lean ====
/- What the mixer's backward kernel stores for a block of two chunks, over arrays of any kind. -/
module

public import proofs.«01_k».proof.Proof.Gen.Kernel4Ideal.Skeleton
public import Idealize.ShloMosaic.Lib.Pipeline.ValueKit
public import proofs.«01_k».proof.Proof.MixRow

@[expose] public section

set_option maxRecDepth 16384

noncomputable section

namespace Cert.Proof.Mix

open Idealize.ShloMosaic Cert.Kernel4Ideal Cert.Kernel4Ideal.Gen Cert.Proof.Reals Cert.Proof.Loss

/-- One head's matrix, and 128 columns of the bias. -/
def w8 (w : FVec Ideal S8x128x128 .bf16) (k : ℕ) (h : ∀ a, (![k, 0, 0] : Fin 3 → ℕ) a + S1x128x128.size a ≤ S8x128x128.size a) : FVec Ideal S1x128x128 .bf16 :=
  View.ld (Val := Elt Ideal) (e' := .bf16) w (Rect.unit (s := S8x128x128) ![k, 0, 0] S1x128x128.size h)
def b4 (b : FVec Ideal S128x512 .f32) (k : ℕ) (h : ∀ a, (![0, k] : Fin 2 → ℕ) a + S128x128.size a ≤ S128x512.size a) : FVec Ideal S128x128 .f32 :=
  View.ld (Val := Elt Ideal) (e' := .f32) b (Rect.unit (s := S128x512) ![0, k] S128x128.size h)

theorem w8_at (w : FVec Ideal S8x128x128 .bf16) (k : ℕ) (h) (i j : Fin 128) :
    w8 w k h (ix3 0 i j) = w (ix3 ⟨k, by have := h 0; simp at this; omega⟩ i j) := by
  unfold w8
  pointwise []

theorem b4_at (b : FVec Ideal S128x512 .f32) (k : ℕ) (h) (i j : Fin 128) :
    b4 b k h (ix2 i j) = b (ix2 i ⟨k + j.val, by have := h 1; simp at this; omega⟩) := by
  unfold b4
  pointwise []

/-- A row's place when the chunk is known. -/
theorem ck_lo (x : Fin 128) (h) : ck ⟨x.val, h⟩ = 0 := by apply Fin.ext; simp only [ck]; have := x.isLt; simp
theorem ck_hi (x : Fin 128) (h) : ck ⟨128 + x.val, h⟩ = 1 := by apply Fin.ext; simp only [ck]; have := x.isLt; simp
theorem rw_lo (x : Fin 128) (h) : rw_ ⟨x.val, h⟩ = x := by apply Fin.ext; simp only [rw_]; have := x.isLt; omega
theorem rw_hi (x : Fin 128) (h) : rw_ ⟨128 + x.val, h⟩ = x := by apply Fin.ext; simp only [rw_]; have := x.isLt; omega

/-- Of the two heads that share 128 columns, the mask picks the column's own. -/
theorem pick (g : Fin 8 → ℝ) (k k' : Fin 8) (q : Fin 512) (j : Fin 128) (h : q.val = 64 * k.val + j.val) (h' : k'.val = k.val + 1) :
    (if j.val < 64 then (g k : EReal) else (g k' : EReal)) = (g (head q) : EReal) := by
  have := j.isLt
  split
  · rw [show head q = k from Fin.ext (by simp only [head]; omega)]
  · rw [show head q = k' from Fin.ext (by simp only [head]; omega)]

theorem mix_pick (W : Weights) (X : Chunk) (s : Fin 128) (q : Fin 512) (k k' : Fin 8) (j : Fin 128) (h : q.val = 64 * k.val + j.val) (h' : k'.val = k.val + 1) :
    (if j.val < 64 then ((∑ t, W.w k s t * vl W X t q : ℝ) : EReal) else ((∑ t, W.w k' s t * vl W X t q : ℝ) : EReal)) + (W.b (head q) s : EReal)
      = (mx W X s q : EReal) := by
  rw [pick (fun k => ∑ t, W.w k s t * vl W X t q) k k' q j h h', ← EReal.coe_add]
  rfl

/-- The 64 columns of a head among the 128 that a mask leaves. -/
theorem half_lo (g : Fin 512 → ℝ) (k : Fin 8) (o : Fin 128 → Fin 512) (ho : ∀ j : Fin 64, o ⟨j.val, by omega⟩ = col k j) :
    (∑ x : Fin 128, if x.val < 64 then (g (o x) : EReal) else 0) = ((∑ j, g (col k j) : ℝ) : EReal) := by
  rw [show (∑ j, g (col k j)) = ∑ j : Fin 64, g (o ⟨j.val, by omega⟩) from Finset.sum_congr rfl fun j _ => by rw [ho], ← sum_lo fun x => g (o x), ← coe_sum]
  exact Finset.sum_congr rfl fun x _ => by split <;> rfl

theorem half_hi (g : Fin 512 → ℝ) (k : Fin 8) (o : Fin 128 → Fin 512) (ho : ∀ j : Fin 64, o ⟨64 + j.val, by omega⟩ = col k j) :
    (∑ x : Fin 128, if x.val < 64 then 0 else (g (o x) : EReal)) = ((∑ j, g (col k j) : ℝ) : EReal) := by
  rw [show (∑ j, g (col k j)) = ∑ j : Fin 64, g (o ⟨64 + j.val, by omega⟩) from Finset.sum_congr rfl fun j _ => by rw [ho], ← sum_hi fun x => g (o x), ← coe_sum]
  exact Finset.sum_congr rfl fun x _ => by split <;> rfl

/-- The arrays a block reads: both halves before the gelu, the arriving gradient, the three vectors, the matrices with their transposes, and the bias. -/
structure Blk where
  zu : FVec Ideal S256x512 .f32
  zv : FVec Ideal S256x512 .f32
  d : FVec Ideal S256x512 .f32
  lg : FVec Ideal S1x512 .f32
  lb : FVec Ideal S1x512 .f32
  ga : FVec Ideal S1x512 .f32
  wm : FVec Ideal S8x128x128 .bf16
  wt : FVec Ideal S8x128x128 .bf16
  bs : FVec Ideal S128x512 .f32

namespace Blk
variable (B : Blk)

def gu : FVec Ideal S256x512 .f32 := k0_pay27 (F := Ideal) (k0_pay21 (F := Ideal) B.zu) (k0_pay25 (F := Ideal) B.zu)
def hu : FVec Ideal S256x512 .f32 := k0_pay28 (F := Ideal) (k0_pay21 (F := Ideal) B.zu) (k0_pay25 (F := Ideal) B.zu)
def hv : FVec Ideal S256x512 .f32 := k0_pay30 (F := Ideal) (k0_pay22 (F := Ideal) B.zv)
def r : FVec Ideal S256x1 .f32 := k0_pay32 (F := Ideal) (k0_pay22 (F := Ideal) B.zv)
def vh : FVec Ideal S256x512 .f32 := k0_pay33 (F := Ideal) (k0_pay22 (F := Ideal) B.zv)
def vl : FVec Ideal S256x512 .bf16 := k0_pay35 (F := Ideal) B.lb B.vh (k0_pay34 (F := Ideal) B.lg)

/-- The mixed rows, as stored block by block. -/
def mixL : List (View.Piece (Elt Ideal) S256x512 (.f32)) :=
  [⟨Rect.unit (s := S256x512) ![128, 384] S128x128.size inb_S256x512_S128x128_128_384,
      k0_pay48 (F := Ideal) B.vl k0_pay36 (w8 B.wm 6 inb_S8x128x128_S1x128x128_6_0_0) (w8 B.wm 7 inb_S8x128x128_S1x128x128_7_0_0) (b4 B.bs 384 inb_S128x512_S128x128_0_384)⟩,
   ⟨Rect.unit (s := S256x512) ![128, 256] S128x128.size inb_S256x512_S128x128_128_256,
      k0_pay47 (F := Ideal) k0_pay36 (k0_pay45 (F := Ideal) B.vl) (k0_pay46 (F := Ideal) B.vl (w8 B.wm 4 inb_S8x128x128_S1x128x128_4_0_0)) (w8 B.wm 5 inb_S8x128x128_S1x128x128_5_0_0) (b4 B.bs 256 inb_S128x512_S128x128_0_256)⟩,
   ⟨Rect.unit (s := S256x512) ![128, 128] S128x128.size inb_S256x512_S128x128_128_128,
      k0_pay44 (F := Ideal) B.vl k0_pay36 (w8 B.wm 2 inb_S8x128x128_S1x128x128_2_0_0) (w8 B.wm 3 inb_S8x128x128_S1x128x128_3_0_0) (b4 B.bs 128 inb_S128x512_S128x128_0_128)⟩,
   ⟨Rect.unit (s := S256x512) ![128, 0] S128x128.size inb_S256x512_S128x128_128_0,
      k0_pay43 (F := Ideal) k0_pay36 (k0_pay42 (F := Ideal) B.vl) (w8 B.wm 0 inb_S8x128x128_S1x128x128_0_0_0) (w8 B.wm 1 inb_S8x128x128_S1x128x128_1_0_0) (b4 B.bs 0 inb_S128x512_S128x128_0_0)⟩,
   ⟨Rect.unit (s := S256x512) ![0, 384] S128x128.size inb_S256x512_S128x128_0_384,
      k0_pay41 (F := Ideal) B.vl k0_pay36 (w8 B.wm 6 inb_S8x128x128_S1x128x128_6_0_0) (w8 B.wm 7 inb_S8x128x128_S1x128x128_7_0_0) (b4 B.bs 384 inb_S128x512_S128x128_0_384)⟩,
   ⟨Rect.unit (s := S256x512) ![0, 256] S128x128.size inb_S256x512_S128x128_0_256,
      k0_pay40 (F := Ideal) B.vl k0_pay36 (w8 B.wm 4 inb_S8x128x128_S1x128x128_4_0_0) (w8 B.wm 5 inb_S8x128x128_S1x128x128_5_0_0) (b4 B.bs 256 inb_S128x512_S128x128_0_256)⟩,
   ⟨Rect.unit (s := S256x512) ![0, 128] S128x128.size inb_S256x512_S128x128_0_128,
      k0_pay39 (F := Ideal) (k0_pay38 (F := Ideal) B.lb B.vh (k0_pay34 (F := Ideal) B.lg) (w8 B.wm 2 inb_S8x128x128_S1x128x128_2_0_0) (w8 B.wm 3 inb_S8x128x128_S1x128x128_3_0_0) (b4 B.bs 128 inb_S128x512_S128x128_0_128))⟩,
   ⟨Rect.unit (s := S256x512) ![0, 0] S128x128.size inb_S256x512_S128x128_0_0,
      k0_pay37 (F := Ideal) B.lb B.vh (k0_pay34 (F := Ideal) B.lg) (w8 B.wm 0 inb_S8x128x128_S1x128x128_0_0_0) (w8 B.wm 1 inb_S8x128x128_S1x128x128_1_0_0) (b4 B.bs 0 inb_S128x512_S128x128_0_0)⟩]

def mx : FVec Ideal S256x512 .f32 := (View.whole cc0_scratch2).readCov B.mixL (Rect.unit (s := S256x512) ![0, 0] S256x512.size inb_S256x512_S256x512_0_0).toLoadRect

def ya : FVec Ideal S256x512 .f32 := k0_pay69 (F := Ideal) B.gu B.mx
def ra : FVec Ideal S256x1 .f32 := k0_pay70 (F := Ideal) B.gu B.mx
def du : FVec Ideal S256x512 .f32 := k0_pay79 (F := Ideal) B.d B.hu B.mx B.ya B.ga B.ra
def dm : FVec Ideal S256x512 .f32 := k0_pay80 (F := Ideal) B.d B.gu B.ya B.ga B.ra
def db : FVec Ideal S256x512 .bf16 := k0_pay81 (F := Ideal) B.d B.gu B.ya B.ga B.ra

/-- The gradient at the layer norm's output, as stored block by block. -/
def dlL : List (View.Piece (Elt Ideal) S256x512 (.f32)) :=
  [⟨Rect.unit (s := S256x512) ![128, 384] S128x128.size inb_S256x512_S128x128_128_384,
      k0_pay129 (F := Ideal) B.db k0_pay82 (w8 B.wt 6 inb_S8x128x128_S1x128x128_6_0_0) (w8 B.wt 7 inb_S8x128x128_S1x128x128_7_0_0)⟩,
   ⟨Rect.unit (s := S256x512) ![128, 256] S128x128.size inb_S256x512_S128x128_128_256,
      k0_pay122 (F := Ideal) B.db k0_pay82 (w8 B.wt 4 inb_S8x128x128_S1x128x128_4_0_0) (w8 B.wt 5 inb_S8x128x128_S1x128x128_5_0_0)⟩,
   ⟨Rect.unit (s := S256x512) ![128, 128] S128x128.size inb_S256x512_S128x128_128_128,
      k0_pay117 (F := Ideal) B.db k0_pay82 (w8 B.wt 2 inb_S8x128x128_S1x128x128_2_0_0) (w8 B.wt 3 inb_S8x128x128_S1x128x128_3_0_0)⟩,
   ⟨Rect.unit (s := S256x512) ![128, 0] S128x128.size inb_S256x512_S128x128_128_0,
      k0_pay112 (F := Ideal) (k0_pay111 (F := Ideal) B.db k0_pay82 (w8 B.wt 0 inb_S8x128x128_S1x128x128_0_0_0) (w8 B.wt 1 inb_S8x128x128_S1x128x128_1_0_0))⟩,
   ⟨Rect.unit (s := S256x512) ![0, 384] S128x128.size inb_S256x512_S128x128_0_384,
      k0_pay105 (F := Ideal) k0_pay82 (k0_pay103 (F := Ideal) B.db (w8 B.wt 6 inb_S8x128x128_S1x128x128_6_0_0)) (k0_pay104 (F := Ideal) B.db (w8 B.wt 7 inb_S8x128x128_S1x128x128_7_0_0))⟩,
   ⟨Rect.unit (s := S256x512) ![0, 256] S128x128.size inb_S256x512_S128x128_0_256,
      k0_pay98 (F := Ideal) k0_pay82 (k0_pay95 (F := Ideal) B.db) (k0_pay97 (F := Ideal) B.db (w8 B.wt 4 inb_S8x128x128_S1x128x128_4_0_0)) (w8 B.wt 5 inb_S8x128x128_S1x128x128_5_0_0)⟩,
   ⟨Rect.unit (s := S256x512) ![0, 128] S128x128.size inb_S256x512_S128x128_0_128,
      k0_pay92 (F := Ideal) k0_pay82 (k0_pay90 (F := Ideal) B.db) (w8 B.wt 2 inb_S8x128x128_S1x128x128_2_0_0) (w8 B.wt 3 inb_S8x128x128_S1x128x128_3_0_0)⟩,
   ⟨Rect.unit (s := S256x512) ![0, 0] S128x128.size inb_S256x512_S128x128_0_0,
      k0_pay87 (F := Ideal) k0_pay82 (k0_pay85 (F := Ideal) B.d B.gu B.ya B.ga B.ra) (w8 B.wt 0 inb_S8x128x128_S1x128x128_0_0_0) (w8 B.wt 1 inb_S8x128x128_S1x128x128_1_0_0)⟩]

def dl : FVec Ideal S256x512 .f32 := (View.whole cc0_scratch3).readCov B.dlL (Rect.unit (s := S256x512) ![0, 0] S256x512.size inb_S256x512_S256x512_0_0).toLoadRect
def dvh : FVec Ideal S256x512 .f32 := k0_pay136 (F := Ideal) B.lg B.dl
def dv : FVec Ideal S256x512 .f32 := k0_pay137 (F := Ideal) B.hv B.r B.vh B.dvh

end Blk

/-- A block's arrays hold a pair of chunks. -/
structure Blk.Holds (B : Blk) (W : Weights) (X : Fin 2 → Chunk) : Prop where
  zu : Is B.zu fun c => (X c).u
  zv : Is B.zv fun c => (X c).v
  d : Is B.d fun c => (X c).d
  lg : IsV B.lg W.lg
  lb : IsV B.lb W.lb
  ga : IsV B.ga W.ga
  wm : ∀ h s t, B.wm (ix3 h s t) = (W.w h s t : EReal)
  wt : ∀ h s t, B.wt (ix3 h t s) = (W.w h s t : EReal)
  bs : ∀ s q, B.bs (ix2 s q) = (W.b (head q) s : EReal)

namespace Blk.Holds
variable {B : Blk} {W : Weights} {X : Fin 2 → Chunk} (H : B.Holds W X)
include H

theorem vh : Is B.vh fun c => Mix.vh (X c) := is33 (is22 H.zv)
theorem vl : Is B.vl fun c => Mix.vl W (X c) := is35 H.lb H.vh (is34 H.lg)
theorem gu : Is B.gu fun c s q => gel ((X c).u s q) := is27 (is21 H.zu) (is25 H.zu)
theorem hu : Is B.hu fun c s q => dgel ((X c).u s q) := is28 (is21 H.zu) (is25 H.zu)

set_option maxHeartbeats 4000000 in
theorem mixL (i : Fin 256) (q : Fin 512) : View.canon B.mixL (ix2 i q) = (Mix.mx W (X (ck i)) (rw_ i) q : EReal) := by
  unfold Blk.mixL
  have hv : Is (k0_pay35 B.lb B.vh (k0_pay34 B.lg)) fun c => Mix.vl W (X c) := H.vl
  canon_tiles x e
  all_goals idx_vars x
  all_goals pointwise [k0_pay48, k0_pay47, k0_pay46, k0_pay45, k0_pay44, k0_pay43, k0_pay42, k0_pay41, k0_pay40, k0_pay39, k0_pay38, k0_pay37, k0_pay36]
  all_goals simp only [w8_at, b4_at, H.wm, H.bs, H.vl _ _, hv _ _, ck_lo, ck_hi, rw_lo, rw_hi, ← EReal.coe_mul, coe_sum, mask]
  all_goals
    obtain ⟨i, hi⟩ := i
    obtain ⟨q, hq⟩ := q
    change i = _ at e0
    change q = _ at e1
    subst e0 e1
    simp only [ck_lo, ck_hi, rw_lo, rw_hi, Nat.zero_add]
    exact mix_pick W _ x0 ⟨_, hq⟩ _ _ x1 (by first | rfl | simp) rfl

theorem mx : Is B.mx fun c => Mix.mx W (X c) := by
  intro i q
  unfold Blk.mx
  rw [View.readCov_eq_canon']
  refine (congrArg _ ?_).trans (H.mixL i q)
  pointwise []

theorem ya : Is B.ya fun c => Mix.ya W (X c) := is69 H.gu H.mx
theorem ra : IsR B.ra fun c => Mix.ra W (X c) := is70 H.gu H.mx
theorem du : Is B.du fun c => Mix.du W (X c) := is79 H.d H.hu H.mx H.ya H.ga H.ra
theorem dm : Is B.dm fun c => Mix.dm W (X c) := is80 H.d H.gu H.ya H.ga H.ra
theorem db : Is B.db fun c => Mix.dm W (X c) := is81 H.d H.gu H.ya H.ga H.ra

set_option maxHeartbeats 4000000 in
theorem dlL (i : Fin 256) (q : Fin 512) : View.canon B.dlL (ix2 i q) = (Mix.dl W (X (ck i)) (rw_ i) q : EReal) := by
  unfold Blk.dlL
  have hv : Is (k0_pay81 B.d B.gu B.ya B.ga B.ra) fun c => Mix.dm W (X c) := H.db
  canon_tiles x e
  all_goals idx_vars x
  all_goals pointwise [k0_pay129, k0_pay127, k0_pay122, k0_pay120, k0_pay117, k0_pay115, k0_pay112, k0_pay111, k0_pay109, k0_pay105, k0_pay104,
    k0_pay103, k0_pay101, k0_pay98, k0_pay97, k0_pay95, k0_pay92, k0_pay90, k0_pay87, k0_pay85, k0_pay82]
  all_goals simp only [w8_at, H.wt, H.db _ _, hv _ _, ck_lo, ck_hi, rw_lo, rw_hi, ← EReal.coe_mul, coe_sum, mask]
  all_goals
    obtain ⟨i, hi⟩ := i
    obtain ⟨q, hq⟩ := q
    change i = _ at e0
    change q = _ at e1
    subst e0 e1
    simp only [ck_lo, ck_hi, rw_lo, rw_hi, Nat.zero_add]
    exact pick (fun k => ∑ s, W.w k s x0 * Mix.dm W (X _) s ⟨_, hq⟩) _ _ ⟨_, hq⟩ x1 (by first | rfl | simp) rfl

theorem dl : Is B.dl fun c => Mix.dl W (X c) := by
  intro i q
  unfold Blk.dl
  rw [View.readCov_eq_canon']
  refine (congrArg _ ?_).trans (H.dlL i q)
  pointwise []

theorem dvh : Is B.dvh fun c => Mix.dvh W (X c) := is136 H.lg H.dl
theorem dv : Is B.dv fun c => Mix.dv W (X c) := is137 (is30 (is22 H.zv)) (is32 (is22 H.zv)) H.vh H.dvh

end Blk.Holds
end Cert.Proof.Mix

end
-- ==== Proof.MixRest.lean ====
/- The running sums over rows that a block of two chunks adds to. -/
module

public import proofs.«01_k».proof.Proof.MixBlk

@[expose] public section

set_option maxRecDepth 16384

noncomputable section

namespace Cert.Proof.Mix

open Idealize.ShloMosaic Cert.Kernel4Ideal Cert.Kernel4Ideal.Gen Cert.Proof.Reals Cert.Proof.Loss

/-- A sum over a block's rows runs over its two chunks. -/
theorem sum_rows (f : Fin 2 → Fin 128 → ℝ) : (∑ i : Fin 256, f (ck i) (rw_ i)) = ∑ s, (f 0 s + f 1 s) := by
  rw [Fin.sum_univ_add (a := 128) (b := 128) fun i : Fin 256 => f (ck i) (rw_ i), Finset.sum_add_distrib]
  refine congrArg₂ _ (Finset.sum_congr rfl fun s _ => ?_) (Finset.sum_congr rfl fun s _ => ?_)
  · rw [show (Fin.castAdd 128 s : Fin 256) = ⟨s.val, by omega⟩ from rfl, ck_lo, rw_lo]
  · rw [show (Fin.natAdd 128 s : Fin 256) = ⟨128 + s.val, by omega⟩ from rfl, ck_hi, rw_hi]

namespace Blk.Holds
variable {B : Blk} {W : Weights} {X : Fin 2 → Chunk} (H : B.Holds W X)
include H

/-- What each of the rows adds for the block. -/
theorem row_ga (o : FVec Ideal S1x512 .f32) (q : Fin 512) :
    k0_pay72 B.d B.gu B.mx o (ix2 0 q) = o (ix2 0 q) + ((∑ s, (tg W (X 0) s q + tg W (X 1) s q) : ℝ) : EReal) := by
  rw [← sum_rows fun c s => tg W (X c) s q]
  pointwise [k0_pay72]
  have hy : Is (k0_pay69 B.gu B.mx) fun c => Mix.ya W (X c) := H.ya
  have hr : IsR (k0_pay70 B.gu B.mx) fun c => Mix.ra W (X c) := H.ra
  simp only [H.d _ _, hy _ _, hr _, ← EReal.coe_mul, coe_sum]
  rfl

theorem row_lg (o : FVec Ideal S1x512 .f32) (q : Fin 512) :
    k0_pay134 B.vh B.dl o (ix2 0 q) = o (ix2 0 q) + ((∑ s, (Mix.dl W (X 0) s q * Mix.vh (X 0) s q + Mix.dl W (X 1) s q * Mix.vh (X 1) s q) : ℝ) : EReal) := by
  rw [← sum_rows fun c s => Mix.dl W (X c) s q * Mix.vh (X c) s q]
  pointwise [k0_pay134]
  simp only [H.dl _ _, H.vh _ _, ← EReal.coe_mul, coe_sum]

theorem row_lb (o : FVec Ideal S1x512 .f32) (q : Fin 512) :
    k0_pay135 B.dl o (ix2 0 q) = o (ix2 0 q) + ((∑ s, (Mix.dl W (X 0) s q + Mix.dl W (X 1) s q) : ℝ) : EReal) := by
  rw [← sum_rows fun c s => Mix.dl W (X c) s q]
  pointwise [k0_pay135]
  simp only [H.dl _ _, coe_sum]

theorem row_du (o : FVec Ideal S1x512 .f32) (q : Fin 512) :
    k0_pay1560 (k0_pay1558 o) (k0_pay1559 B.du) (ix2 0 q) = o (ix2 0 q) + ((∑ s, (Mix.du W (X 0) s q + Mix.du W (X 1) s q) : ℝ) : EReal) := by
  rw [← sum_rows fun c s => Mix.du W (X c) s q]
  pointwise [k0_pay1560, k0_pay1559, k0_pay1558]
  simp only [H.du _ _, coe_sum]

theorem row_dv (o : FVec Ideal S1x512 .f32) (q : Fin 512) :
    k0_pay1562 B.dv o (ix2 0 q) = o (ix2 0 q) + ((∑ s, (Mix.dv W (X 0) s q + Mix.dv W (X 1) s q) : ℝ) : EReal) := by
  rw [← sum_rows fun c s => Mix.dv W (X c) s q]
  pointwise [k0_pay1562]
  simp only [H.dv _ _, coe_sum]

theorem sums_b (o : FVec Ideal S128x512 .f32) (s : Fin 128) (q : Fin 512) :
    k0_pay133 (k0_pay108 B.dm (k0_pay84 B.d B.gu B.ya B.ga B.ra)) o (ix2 s q) = o (ix2 s q) + ((Mix.dm W (X 0) s q + Mix.dm W (X 1) s q : ℝ) : EReal) := by
  have hm : Is (k0_pay80 B.d B.gu B.ya B.ga B.ra) fun c => Mix.dm W (X c) := H.dm
  pointwise [k0_pay133, k0_pay108, k0_pay84]
  simp only [H.dm _ _, hm _ _, ck_lo, ck_hi, rw_lo, rw_hi, ← EReal.coe_add]

end Blk.Holds

/-- The bias's sums, each head's 64 columns added up and written into all of them. -/
def spread (S : FVec Ideal S128x512 .f32) : FVec Ideal S128x512 .f32 :=
  k0_pay1 (k0_pay2 S) k0_pay3 (k0_pay4 S) (k0_pay5 S) (k0_pay7 S) (k0_pay8 S)

set_option maxHeartbeats 4000000 in
theorem spread_at (S : FVec Ideal S128x512 .f32) (f : Fin 128 → Fin 512 → ℝ) (hS : ∀ s q, S (ix2 s q) = (f s q : EReal)) (s : Fin 128) (q : Fin 512) :
    spread S (ix2 s q) = ((∑ j, f s (col (head q) j) : ℝ) : EReal) := by
  unfold spread
  pointwise [k0_pay1, k0_pay2, k0_pay3, k0_pay4, k0_pay5, k0_pay6, k0_pay7, k0_pay8]
  simp only [hS, mask]
  have e : ∀ (o : Fin 128 → Fin 512) (k : Fin 8) (k' : Fin 8) (j : Fin 128), q.val = 64 * k.val + j.val → k'.val = k.val + 1 →
      (∀ x : Fin 128, (o x).val = 64 * k.val + x.val) →
      (if j.val < 64 then (∑ x : Fin 128, if x.val < 64 then (f s (o x) : EReal) else 0) else ∑ x : Fin 128, if x.val < 64 then 0 else (f s (o x) : EReal))
        = ((∑ j, f s (col (head q) j) : ℝ) : EReal) := by
    intro o k k' j hq hk ho
    rw [half_lo (f s) k o fun j => Fin.ext (ho _), half_hi (f s) k' o fun j => Fin.ext ((ho _).trans (by simp only [col]; omega))]
    exact pick (fun k => ∑ j, f s (col k j)) k k' q j hq hk
  split_ifs with h1 h2 h3
  · exact (mask ⟨q.val, h1⟩ _ _).trans (e _ 0 1 ⟨q.val, h1⟩ (by simp) rfl fun x => by simp)
  · exact (mask ⟨q.val - 128, h2⟩ _ _).trans (e _ 2 3 ⟨q.val - 128, h2⟩ (by simp; omega) rfl fun x => by simp)
  · exact (mask ⟨q.val - 128 - 128, h3⟩ _ _).trans (e _ 4 5 ⟨q.val - 128 - 128, h3⟩ (by simp; omega) rfl fun x => by simp)
  · exact (mask ⟨q.val - 128 - 128 - 128, by omega⟩ _ _).trans (e _ 6 7 ⟨q.val - 128 - 128 - 128, by omega⟩ (by simp; omega) rfl fun x => by simp)

end Cert.Proof.Mix

end
-- ==== Proof.MixFwd.lean ====
/- What one point of the mixer's backward kernel stores for the gradient at its two halves, in real numbers. -/
module

public import proofs.«01_k».proof.Proof.Gen.Kernel4Ideal.Frame
public import proofs.«01_k».proof.Proof.MixRest

@[expose] public section

set_option maxRecDepth 16384

noncomputable section

namespace Cert.Proof.MixFwd

open Idealize.ShloMosaic Cert.Kernel4Ideal Cert.Kernel4Ideal.Gen Cert.Proof.Mix Cert.Proof.Reals
variable (m : (ℓ : Loc nD τ sig) → Buf (Elt Ideal) ℓ)

/-- The arrays the block of point `t` reads. -/
def pt (c : Dev nD) (t : Fin cfg0.N) : Blk where
  zu := View.ld (Val := Elt Ideal) (e' := .f32) (iblk m c 2 t) (Rect.unit (s := S256x2048) ![0, 0] S256x512.size inb_S256x2048_S256x512_0_0)
  zv := View.ld (Val := Elt Ideal) (e' := .f32) (iblk m c 2 t) (Rect.unit (s := S256x2048) ![0, 512] S256x512.size inb_S256x2048_S256x512_0_512)
  d := k0_pay19 (F := Ideal) (iblk m c 4 t) (iblk m c 5 t) (iblk m c 0 t)
    (View.ld (Val := Elt Ideal) (e' := .bf16) (iblk m c 18 t) (Rect.unit (s := S1024x1024) ![0, 0] S512x1024.size inb_S1024x1024_S512x1024_0_0))
  lg := iblk m c 8 t
  lb := iblk m c 9 t
  ga := iblk m c 16 t
  wm := iblk m c 10 t
  wt := iblk m c 11 t
  bs := iblk m c 12 t

variable {W : Weights} {X : Fin 2 → Chunk}

theorem st_du {B : Blk} (H : B.Holds W X) (x : S256x512.Idx) {r : Fin 256} {q : Fin 512} (e0 : r.val = (x 0).val) (e1 : q.val = (x 1).val) :
    k0_pay1561 (F := Ideal) B.du x = (du W (X (ck r)) (rw_ r) q : EReal) := by
  obtain rfl : x = ix2 r q := funext fun a => match a with
    | ⟨0, _⟩ => Fin.ext e0.symm
    | ⟨1, _⟩ => Fin.ext e1.symm
  pointwise [k0_pay1561]
  exact H.du r q

theorem st_dv {B : Blk} (H : B.Holds W X) (x : S256x512.Idx) {r : Fin 256} {q : Fin 512} (e0 : r.val = (x 0).val) (e1 : q.val = (x 1).val) :
    k0_pay1563 (F := Ideal) B.dv x = (dv W (X (ck r)) (rw_ r) q : EReal) := by
  obtain rfl : x = ix2 r q := funext fun a => match a with
    | ⟨0, _⟩ => Fin.ext e0.symm
    | ⟨1, _⟩ => Fin.ext e1.symm
  pointwise [k0_pay1563]
  exact H.dv r q

/-- The gradient at a column of the first or the second half. -/
def duv (W : Weights) (Y : Chunk) (s : Fin 128) (j : Fin 1024) : ℝ :=
  if h : j.val < 512 then du W Y s ⟨j.val, h⟩ else dv W Y s ⟨j.val - 512, by omega⟩

set_option maxHeartbeats 4000000 in
theorem dz (c : Dev nD) (t : Fin cfg0.N) (H : (pt m c t).Holds W X) (r : Fin 256) (p : Fin 2048) (hp : p.val < 1024) :
    (outsAt0 m c t.val t.isLt).2.1 (ix2 r p) = (duv W (X (ck r)) (rw_ r) ⟨p.val, hp⟩ : EReal) := by
  by_cases h0 : t.val % 32 = 0
  on_goal 2 => by_cases h1 : t.val % 32 = 31
  on_goal 1 => rw [outsAt0_A m c t h0 (by omega)]
  on_goal 2 => rw [outsAt0_C m c t h0 h1]
  on_goal 3 => rw [outsAt0_B m c t h0 h1]
  all_goals
    frame_out
    canon_tiles x e
    on_goal 1 => (change (p : ℕ) = _ at e1; exfalso; omega)
    on_goal 1 => (change (p : ℕ) = _ at e1; exfalso; omega)
    on_goal 1 =>
      change (p : ℕ) = _ at e1
      have hq : p.val - 512 < 512 := by clear e0; omega
      rw [show duv W (X (ck r)) (rw_ r) ⟨p.val, hp⟩ = dv W (X (ck r)) (rw_ r) ⟨p.val - 512, hq⟩ from dif_neg (by clear e0 hq; show ¬ p.val < 512; omega)]
      have h := st_dv H x (q := ⟨p.val - 512, hq⟩) e0 (by clear e0; show p.val - 512 = _; omega)
    on_goal 2 =>
      change (p : ℕ) = _ at e1
      have hq : p.val < 512 := lt_of_eq_of_lt e1 (x 1).isLt
      rw [show duv W (X (ck r)) (rw_ r) ⟨p.val, hp⟩ = du W (X (ck r)) (rw_ r) ⟨p.val, hq⟩ from dif_pos hq]
      have h := st_du H x (q := ⟨p.val, hq⟩) e0 e1
    all_goals
      dsimp only [pt, w8, b4, Blk.gu, Blk.hu, Blk.hv, Blk.r, Blk.vh, Blk.vl, Blk.mixL, Blk.mx, Blk.ya, Blk.ra, Blk.du, Blk.dm, Blk.db, Blk.dlL, Blk.dl, Blk.dvh, Blk.dv] at h
      exact h

end Cert.Proof.MixFwd

end
-- ==== Proof.MixNet.lean ====
/- All rows of the spatial gating branch: its input from the in-projection, its chunks, and the sums of the gradients over all of them. -/
module

public import proofs.«01_k».proof.Proof.Mix
public import Idealize.ShloMosaic.Lib.Pipeline.ValueKit

@[expose] public section

noncomputable section

namespace Cert.Proof.Mix

open Idealize.ShloMosaic Cert.Proof.Reals

/-- The arguments in real numbers; the modulation vectors enter only through their sum. -/
structure Net where
  dx : Fin 8192 → Fin 1024 → ℝ
  x : Fin 8192 → Fin 1024 → ℝ
  mod : Fin 8192 → ℝ
  g : Fin 1024 → ℝ
  wi : Fin 1024 → Fin 2048 → ℝ
  bi : Fin 2048 → ℝ
  lg : Fin 512 → ℝ
  lb : Fin 512 → ℝ
  ga : Fin 512 → ℝ
  ws : Fin 8 → Fin 128 → Fin 128 → ℝ
  bs : Fin 8 → Fin 128 → ℝ
  wo : Fin 1024 → Fin 1024 → ℝ

/-- A row's chunk and its place there, and back. -/
def ch (s : Fin 8192) : Fin 64 := ⟨s.val / 128, by omega⟩
def rr (s : Fin 8192) : Fin 128 := ⟨s.val % 128, by omega⟩
def row (c : Fin 64) (r : Fin 128) : Fin 8192 := ⟨c.val * 128 + r.val, by omega⟩

theorem ch_row (c : Fin 64) (r : Fin 128) : ch (row c r) = c := Fin.ext (by simp only [ch, row]; omega)
theorem rr_row (c : Fin 64) (r : Fin 128) : rr (row c r) = r := Fin.ext (by simp only [rr, row]; omega)
theorem row_ch (s : Fin 8192) : row (ch s) (rr s) = s := Fin.ext (by simp only [ch, rr, row]; omega)

theorem sum_net (f : Fin 64 → Fin 128 → ℝ) : ∑ c, ∑ r, f c r = ∑ s, f (ch s) (rr s) :=
  Fin.sum_mul_add_congr (S := 64) (n := 128) fun c r hl => by
    rw [show (⟨c.val * 128 + r.val, hl⟩ : Fin 8192) = row c r from rfl, ch_row, rr_row]

def lo (q : Fin 512) : Fin 1024 := ⟨q.val, by omega⟩
def hi (q : Fin 512) : Fin 1024 := ⟨512 + q.val, by omega⟩
def z4 (p : Fin 1024) : Fin 2048 := ⟨p.val, by omega⟩

namespace Net
variable (N : Net)

def h (s : Fin 8192) : Fin 1024 → ℝ :=
  Fwd.hrow (N.x s) N.g (fun k => N.mod ⟨1024 + k.val, by omega⟩) fun k => N.mod ⟨k.val, by omega⟩
def z (s : Fin 8192) (p : Fin 1024) : ℝ := (∑ k, N.h s k * N.wi k (z4 p)) + N.bi (z4 p)
def d (s : Fin 8192) (q : Fin 512) : ℝ := ∑ k, N.mod ⟨2048 + k.val, by omega⟩ * N.dx s k * N.wo (lo q) k

def W : Weights := ⟨N.lg, N.lb, N.ga, fun h s t => if t.val ≤ s.val then N.ws h s t else 0, N.bs⟩
def X (c : Fin 64) : Chunk := ⟨fun r q => N.z (row c r) (lo q), fun r q => N.z (row c r) (hi q), fun r q => N.d (row c r) q⟩

/-- The results: the gradient at the two halves before the gelu, its column sums, and the gradients of the weights. -/
def dz (s : Fin 8192) (p : Fin 1024) : ℝ :=
  if h : p.val < 512 then du N.W (N.X (ch s)) (rr s) ⟨p.val, h⟩ else dv N.W (N.X (ch s)) (rr s) ⟨p.val - 512, by omega⟩
def dga (q : Fin 512) : ℝ := ∑ s, tg N.W (N.X (ch s)) (rr s) q
def dlg (q : Fin 512) : ℝ := ∑ s, dl N.W (N.X (ch s)) (rr s) q * vh (N.X (ch s)) (rr s) q
def dlb (q : Fin 512) : ℝ := ∑ s, dl N.W (N.X (ch s)) (rr s) q
def dws (h : Fin 8) (s t : Fin 128) : ℝ := if t.val ≤ s.val then ∑ c, sw N.W (N.X c) h s t else 0
def dbs (h : Fin 8) (s : Fin 128) : ℝ := ∑ c, sb N.W (N.X c) h s
end Net

/-- The argument arrays hold these reals. -/
structure Entries (N : Net) (X0 X1 : FVec Ideal (⟨2, ![8192, 1024]⟩ : Shape) .f32) (X2 X3 : FVec Ideal (⟨2, ![1, 8192]⟩ : Shape) .f32)
    (X4 : FVec Ideal (⟨2, ![1, 1024]⟩ : Shape) .f32) (X5 : FVec Ideal (⟨3, ![1, 1024, 2048]⟩ : Shape) .f32) (X6 : FVec Ideal (⟨2, ![1, 2048]⟩ : Shape) .f32)
    (X7 X8 : FVec Ideal (⟨2, ![1, 512]⟩ : Shape) .f32) (X9 : FVec Ideal (⟨4, ![1, 8, 128, 128]⟩ : Shape) .f32)
    (X10 : FVec Ideal (⟨3, ![1, 8, 128]⟩ : Shape) .f32) (X15 : FVec Ideal (⟨2, ![1, 512]⟩ : Shape) .f32)
    (X17 : FVec Ideal (⟨3, ![1, 1024, 1024]⟩ : Shape) .f32) : Prop where
  dx : ∀ s k, X0 (ix2 s k) = (N.dx s k : EReal)
  x : ∀ s k, X1 (ix2 s k) = (N.x s k : EReal)
  mod : ∀ k, X2 (ix2 0 k) + X3 (ix2 0 k) = (N.mod k : EReal)
  g : ∀ k, X4 (ix2 0 k) = (N.g k : EReal)
  wi : ∀ k j, X5 (ix3 0 k j) = (N.wi k j : EReal)
  bi : ∀ j, X6 (ix2 0 j) = (N.bi j : EReal)
  lg : ∀ q, X7 (ix2 0 q) = (N.lg q : EReal)
  lb : ∀ q, X8 (ix2 0 q) = (N.lb q : EReal)
  ws : ∀ h s t, X9 (ix4 0 h s t) = (N.ws h s t : EReal)
  bs : ∀ h s, X10 (ix3 0 h s) = (N.bs h s : EReal)
  ga : ∀ q, X15 (ix2 0 q) = (N.ga q : EReal)
  wo : ∀ j k, X17 (ix3 0 j k) = (N.wo j k : EReal)

theorem sum_vc (X : Chunk) (s : Fin 128) : ∑ q, vc X s q = 0 := by
  simp only [vc, Finset.sum_sub_distrib, Finset.sum_const, Finset.card_univ, Fintype.card_fin, nsmul_eq_mul]
  push_cast
  ring

theorem root_eq (z : ℝ) : z / Real.sqrt 2 = z * root := div_eq_mul_inv _ _

theorem bell_eq : 1 / 2 * (2 / Real.sqrt Real.pi) / Real.sqrt 2 = bell := by
  unfold bell
  rw [Real.sqrt_mul (by norm_num), mul_inv, div_eq_mul_inv, div_eq_mul_inv]
  ring

theorem bell_exp (z : ℝ) : -(z / Real.sqrt 2) * (z / Real.sqrt 2) = -(1 / 2) * z * z := by
  have h : Real.sqrt 2 * Real.sqrt 2 = 2 := Real.mul_self_sqrt (by norm_num)
  have h0 : Real.sqrt 2 ≠ 0 := (Real.sqrt_pos.mpr (by norm_num)).ne'
  field_simp
  rw [pow_two (Real.sqrt 2), h]

end Cert.Proof.Mix

end
-- ==== Proof.RefMix.lean ====
/- The spatial gating branch and its derivative, as the reference program computes them, in real numbers: forward. -/
module

public import proofs.«01_k».proof.Proof.MixNet
public import proofs.«01_k».proof.Proof.Gen.Reference4Ideal.Read

@[expose] public section

set_option maxRecDepth 16384

noncomputable section

namespace Cert.Proof.RefMix

open Idealize.ShloMosaic Cert.Reference4Ideal Cert.Reference4Ideal.Read Cert.Proof.Reals Cert.Proof.Mix

variable {N : Net} {X0 X1 : FVec Ideal S8192x1024 .f32} {X2 X3 : FVec Ideal S1x8192 .f32} {X4 : FVec Ideal S1x1024 .f32} {X5 : FVec Ideal S1x1024x2048 .f32}
  {X6 : FVec Ideal S1x2048 .f32} {X7 X8 : FVec Ideal S1x512 .f32} {X9 : FVec Ideal S1x8x128x128 .f32} {X10 : FVec Ideal S1x8x128 .f32}
  {X15 : FVec Ideal S1x512 .f32} {X17 : FVec Ideal S1x1024x1024 .f32} (E : Entries N X0 X1 X2 X3 X4 X5 X6 X7 X8 X9 X10 X15 X17)

theorem sqrt2 (i : S_.Idx) : val_main_v43 (F := Ideal) i = (Real.sqrt 2 : EReal) := by
  pointwise [val_main_v43, val_main_cst_3]
  simp only [Loss.two_word, Ideal.hostUnary_sqrt_def, Ideal.sqrt_coe]
  rw [if_neg (by norm_num)]

theorem sqrt2_ne : Real.sqrt 2 ≠ 0 := (Real.sqrt_pos.mpr (by norm_num)).ne'
theorem sqrtpi_ne : Real.sqrt Real.pi ≠ 0 := (Real.sqrt_pos.mpr Real.pi_pos).ne'

theorem slope_const (i : S_.Idx) : val_main_v50 (F := Ideal) i = ((2 / Real.sqrt Real.pi : ℝ) : EReal) := by
  pointwise [val_main_v46, val_main_v47, val_main_v49, val_main_v50, val_main_cst_4, val_main_cst_5, val_main_cst_6]
  simp only [Loss.two_word, four_word, one_word, Ideal.hostUnary_sqrt_def, Ideal.hostUnary_atan_def, ← EReal.coe_one, Ideal.atan_coe, Real.arctan_one, ← EReal.coe_mul,
    show 4 * (Real.pi / 4) = Real.pi by ring, Ideal.sqrt_coe]
  rw [if_neg (not_lt.mpr Real.pi_pos.le), div_real _ sqrtpi_ne]

include E

theorem rstd_at (s : Fin 8192) : val_main_v25 (F := Ideal) X1 (ix2 s 0) = (Fwd.rstd (N.x s) : EReal) := by
  pointwise [val_main_v18, val_main_v19, val_main_v20, val_main_v21, val_main_v22, val_main_v23, val_main_v24, val_main_v25, val_main_cst, val_main_cst_0, val_main_cst_1]
  simp only [E.x, n1024_word, eps_word, ← EReal.coe_mul, coe_sum, div_real _ (show (1024 : ℝ) ≠ 0 by norm_num), ← EReal.coe_add]
  exact rsqrt_real (Fwd.msq_pos _)

theorem h_at (s : Fin 8192) (k : Fin 1024) : val_main_v35 (F := Ideal) X1 X2 X3 X4 (ix2 s k) = (N.h s k : EReal) := by
  pointwise [val_main_v26, val_main_v27, val_main_v28, val_main_v29, val_main_v30, val_main_v31, val_main_v32, val_main_v33, val_main_v34, val_main_v35, val_main_v9, val_main_v10, val_main_v11, val_main_cst_2]
  simp only [E.x, E.mod, E.g, rstd_at E, one_word, ← EReal.coe_mul, ← EReal.coe_add, ← EReal.coe_one]
  rfl

theorem z_at (s : Fin 8192) (p : Fin 1024) : val_main_v40 (F := Ideal) X1 X2 X3 X4 X5 X6 (ix2 s p) = (N.z s p : EReal) := by
  pointwise [val_main_v36, val_main_v37, val_main_v38, val_main_v39, val_main_v40]
  simp only [h_at E, E.wi, E.bi, ← EReal.coe_mul, coe_sum, ← EReal.coe_add]
  rfl

theorem cdf_at (s : Fin 8192) (p : Fin 1024) : val_main_v59 (F := Ideal) X1 X2 X3 X4 X5 X6 (ix2 s p) = (cdf (N.z s p) : EReal) := by
  pointwise [val_main_v44, val_main_v45, val_main_v48, val_main_v56, val_main_v57, val_main_v58, val_main_v59, val_main_cst_7, val_main_cst_8]
  simp only [z_at E, sqrt2, Loss.half_word, one_word, div_real _ sqrt2_ne, root_eq, Ideal.hostUnary_erf_def, erf_real, ← EReal.coe_one, ← EReal.coe_add, ← EReal.coe_mul]
  rfl

theorem gel_at (s : Fin 8192) (p : Fin 1024) : val_main_v60 (F := Ideal) X1 X2 X3 X4 X5 X6 (ix2 s p) = (gel (N.z s p) : EReal) := by
  pointwise [val_main_v60]
  rw [z_at E, cdf_at E, ← EReal.coe_mul]
  rfl

theorem slope_at (s : Fin 8192) (p : Fin 1024) : val_main_v55 (F := Ideal) X1 X2 X3 X4 X5 X6 (ix2 s p)
    = ((2 / Real.sqrt Real.pi * Real.exp (-(1 / 2) * N.z s p * N.z s p) : ℝ) : EReal) := by
  pointwise [val_main_v44, val_main_v45, val_main_v51, val_main_v52, val_main_v53, val_main_v54, val_main_v55]
  simp only [z_at E, sqrt2, slope_const, div_real _ sqrt2_ne, ← EReal.coe_neg, ← EReal.coe_mul, Ideal.exp_coe, bell_exp]

theorem X_u (s : Fin 8192) (q : Fin 512) : (N.X (ch s)).u (rr s) q = N.z s (lo q) := by
  show N.z (row (ch s) (rr s)) (lo q) = _
  rw [row_ch]

theorem X_v (s : Fin 8192) (q : Fin 512) : (N.X (ch s)).v (rr s) q = N.z s (hi q) := by
  show N.z (row (ch s) (rr s)) (hi q) = _
  rw [row_ch]

theorem X_d (s : Fin 8192) (q : Fin 512) : (N.X (ch s)).d (rr s) q = N.d s q := by
  show N.d (row (ch s) (rr s)) q = _
  rw [row_ch]

theorem gu_at (s : Fin 8192) (q : Fin 512) : val_main_v61 (F := Ideal) X1 X2 X3 X4 X5 X6 (ix2 s q) = (gel ((N.X (ch s)).u (rr s) q) : EReal) := by
  pointwise [val_main_v61]
  rw [X_u E]
  exact gel_at E s (lo q)

theorem gv_at (s : Fin 8192) (q : Fin 512) : val_main_v62 (F := Ideal) X1 X2 X3 X4 X5 X6 (ix2 s q) = (gv (N.X (ch s)) (rr s) q : EReal) := by
  pointwise [val_main_v62]
  rw [gv, X_v E]
  exact gel_at E s (hi q)

theorem vc_at (s : Fin 8192) (q : Fin 512) : val_main_v68 (F := Ideal) X1 X2 X3 X4 X5 X6 (ix2 s q) = (vc (N.X (ch s)) (rr s) q : EReal) := by
  pointwise [val_main_v63, val_main_v64, val_main_v65, val_main_v66, val_main_v67, val_main_v68, val_main_cst_9, val_main_cst_10]
  simp only [gv_at E, n512_word, coe_sum, div_real _ (show (512 : ℝ) ≠ 0 by norm_num), ← EReal.coe_sub]
  rw [vc, mul_one_div]

theorem var_at (s : Fin 8192) : val_main_v75 (F := Ideal) X1 X2 X3 X4 X5 X6 (ix2 s 0) = (msq (vc (N.X (ch s)) (rr s)) : EReal) := by
  pointwise [val_main_v69, val_main_v70, val_main_v71, val_main_v72, val_main_v73, val_main_v74, val_main_v75, val_main_cst_11, val_main_cst_12, val_main_cst_13]
  simp only [vc_at E, n512_word, eps_word, ← EReal.coe_mul, coe_sum, div_real _ (show (512 : ℝ) ≠ 0 by norm_num), ← EReal.coe_add]
  rw [msq, mul_one_div]

theorem vr_at (s : Fin 8192) : val_main_v76 (F := Ideal) X1 X2 X3 X4 X5 X6 (ix2 s 0) = (vr (N.X (ch s)) (rr s) : EReal) := by
  pointwise [val_main_v76]
  rw [var_at E, rsqrt_real (msq_pos _)]
  rfl

theorem vh_at (s : Fin 8192) (q : Fin 512) : val_main_v81 (F := Ideal) X1 X2 X3 X4 X5 X6 (ix2 s q) = (vh (N.X (ch s)) (rr s) q : EReal) := by
  pointwise [val_main_v80, val_main_v81]
  rw [vc_at E, vr_at E, ← EReal.coe_mul]
  rfl

theorem vl_at (s : Fin 8192) (q : Fin 512) : val_main_v85 (F := Ideal) X1 X2 X3 X4 X5 X6 X7 X8 (ix2 s q) = (vl N.W (N.X (ch s)) (rr s) q : EReal) := by
  pointwise [val_main_v82, val_main_v83, val_main_v84, val_main_v85]
  simp only [vh_at E, E.lg, E.lb, ← EReal.coe_mul, ← EReal.coe_add]
  rfl

omit E in
theorem split_at (Y : FVec Ideal S8192x512 .f32) (hs : S8192x512.ShapeCasts S64x128x8x64) (c : Fin 64) (r : Fin 128) (h : Fin 8) (j : Fin 64) :
    (shapeCast S64x128x8x64 Y hs : FVec Ideal S64x128x8x64 .f32) (ix4 c r h j) = Y (ix2 (row c r) (col h j)) := by
  pointwise []
  exact congrArg Y (funext fun a => match a with
    | ⟨0, _⟩ => Fin.ext (by simp [row]; try omega)
    | ⟨1, _⟩ => Fin.ext (by simp [col]; try omega))

omit E in
theorem join_at (Y : FVec Ideal S64x128x8x64 .f32) (hs : S64x128x8x64.ShapeCasts S8192x512) (s : Fin 8192) (q : Fin 512) :
    (shapeCast S8192x512 Y hs : FVec Ideal S8192x512 .f32) (ix2 s q) = Y (ix4 (ch s) (rr s) (head q) ⟨q.val % 64, by omega⟩) := by
  pointwise []
  exact congrArg Y (funext fun a => match a with
    | ⟨0, _⟩ => Fin.ext (by simp [ch]; try omega)
    | ⟨1, _⟩ => Fin.ext (by simp [rr]; try omega)
    | ⟨2, _⟩ => Fin.ext (by simp [head]; try omega)
    | ⟨3, _⟩ => Fin.ext (by simp; try omega))

theorem vl4_at (c : Fin 64) (r : Fin 128) (h : Fin 8) (j : Fin 64) :
    val_main_v86 (F := Ideal) X1 X2 X3 X4 X5 X6 X7 X8 (ix4 c r h j) = (vl N.W (N.X c) r (col h j) : EReal) := by
  refine (split_at _ _ c r h j).trans ((vl_at E _ _).trans ?_)
  rw [ch_row, rr_row]

omit E in
theorem mask_at (h : Fin 8) (s t : Fin 128) : val_main_v91_1 (F := Ideal) (ix3 h s t) = if t.val ≤ s.val then 1#1 else 0#1 := by
  pointwise [val_main_v91_1, val_main_v89, val_main_v88, val_main_v87, val_main_c, val_main_call0_v0, val_main_call0_c, val_main_call0_v1, val_main_call0_v2, val_main_call0_v3, val_main_call0_v4, val_main_call0_c_0, val_main_call0_v5]
  have e : ∀ s t : Fin 128, IntOp.cmpi CmpIPredicate.sge (IntOp.addi (BitVec.ofNat 32 s.val) 0#32) (BitVec.ofNat 32 t.val) = if t.val ≤ s.val then 1#1 else 0#1 := by
    decide +kernel
  rw [e]
  split <;> rfl

theorem w_at (h : Fin 8) (s t : Fin 128) : val_main_v91_0 (F := Ideal) X9 (ix3 h s t) = (N.W.w h s t : EReal) := by
  pointwise [val_main_v91_0, val_main_v90, val_main_v41, val_main_cst_15]
  rw [mask_at, E.ws]
  show _ = ((if t.val ≤ s.val then N.ws h s t else 0 : ℝ) : EReal)
  split <;> rfl

theorem mix4_at (c : Fin 64) (r : Fin 128) (h : Fin 8) (j : Fin 64) :
    val_main_v97 (F := Ideal) X1 X2 X3 X4 X5 X6 X7 X8 X9 X10 (ix4 c r h j) = (mx N.W (N.X c) r (col h j) : EReal) := by
  have hh : head (col h j) = h := Fin.ext (by simp only [head, col]; omega)
  pointwise [val_main_v92, val_main_v93, val_main_v94, val_main_v95, val_main_v96, val_main_v97, val_main_v42]
  simp only [vl4_at E, w_at E, E.bs, ← EReal.coe_mul, coe_sum, ← EReal.coe_add]
  rw [mx, hh]
  refine congrArg _ (congrArg (· + _) (Finset.sum_congr rfl fun t _ => mul_comm _ _))

theorem mx_at (s : Fin 8192) (q : Fin 512) : val_main_v98 (F := Ideal) X1 X2 X3 X4 X5 X6 X7 X8 X9 X10 (ix2 s q) = (mx N.W (N.X (ch s)) (rr s) q : EReal) := by
  refine (join_at _ _ s q).trans ((mix4_at E _ _ _ _).trans ?_)
  rw [show col (head q) ⟨q.val % 64, by omega⟩ = q from Fin.ext (by simp only [head, col]; omega)]

theorem ya_at (s : Fin 8192) (q : Fin 512) : val_main_v99 (F := Ideal) X1 X2 X3 X4 X5 X6 X7 X8 X9 X10 (ix2 s q) = (ya N.W (N.X (ch s)) (rr s) q : EReal) := by
  pointwise [val_main_v99]
  rw [gu_at E, mx_at E, ← EReal.coe_mul]
  rfl

theorem ms_at (s : Fin 8192) : val_main_v106 (F := Ideal) X1 X2 X3 X4 X5 X6 X7 X8 X9 X10 (ix2 s 0) = (msq (ya N.W (N.X (ch s)) (rr s)) : EReal) := by
  pointwise [val_main_v100, val_main_v101, val_main_v102, val_main_v103, val_main_v104, val_main_v105, val_main_v106, val_main_cst_16, val_main_cst_17, val_main_cst_18]
  simp only [ya_at E, n512_word, eps_word, ← EReal.coe_mul, coe_sum, div_real _ (show (512 : ℝ) ≠ 0 by norm_num), ← EReal.coe_add]
  rw [msq, mul_one_div]

theorem ra_at (s : Fin 8192) : val_main_v107 (F := Ideal) X1 X2 X3 X4 X5 X6 X7 X8 X9 X10 (ix2 s 0) = (ra N.W (N.X (ch s)) (rr s) : EReal) := by
  pointwise [val_main_v107]
  rw [ms_at E, rsqrt_real (msq_pos _)]
  rfl

theorem d_at (s : Fin 8192) (q : Fin 512) : val_main_v122 (F := Ideal) X0 X2 X3 X17 (ix2 s q) = ((N.X (ch s)).d (rr s) q : EReal) := by
  pointwise [val_main_v0, val_main_v3, val_main_v115, val_main_v116, val_main_v120, val_main_v121, val_main_v122]
  simp only [E.mod, E.dx, E.wo, ← EReal.coe_mul, coe_sum]
  rw [X_d E]
  rfl

end Cert.Proof.RefMix

end
-- ==== Proof.MixHost.lean ====
/- What the host passes to the spatial gating kernel: its arguments' entries in real numbers. -/
module

public import proofs.«01_k».proof.Proof.MixFwd
public import proofs.«01_k».proof.Proof.MixNet
public import proofs.«01_k».proof.Proof.RefMix

@[expose] public section

set_option maxRecDepth 16384

noncomputable section

namespace Cert.Proof.MixFwd

open Idealize.ShloMosaic Idealize.ShloMosaic.StableHlo Cert.Kernel4Ideal Cert.Kernel4Ideal.Gen Cert.Proof.Reals Cert.Proof.Mix

variable (m : (ℓ : Loc nD τ sig) → Buf (Elt Ideal) ℓ) (c : Dev nD)

/-- The arguments in memory hold these reals. -/
abbrev Mem (N : Net) : Prop := Entries N (m (c.tc.loc main_arg0)) (m (c.tc.loc main_arg1)) (m (c.tc.loc main_arg2)) (m (c.tc.loc main_arg3))
  (m (c.tc.loc main_arg4)) (m (c.tc.loc main_arg5)) (m (c.tc.loc main_arg6)) (m (c.tc.loc main_arg7)) (m (c.tc.loc main_arg8)) (m (c.tc.loc main_arg9))
  (m (c.tc.loc main_arg10)) (m (c.tc.loc main_arg15)) (m (c.tc.loc main_arg17))

abbrev zIn : FVec Ideal S8192x2048 .f32 := V m c main_v30
abbrev wmIn : FVec Ideal S8x128x128 .bf16 := V m c main_v63
abbrev wtIn : FVec Ideal S8x128x128 .bf16 := V m c main_v65
abbrev bsIn : FVec Ideal S128x512 .f32 := V m c main_v69
abbrev woIn : FVec Ideal S1024x1024 .bf16 := V m c main_v73

/-- The in-projection is the reference's. -/
theorem z_val : zIn m c = Reference4Ideal.Read.val_main_v39 (F := Ideal) (m (c.tc.loc main_arg1)) (m (c.tc.loc main_arg2)) (m (c.tc.loc main_arg3))
    (m (c.tc.loc main_arg4)) (m (c.tc.loc main_arg5)) (m (c.tc.loc main_arg6)) := rfl

theorem wm_val : wmIn m c = truncf .bf16 (Reference4Ideal.Read.val_main_v91_0 (F := Ideal) (m (c.tc.loc main_arg9))) bitsLt_bf16_f32 := rfl

theorem wt_val : wtIn m c = truncf .bf16 (transpose S8x128x128 [0, 2, 1] (Reference4Ideal.Read.val_main_v91_0 (F := Ideal) (m (c.tc.loc main_arg9)))
    transposes_S8x128x128_S8x128x128_0_2_1) bitsLt_bf16_f32 := rfl

theorem wo_val : woIn m c = truncf .bf16 (shapeCast S1024x1024 (m (c.tc.loc main_arg17) : FVec Ideal S1x1024x1024 .f32) shapeCasts_S1x1024x1024_S1024x1024) bitsLt_bf16_f32 := rfl

end Cert.Proof.MixFwd

end
-- ==== Proof.MixIn.lean ====
/- What the blocks of the spatial gating kernel hold at each point, in real numbers. -/
module

public import proofs.«01_k».proof.Proof.MixHost

@[expose] public section

set_option maxRecDepth 16384

noncomputable section

namespace Cert.Proof.MixFwd

open Idealize.ShloMosaic Cert.Kernel4Ideal Cert.Kernel4Ideal.Gen Cert.Proof.Reals Cert.Proof.Mix

variable (m : (ℓ : Loc nD τ sig) → Buf (Elt Ideal) ℓ) (c : Dev nD) {N : Net}

theorem z_in (E : Mem m c N) (s : Fin 8192) (p : Fin 1024) (p' : Fin 2048) (hp : p'.val = p.val) : zIn m c (ix2 s p') = (N.z s p : EReal) := by
  rw [z_val, ← RefMix.z_at E s p]
  pointwise [Reference4Ideal.Read.val_main_v40]
  exact congrArg _ (congrArg (ix2 s) (Fin.ext hp))

theorem wm_in (E : Mem m c N) (h : Fin 8) (s t : Fin 128) : wmIn m c (ix3 h s t) = (N.W.w h s t : EReal) := by
  rw [wm_val]
  exact RefMix.w_at E h s t

theorem cast_wt (Y : FVec Ideal S8x128x128 .f32) (h : Fin 8) (s t : Fin 128) :
    (truncf .bf16 (transpose S8x128x128 [0, 2, 1] Y transposes_S8x128x128_S8x128x128_0_2_1) bitsLt_bf16_f32 : FVec Ideal S8x128x128 .bf16) (ix3 h t s) = Y (ix3 h s t) := by
  pointwise []

theorem wt_in (E : Mem m c N) (h : Fin 8) (s t : Fin 128) : wtIn m c (ix3 h t s) = (N.W.w h s t : EReal) := by
  rw [wt_val]
  exact (cast_wt _ h s t).trans (RefMix.w_at E h s t)

theorem cast_wo (Y : FVec Ideal S1x1024x1024 .f32) (j k : Fin 1024) :
    (truncf .bf16 (shapeCast S1024x1024 Y shapeCasts_S1x1024x1024_S1024x1024) bitsLt_bf16_f32 : FVec Ideal S1024x1024 .bf16) (ix2 j k) = Y (ix3 0 j k) := by
  pointwise []

theorem wo_in (E : Mem m c N) (j k : Fin 1024) : woIn m c (ix2 j k) = (N.wo j k : EReal) := by
  rw [wo_val]
  exact (cast_wo _ j k).trans (E.wo j k)

theorem cast_bs (Y : FVec Ideal S1x8x128 .f32) (s : Fin 128) (q : Fin 512) :
    (shapeCast S128x512 (broadcastInDim S128x8x64 ![0, 1] bcast_S128x8_S128x8x64_0_1 (transpose S128x8 [1, 0] (shapeCast S8x128 Y shapeCasts_S1x8x128_S8x128)
      transposes_S8x128_S128x8_1_0)) shapeCasts_S128x8x64_S128x512 : FVec Ideal S128x512 .f32) (ix2 s q) = Y (ix3 0 (head q) s) := by
  pointwise []
  rfl

theorem bs_in (E : Mem m c N) (s : Fin 128) (q : Fin 512) : bsIn m c (ix2 s q) = (N.W.b (head q) s : EReal) :=
  (cast_bs (m (c.tc.loc main_arg10)) s q).trans (E.bs (head q) s)

theorem idx : ∀ t : Fin cfg0.N, win0_0.index t = ![31 - t.val, 0] ∧ win0_2.index t = ![31 - t.val, 0] ∧ win0_20.index t = ![31 - t.val, 0]
    ∧ win0_4.index t = ![0, 0] ∧ win0_5.index t = ![0, 0] ∧ win0_8.index t = ![0, 0] ∧ win0_9.index t = ![0, 0]
    ∧ win0_10.index t = ![0, 0, 0] ∧ win0_11.index t = ![0, 0, 0] ∧ win0_12.index t = ![0, 0] ∧ win0_16.index t = ![0, 0] ∧ win0_18.index t = ![0, 0]
    ∧ win0_22.index t = ![0, 0] ∧ win0_23.index t = ![0, 0] ∧ win0_25.index t = ![0, 0, 0] ∧ win0_26.index t = ![0, 0] :=
  (by decide +kernel : ∀ t : Fin grid0.N, _)

theorem lt32 (t : Fin cfg0.N) : t.val < 32 := lt_of_lt_of_eq t.isLt N_0

/-- The points run from the last 256 rows to the first; a point's two chunks and its rows. -/
def cc (t : ℕ) (ht : t < 32) (i : Fin 2) : Fin 64 := ⟨(31 - t) * 2 + i.val, by omega⟩
def rowAt (t : ℕ) (ht : t < 32) (i : Fin 256) : Fin 8192 := ⟨(31 - t) * 256 + i.val, by omega⟩

theorem row_cc (t : ℕ) (ht : t < 32) (i : Fin 256) : row (cc t ht (ck i)) (rw_ i) = rowAt t ht i :=
  Fin.ext (by simp only [row, cc, ck, rw_, rowAt]; omega)

abbrev Xs (N : Net) (t : ℕ) (ht : t < 32) (i : Fin 2) : Chunk := N.X (cc t ht i)

theorem ld0 (Y : FVec Ideal S256x2048 .f32) (i : Fin 256) (q : Fin 512) :
    View.ld (Val := Elt Ideal) (e' := .f32) Y (Rect.unit (s := S256x2048) ![0, 0] S256x512.size inb_S256x2048_S256x512_0_0) (ix2 i q)
      = Y (ix2 i ⟨q.val, by omega⟩) := by
  pointwise []

theorem ld1 (Y : FVec Ideal S256x2048 .f32) (i : Fin 256) (q : Fin 512) :
    View.ld (Val := Elt Ideal) (e' := .f32) Y (Rect.unit (s := S256x2048) ![0, 512] S256x512.size inb_S256x2048_S256x512_0_512) (ix2 i q)
      = Y (ix2 i ⟨512 + q.val, by omega⟩) := by
  pointwise []

theorem ldo (Y : FVec Ideal S1024x1024 .bf16) (q : Fin 512) (k : Fin 1024) :
    View.ld (Val := Elt Ideal) (e' := .bf16) Y (Rect.unit (s := S1024x1024) ![0, 0] S512x1024.size inb_S1024x1024_S512x1024_0_0) (ix2 q k)
      = Y (ix2 (lo q) k) := by
  pointwise []
  rfl

theorem blk_z (t : Fin cfg0.N) (i : Fin 256) (p : Fin 2048) : (iblk m c 2 t : FVec Ideal S256x2048 .f32) (ix2 i p) = zIn m c (ix2 (rowAt t.val (lt32 t) i) p) := by
  blk_point [iblk, idx t]
  rfl

theorem blk_x (t : Fin cfg0.N) (i : Fin 256) (k : Fin 1024) :
    (iblk m c 0 t : FVec Ideal S256x1024 .f32) (ix2 i k) = (m (c.tc.loc main_arg0) : FVec Ideal S8192x1024 .f32) (ix2 (rowAt t.val (lt32 t) i) k) := by
  blk_point [iblk, idx t]
  rfl

theorem blk_wo (t : Fin cfg0.N) (j k : Fin 1024) : (iblk m c 18 t : FVec Ideal S1024x1024 .bf16) (ix2 j k) = woIn m c (ix2 j k) := by
  blk_point [iblk, idx t]

theorem blk_4 (t : Fin cfg0.N) (k : Fin 8192) : (iblk m c 4 t : FVec Ideal S1x8192 .f32) (ix2 0 k) = (m (c.tc.loc main_arg2) : FVec Ideal S1x8192 .f32) (ix2 0 k) := by
  blk_point [iblk, idx t]

theorem blk_5 (t : Fin cfg0.N) (k : Fin 8192) : (iblk m c 5 t : FVec Ideal S1x8192 .f32) (ix2 0 k) = (m (c.tc.loc main_arg3) : FVec Ideal S1x8192 .f32) (ix2 0 k) := by
  blk_point [iblk, idx t]

theorem blk_8 (t : Fin cfg0.N) (q : Fin 512) : (iblk m c 8 t : FVec Ideal S1x512 .f32) (ix2 0 q) = (m (c.tc.loc main_arg7) : FVec Ideal S1x512 .f32) (ix2 0 q) := by
  blk_point [iblk, idx t]

theorem blk_9 (t : Fin cfg0.N) (q : Fin 512) : (iblk m c 9 t : FVec Ideal S1x512 .f32) (ix2 0 q) = (m (c.tc.loc main_arg8) : FVec Ideal S1x512 .f32) (ix2 0 q) := by
  blk_point [iblk, idx t]

theorem blk_16 (t : Fin cfg0.N) (q : Fin 512) : (iblk m c 16 t : FVec Ideal S1x512 .f32) (ix2 0 q) = (m (c.tc.loc main_arg15) : FVec Ideal S1x512 .f32) (ix2 0 q) := by
  blk_point [iblk, idx t]

theorem blk_wm (t : Fin cfg0.N) (h : Fin 8) (a b : Fin 128) : (iblk m c 10 t : FVec Ideal S8x128x128 .bf16) (ix3 h a b) = wmIn m c (ix3 h a b) := by
  blk_point [iblk, idx t]

theorem blk_wt (t : Fin cfg0.N) (h : Fin 8) (a b : Fin 128) : (iblk m c 11 t : FVec Ideal S8x128x128 .bf16) (ix3 h a b) = wtIn m c (ix3 h a b) := by
  blk_point [iblk, idx t]

theorem blk_bs (t : Fin cfg0.N) (s : Fin 128) (q : Fin 512) : (iblk m c 12 t : FVec Ideal S128x512 .f32) (ix2 s q) = bsIn m c (ix2 s q) := by
  blk_point [iblk, idx t]

theorem d_pt (v3 v4 : FVec Ideal S1x8192 .f32) (v8 : FVec Ideal S256x1024 .f32) (v12 : FVec Ideal S512x1024 .bf16) (md : Fin 8192 → ℝ) (x : Fin 1024 → ℝ)
    (w : Fin 1024 → ℝ) (i : Fin 256) (q : Fin 512) (h0 : ∀ k, v3 (ix2 0 k) + v4 (ix2 0 k) = (md k : EReal)) (h1 : ∀ k, v8 (ix2 i k) = (x k : EReal))
    (h2 : ∀ k, v12 (ix2 q k) = (w k : EReal)) :
    k0_pay19 (F := Ideal) v3 v4 v8 v12 (ix2 i q) = ((∑ k : Fin 1024, md ⟨2048 + k.val, by omega⟩ * x k * w k : ℝ) : EReal) := by
  pointwise [k0_pay19, k0_pay18, k0_pay16]
  simp only [h0, h1, h2, ← EReal.coe_mul, coe_sum]
  exact congrArg _ (Finset.sum_congr rfl fun k _ => by rw [mul_comm (x k)])

theorem zu_at (E : Mem m c N) (t : Fin cfg0.N) (i : Fin 256) (q : Fin 512) :
    View.ld (Val := Elt Ideal) (e' := .f32) (iblk m c 2 t) (Rect.unit (s := S256x2048) ![0, 0] S256x512.size inb_S256x2048_S256x512_0_0) (ix2 i q)
      = ((Xs N t.val (lt32 t) (ck i)).u (rw_ i) q : EReal) := by
  refine (ld0 _ i q).trans ((blk_z m c t i _).trans ((z_in m c E _ (lo q) _ rfl).trans ?_))
  rw [← row_cc]
  rfl

theorem zv_at (E : Mem m c N) (t : Fin cfg0.N) (i : Fin 256) (q : Fin 512) :
    View.ld (Val := Elt Ideal) (e' := .f32) (iblk m c 2 t) (Rect.unit (s := S256x2048) ![0, 512] S256x512.size inb_S256x2048_S256x512_0_512) (ix2 i q)
      = ((Xs N t.val (lt32 t) (ck i)).v (rw_ i) q : EReal) := by
  refine (ld1 _ i q).trans ((blk_z m c t i _).trans ((z_in m c E _ (hi q) _ rfl).trans ?_))
  rw [← row_cc]
  rfl

theorem d_at (E : Mem m c N) (t : Fin cfg0.N) (i : Fin 256) (q : Fin 512) :
    k0_pay19 (F := Ideal) (iblk m c 4 t) (iblk m c 5 t) (iblk m c 0 t)
      (View.ld (Val := Elt Ideal) (e' := .bf16) (iblk m c 18 t) (Rect.unit (s := S1024x1024) ![0, 0] S512x1024.size inb_S1024x1024_S512x1024_0_0)) (ix2 i q)
      = ((Xs N t.val (lt32 t) (ck i)).d (rw_ i) q : EReal) := by
  refine (d_pt _ _ _ _ N.mod (N.dx (rowAt t.val (lt32 t) i)) (N.wo (lo q)) i q ?_ ?_ ?_).trans ?_
  · exact fun k => by rw [blk_4, blk_5]; exact E.mod k
  · exact fun k => by rw [blk_x]; exact E.dx _ k
  · exact fun k => (ldo _ q k).trans ((blk_wo m c t _ k).trans (wo_in m c E _ k))
  · rw [← row_cc]
    rfl

theorem lg_at (E : Mem m c N) (t : Fin cfg0.N) (q : Fin 512) : (iblk m c 8 t : FVec Ideal S1x512 .f32) (ix2 0 q) = (N.W.lg q : EReal) := (blk_8 m c t q).trans (E.lg q)
theorem lb_at (E : Mem m c N) (t : Fin cfg0.N) (q : Fin 512) : (iblk m c 9 t : FVec Ideal S1x512 .f32) (ix2 0 q) = (N.W.lb q : EReal) := (blk_9 m c t q).trans (E.lb q)
theorem ga_at (E : Mem m c N) (t : Fin cfg0.N) (q : Fin 512) : (iblk m c 16 t : FVec Ideal S1x512 .f32) (ix2 0 q) = (N.W.ga q : EReal) := (blk_16 m c t q).trans (E.ga q)
theorem wm_at (E : Mem m c N) (t : Fin cfg0.N) (h : Fin 8) (s u : Fin 128) : (iblk m c 10 t : FVec Ideal S8x128x128 .bf16) (ix3 h s u) = (N.W.w h s u : EReal) :=
  (blk_wm m c t h s u).trans (wm_in m c E h s u)
theorem wt_at (E : Mem m c N) (t : Fin cfg0.N) (h : Fin 8) (s u : Fin 128) : (iblk m c 11 t : FVec Ideal S8x128x128 .bf16) (ix3 h u s) = (N.W.w h s u : EReal) :=
  (blk_wt m c t h u s).trans (wt_in m c E h s u)
theorem bs_at (E : Mem m c N) (t : Fin cfg0.N) (s : Fin 128) (q : Fin 512) : (iblk m c 12 t : FVec Ideal S128x512 .f32) (ix2 s q) = (N.W.b (head q) s : EReal) :=
  (blk_bs m c t s q).trans (bs_in m c E s q)

theorem p_zu (E : Mem m c N) (t : Fin cfg0.N) : Is (pt m c t).zu fun c => (Xs N t.val (lt32 t) c).u := by
  unfold pt
  exact zu_at m c E t

theorem p_zv (E : Mem m c N) (t : Fin cfg0.N) : Is (pt m c t).zv fun c => (Xs N t.val (lt32 t) c).v := by
  unfold pt
  exact zv_at m c E t

theorem p_d (E : Mem m c N) (t : Fin cfg0.N) : Is (pt m c t).d fun c => (Xs N t.val (lt32 t) c).d := by
  unfold pt
  exact d_at m c E t

theorem p_lg (E : Mem m c N) (t : Fin cfg0.N) : IsV (pt m c t).lg N.W.lg := by
  unfold pt
  exact lg_at m c E t

theorem p_lb (E : Mem m c N) (t : Fin cfg0.N) : IsV (pt m c t).lb N.W.lb := by
  unfold pt
  exact lb_at m c E t

theorem p_ga (E : Mem m c N) (t : Fin cfg0.N) : IsV (pt m c t).ga N.W.ga := by
  unfold pt
  exact ga_at m c E t

theorem p_wm (E : Mem m c N) (t : Fin cfg0.N) : ∀ h s u, (pt m c t).wm (ix3 h s u) = (N.W.w h s u : EReal) := by
  intro h s u
  have e := wm_at m c E t h s u
  dsimp only [pt]
  exact e

theorem p_wt (E : Mem m c N) (t : Fin cfg0.N) : ∀ h s u, (pt m c t).wt (ix3 h u s) = (N.W.w h s u : EReal) := by
  intro h s u
  have e := wt_at m c E t h s u
  dsimp only [pt]
  exact e

theorem p_bs (E : Mem m c N) (t : Fin cfg0.N) : ∀ s q, (pt m c t).bs (ix2 s q) = (N.W.b (head q) s : EReal) := by
  intro s q
  have e := bs_at m c E t s q
  dsimp only [pt]
  exact e

theorem holds (E : Mem m c N) (t : Fin cfg0.N) : (pt m c t).Holds N.W (Xs N t.val (lt32 t)) :=
  ⟨p_zu m c E t, p_zv m c E t, p_d m c E t, p_lg m c E t, p_lb m c E t, p_ga m c E t, p_wm m c E t, p_wt m c E t, p_bs m c E t⟩

end Cert.Proof.MixFwd

end
-- ==== Proof.MixRows.lean ====
/- The rows the mixer's backward kernel adds up from point to point. -/
module

public import proofs.«01_k».proof.Proof.MixFwd
public import proofs.«01_k».proof.Proof.Rows

@[expose] public section

set_option maxRecDepth 16384

noncomputable section

namespace Cert.Proof.MixFwd

open Idealize.ShloMosaic Cert.Kernel4Ideal Cert.Kernel4Ideal.Gen Cert.Proof.Mix Cert.Proof.Reals
variable (m : (ℓ : Loc nD τ sig) → Buf (Elt Ideal) ℓ)

variable {W : Weights} {X : Fin 2 → Chunk}

/-- A row to which a sum over rows is added, whatever the row. -/
theorem lift (o : FVec Ideal S1x512 .f32) (R : FVec Ideal S512 .f32) (q : Fin 512) (r : EReal)
    (h : ∀ o : FVec Ideal S1x512 .f32, addf (shapeCast S1x512 o shapeCasts_S1x512_S1x512) (shapeCast S1x512 R shapeCasts_S512_S1x512) (ix2 0 q) = o (ix2 0 q) + r) :
    addf (shapeCast S1x512 o shapeCasts_S1x512_S1x512) (shapeCast S1x512 R shapeCasts_S512_S1x512) (ix2 0 q) = o (ix2 0 q) + r := h o

theorem zero5 (r : Fin 8) (q : Fin 512) : k0_pay12 (F := Ideal) (ix2 r q) = 0 := by
  pointwise [k0_pay12]

/-- What a block adds to the rows of the branch norm's scale and of the layer norm's scale and shift. -/
def t5 (W : Weights) (X : Fin 2 → Chunk) (r : Fin 8) (q : Fin 512) : ℝ :=
  if r.val = 0 then ∑ s, (tg W (X 0) s q + tg W (X 1) s q)
  else if r.val = 2 then ∑ s, (dl W (X 0) s q * vh (X 0) s q + dl W (X 1) s q * vh (X 1) s q)
  else ∑ s, (dl W (X 0) s q + dl W (X 1) s q)

set_option maxHeartbeats 4000000 in
theorem a5A (c : Dev nD) (t : Fin cfg0.N) (h0 : t.val % 32 = 0) (H : (pt m c t).Holds W X) (q : Fin 512) :
    (outsAt0 m c t.val t.isLt).2.2.2.2.1 (ix2 0 q) = 0 + (t5 W X 0 q : EReal)
    ∧ (outsAt0 m c t.val t.isLt).2.2.2.2.1 (ix2 2 q) = 0 + (t5 W X 2 q : EReal)
    ∧ (outsAt0 m c t.val t.isLt).2.2.2.2.1 (ix2 3 q) = 0 + (t5 W X 3 q : EReal) := by
  rw [outsAt0_A m c t h0 (by omega)]
  refine ⟨?_, ?_, ?_⟩
  all_goals
    frame_out
    repeat refine (Rows.canon_row_skip (ms0_23 t).view (by decide)).trans ?_
    refine (Rows.canon_row_mem (ms0_23 t).view (by decide)).trans ?_
    refine (lift _ _ q _ fun o => ?_).trans (congrArg (· + _) ((Rows.readCov_row _ _ q).trans ?_))
    on_goal 2 =>
      repeat refine (Rows.canon_row_skip (ms0_23 t).view (by decide)).trans ?_
      exact (congrFun (View.canon_cons_unit_lit _ _ _ (by decide)) _).trans (zero5 _ q)
  · have h := H.row_ga o q
    dsimp only [pt, w8, b4, Blk.gu, Blk.hu, Blk.hv, Blk.r, Blk.vh, Blk.vl, Blk.mixL, Blk.mx, Blk.ya, Blk.ra, Blk.du, Blk.dm, Blk.db, Blk.dlL, Blk.dl, Blk.dvh, Blk.dv] at h
    exact h
  · have h := H.row_lg o q
    dsimp only [pt, w8, b4, Blk.gu, Blk.hu, Blk.hv, Blk.r, Blk.vh, Blk.vl, Blk.mixL, Blk.mx, Blk.ya, Blk.ra, Blk.du, Blk.dm, Blk.db, Blk.dlL, Blk.dl, Blk.dvh, Blk.dv] at h
    exact h
  · have h := H.row_lb o q
    dsimp only [pt, w8, b4, Blk.gu, Blk.hu, Blk.hv, Blk.r, Blk.vh, Blk.vl, Blk.mixL, Blk.mx, Blk.ya, Blk.ra, Blk.du, Blk.dm, Blk.db, Blk.dlL, Blk.dl, Blk.dvh, Blk.dv] at h
    exact h

set_option maxHeartbeats 4000000 in
theorem a5B (c : Dev nD) (t : Fin cfg0.N) (h0 : ¬ t.val % 32 = 0) (H : (pt m c t).Holds W X) (q : Fin 512) :
    (outsAt0 m c t.val t.isLt).2.2.2.2.1 (ix2 0 q) = (outsAt0 m c (t.val - 1) (Nat.lt_of_le_of_lt (Nat.sub_le _ _) t.isLt)).2.2.2.2.1 (ix2 0 q) + (t5 W X 0 q : EReal)
    ∧ (outsAt0 m c t.val t.isLt).2.2.2.2.1 (ix2 2 q) = (outsAt0 m c (t.val - 1) (Nat.lt_of_le_of_lt (Nat.sub_le _ _) t.isLt)).2.2.2.2.1 (ix2 2 q) + (t5 W X 2 q : EReal)
    ∧ (outsAt0 m c t.val t.isLt).2.2.2.2.1 (ix2 3 q) = (outsAt0 m c (t.val - 1) (Nat.lt_of_le_of_lt (Nat.sub_le _ _) t.isLt)).2.2.2.2.1 (ix2 3 q) + (t5 W X 3 q : EReal) := by
  by_cases h1 : t.val % 32 = 31
  on_goal 1 => rw [outsAt0_C m c t h0 h1]
  on_goal 2 => rw [outsAt0_B m c t h0 h1]
  all_goals
    refine ⟨?_, ?_, ?_⟩
    all_goals
      frame_out
      repeat refine (Rows.read_row_skip (ms0_23 t).view _ (by decide)).trans ?_
      refine (Rows.read_row_mem (ms0_23 t).view _ (by decide)).trans ?_
      refine (lift _ _ q _ fun o => ?_).trans (congrArg (· + _) (Rows.ld_row _ q))
    · have h := H.row_ga o q
      dsimp only [pt, w8, b4, Blk.gu, Blk.hu, Blk.hv, Blk.r, Blk.vh, Blk.vl, Blk.mixL, Blk.mx, Blk.ya, Blk.ra, Blk.du, Blk.dm, Blk.db, Blk.dlL, Blk.dl, Blk.dvh, Blk.dv] at h
      exact h
    · have h := H.row_lg o q
      dsimp only [pt, w8, b4, Blk.gu, Blk.hu, Blk.hv, Blk.r, Blk.vh, Blk.vl, Blk.mixL, Blk.mx, Blk.ya, Blk.ra, Blk.du, Blk.dm, Blk.db, Blk.dlL, Blk.dl, Blk.dvh, Blk.dv] at h
      exact h
    · have h := H.row_lb o q
      dsimp only [pt, w8, b4, Blk.gu, Blk.hu, Blk.hv, Blk.r, Blk.vh, Blk.vl, Blk.mixL, Blk.mx, Blk.ya, Blk.ra, Blk.du, Blk.dm, Blk.db, Blk.dlL, Blk.dl, Blk.dvh, Blk.dv] at h
      exact h

end Cert.Proof.MixFwd

end
-- ==== Proof.MixSw.lean ====
/- The running sum of the mixing matrices' gradient: what a block of two chunks leaves, head by head. -/
module

public import proofs.«01_k».proof.Proof.MixBlk

@[expose] public section

set_option maxRecDepth 16384

noncomputable section

namespace Cert.Proof.Mix

open Idealize.ShloMosaic Cert.Kernel4Ideal Cert.Kernel4Ideal.Gen Cert.Proof.Reals Cert.Proof.Loss

abbrev Pieces := List (View.Piece (Elt Ideal) S8x128x128 (.f32))
abbrev Sum8 := Fin 8 → Fin 128 → Fin 128 → EReal

/-- One head's rectangle, and a way of reading it back out of the pieces stored so far. -/
abbrev In8 (k : ℕ) : Prop := ∀ a, (![k, 0, 0] : Fin 3 → ℕ) a + S1x128x128.size a ≤ S8x128x128.size a
abbrev r8 (k : ℕ) (h : In8 k) : Rect S8x128x128 := Rect.unit (s := S8x128x128) ![k, 0, 0] S1x128x128.size h
abbrev Reads := Pieces → (k : ℕ) → In8 k → FVec Ideal S1x128x128 .f32

theorem In8.lt {k : ℕ} (h : In8 k) : k < 8 := by have := h 0; simp at this; omega

/-- The pieces hold the new sums of the first `k` heads, and the old ones of the rest where they are held at all. -/
def Held (Q : Prop) (old new : Sum8) (L : Pieces) (k : ℕ) : Prop :=
  ∀ (h : Fin 8) a b, (h.val < k → View.canon L (ix3 h a b) = new h a b) ∧ (Q → k ≤ h.val → View.canon L (ix3 h a b) = old h a b)

/-- Reading a head gives its old sum. -/
def Fair (Q : Prop) (old : Sum8) (rd : Reads) : Prop :=
  ∀ L k (h : In8 k), (Q → ∀ a b, View.canon L (ix3 ⟨k, h.lt⟩ a b) = old ⟨k, h.lt⟩ a b) → ∀ a b, rd L k h (ix3 0 a b) = old ⟨k, h.lt⟩ a b

theorem emb8 (k : ℕ) (h : In8 k) (a b : Fin 128) : (r8 k h).emb (ix3 (0 : Fin 1) a b) = ix3 ⟨k, h.lt⟩ a b := by
  funext i
  apply Fin.ext
  match i with
  | ⟨0, _⟩ => rfl
  | ⟨1, _⟩ => exact (Nat.zero_add _).trans (Nat.one_mul _)
  | ⟨2, _⟩ => exact (Nat.zero_add _).trans (Nat.one_mul _)

theorem not8 (k : ℕ) (h : In8 k) (j : Fin 8) (hj : j.val ≠ k) (a b : Fin 128) : (ix3 j a b : S8x128x128.Idx) ∉ (r8 k h).set := by
  intro hm
  have h0 : k ≤ j.val ∧ j.val < k + 1 := Rect.mem_set_unit.mp hm 0
  omega

theorem Held.step {Q : Prop} {old new : Sum8} {rd : Reads} (hr : Fair Q old rd) {L : Pieces} {k : ℕ} (H : Held Q old new L k) (h : In8 k)
    (p : FVec Ideal S1x128x128 .f32 → FVec Ideal S1x128x128 .f32)
    (hp : ∀ V, (∀ a b, V (ix3 0 a b) = old ⟨k, h.lt⟩ a b) → ∀ a b, p V (ix3 0 a b) = new ⟨k, h.lt⟩ a b) :
    Held Q old new (⟨r8 k h, p (rd L k h)⟩ :: L) (k + 1) := by
  intro j a b
  by_cases hj : j.val = k
  · obtain rfl : j = ⟨k, h.lt⟩ := Fin.ext hj
    refine ⟨fun _ => ?_, fun _ h' => absurd h' (Nat.not_succ_le_self k)⟩
    refine ((congrArg _ (emb8 k h a b)).symm.trans (View.canon_cons_emb (r8 k h) _ L (ix3 0 a b))).trans ?_
    exact hp _ (hr L k h fun hQ a b => (H ⟨k, h.lt⟩ a b).2 hQ le_rfl) a b
  · rw [View.canon_cons_of_not_mem ⟨r8 k h, p (rd L k h)⟩ L (not8 k h j hj a b)]
    exact ⟨fun h' => (H j a b).1 (Nat.lt_of_le_of_ne (Nat.lt_succ_iff.mp h') hj), fun hQ h' => (H j a b).2 hQ (Nat.le_of_succ_le h')⟩

namespace Blk
variable (B : Blk) (rd : Reads)

def swLo (L : Pieces) : Pieces :=
  let push (k : ℕ) (h : In8 k) (p : FVec Ideal S1x128x128 .f32 → FVec Ideal S1x128x128 .f32) (L : Pieces) : Pieces := ⟨r8 k h, p (rd L k h)⟩ :: L
  let d := k0_pay85 B.d B.gu B.ya B.ga B.ra
  push 7 inb_S8x128x128_S1x128x128_7_0_0 (k0_pay107 k0_pay82 (k0_pay83 (F := Ideal)) (k0_pay101 B.db) (k0_pay102 B.vl)) <|
  push 6 inb_S8x128x128_S1x128x128_6_0_0 (k0_pay106 k0_pay82 (k0_pay83 (F := Ideal)) (k0_pay101 B.db) (k0_pay102 B.vl)) <|
  push 5 inb_S8x128x128_S1x128x128_5_0_0 (k0_pay100 k0_pay82 (k0_pay83 (F := Ideal)) (k0_pay95 B.db) (k0_pay96 B.vl)) <|
  push 4 inb_S8x128x128_S1x128x128_4_0_0 (k0_pay99 k0_pay82 (k0_pay83 (F := Ideal)) (k0_pay95 B.db) (k0_pay96 B.vl)) <|
  push 3 inb_S8x128x128_S1x128x128_3_0_0 (k0_pay94 k0_pay82 (k0_pay83 (F := Ideal)) (k0_pay90 B.db) (k0_pay91 B.vl)) <|
  push 2 inb_S8x128x128_S1x128x128_2_0_0 (k0_pay93 k0_pay82 (k0_pay83 (F := Ideal)) (k0_pay90 B.db) (k0_pay91 B.vl)) <|
  push 1 inb_S8x128x128_S1x128x128_1_0_0 (k0_pay89 B.vl k0_pay82 (k0_pay83 (F := Ideal)) d) <|
  push 0 inb_S8x128x128_S1x128x128_0_0_0 (k0_pay88 B.vl k0_pay82 (k0_pay83 (F := Ideal)) d) L

def swHi (L : Pieces) : Pieces :=
  let push (k : ℕ) (h : In8 k) (p : FVec Ideal S1x128x128 .f32 → FVec Ideal S1x128x128 .f32) (L : Pieces) : Pieces := ⟨r8 k h, p (rd L k h)⟩ :: L
  push 7 inb_S8x128x128_S1x128x128_7_0_0 (k0_pay132 k0_pay82 (k0_pay83 (F := Ideal)) (k0_pay127 B.db) (k0_pay128 B.vl)) <|
  push 6 inb_S8x128x128_S1x128x128_6_0_0 (fun V => k0_pay131 (k0_pay130 B.vl B.db k0_pay82 (k0_pay83 (F := Ideal)) V)) <|
  push 5 inb_S8x128x128_S1x128x128_5_0_0 (k0_pay126 k0_pay82 (k0_pay83 (F := Ideal)) (k0_pay120 B.db) (k0_pay121 B.vl)) <|
  push 4 inb_S8x128x128_S1x128x128_4_0_0 (fun V => k0_pay125 (k0_pay121 B.vl) (k0_pay123 V) (k0_pay124 B.db k0_pay82 (k0_pay83 (F := Ideal)))) <|
  push 3 inb_S8x128x128_S1x128x128_3_0_0 (k0_pay119 k0_pay82 (k0_pay83 (F := Ideal)) (k0_pay115 B.db) (k0_pay116 B.vl)) <|
  push 2 inb_S8x128x128_S1x128x128_2_0_0 (k0_pay118 k0_pay82 (k0_pay83 (F := Ideal)) (k0_pay115 B.db) (k0_pay116 B.vl)) <|
  push 1 inb_S8x128x128_S1x128x128_1_0_0 (k0_pay114 k0_pay82 (k0_pay83 (F := Ideal)) (k0_pay109 B.db) (k0_pay110 B.vl)) <|
  push 0 inb_S8x128x128_S1x128x128_0_0_0 (k0_pay113 k0_pay82 (k0_pay83 (F := Ideal)) (k0_pay109 B.db) (k0_pay110 B.vl)) L

end Blk

namespace Blk.Holds
variable {B : Blk} {W : Weights} {X : Fin 2 → Chunk} (H : B.Holds W X)
include H

set_option maxHeartbeats 4000000 in
theorem swLo {Q : Prop} {old : Sum8} {rd : Reads} (hr : Fair Q old rd) {L : Pieces}
    (hL : Held Q old (fun h a b => old h a b + (sw W (X 0) h a b : EReal)) L 0) :
    Held Q old (fun h a b => old h a b + (sw W (X 0) h a b : EReal)) (B.swLo rd L) 8 := by
  have hv : Is (k0_pay81 B.d B.gu B.ya B.ga B.ra) fun c => Mix.dm W (X c) := H.db
  unfold Blk.swLo
  refine (((((((hL.step hr _ _ ?_).step hr _ _ ?_).step hr _ _ ?_).step hr _ _ ?_).step hr _ _ ?_).step hr _ _ ?_).step hr _ _ ?_).step hr _ _ ?_
  all_goals
    intro V hV a b
    pointwise [k0_pay107, k0_pay106, k0_pay102, k0_pay101, k0_pay100, k0_pay99, k0_pay96, k0_pay95, k0_pay94, k0_pay93, k0_pay91, k0_pay90, k0_pay89, k0_pay88,
      k0_pay86, k0_pay85, k0_pay83, k0_pay82]
    simp only [H.db _ _, H.vl _ _, hv _ _, ck_lo, rw_lo, ← EReal.coe_mul, mask]
    first
      | exact congrArg₂ _ (hV a b) (half_lo (fun q => Mix.dm W (X 0) a q * Mix.vl W (X 0) b q) _ _ fun j => Fin.ext (by simp [col] <;> omega))
      | exact congrArg₂ _ (hV a b) (half_hi (fun q => Mix.dm W (X 0) a q * Mix.vl W (X 0) b q) _ _ fun j => Fin.ext (by simp [col] <;> omega))

set_option maxHeartbeats 4000000 in
theorem swHi {Q : Prop} {old : Sum8} {rd : Reads} (hr : Fair Q old rd) {L : Pieces}
    (hL : Held Q old (fun h a b => old h a b + (sw W (X 1) h a b : EReal)) L 0) :
    Held Q old (fun h a b => old h a b + (sw W (X 1) h a b : EReal)) (B.swHi rd L) 8 := by
  unfold Blk.swHi
  refine (((((((hL.step hr _ _ ?_).step hr _ _ ?_).step hr _ _ ?_).step hr _ _ ?_).step hr _
    (fun V => k0_pay125 (k0_pay121 B.vl) (k0_pay123 V) (k0_pay124 B.db k0_pay82 (k0_pay83 (F := Ideal)))) ?_).step hr _ _ ?_).step hr _
    (fun V => k0_pay131 (k0_pay130 B.vl B.db k0_pay82 (k0_pay83 (F := Ideal)) V)) ?_).step hr _ _ ?_
  all_goals
    intro V hV a b
    pointwise [k0_pay132, k0_pay131, k0_pay130, k0_pay128, k0_pay127, k0_pay126, k0_pay125, k0_pay124, k0_pay123, k0_pay121, k0_pay120, k0_pay119, k0_pay118,
      k0_pay116, k0_pay115, k0_pay114, k0_pay113, k0_pay110, k0_pay109, k0_pay83, k0_pay82]
    simp only [H.db _ _, H.vl _ _, ck_hi, rw_hi, ← EReal.coe_mul, mask]
    first
      | exact congrArg₂ _ (hV a b) (half_lo (fun q => Mix.dm W (X 1) a q * Mix.vl W (X 1) b q) _ _ fun j => Fin.ext (by simp [col] <;> omega))
      | exact congrArg₂ _ (hV a b) (half_hi (fun q => Mix.dm W (X 1) a q * Mix.vl W (X 1) b q) _ _ fun j => Fin.ext (by simp [col] <;> omega))

/-- Both chunks together: what the pieces leave on top of the old sums. -/
theorem sw {Q : Prop} {old : Sum8} {lo hi : Reads} (h0 : Fair Q old lo) (h1 : Fair True (fun h a b => old h a b + (Mix.sw W (X 0) h a b : EReal)) hi)
    {L : Pieces} (hL : Q → ∀ h a b, View.canon L (ix3 h a b) = old h a b) (h : Fin 8) (a b : Fin 128) :
    View.canon (B.swHi hi (B.swLo lo L)) (ix3 h a b) = old h a b + (Mix.sw W (X 0) h a b : EReal) + (Mix.sw W (X 1) h a b : EReal) := by
  have e := H.swLo h0 (L := L) fun h a b => ⟨fun h' => absurd h' (Nat.not_lt_zero _), fun hQ _ => hL hQ h a b⟩
  have e' := H.swHi h1 (L := B.swLo lo L) fun h a b => ⟨fun h' => absurd h' (Nat.not_lt_zero _), fun _ _ => (e h a b).1 h.isLt⟩
  exact (e' h a b).1 h.isLt

end Blk.Holds

/-- Reading what was stored, and reading what was there before. -/
theorem fair_cov {Q : Prop} (hQ : Q) (old : Sum8) {sig : RefSig} {κ : Kind} {sp : Space} (v : View sig κ sp S8x128x128 (.f32)) :
    Fair Q old fun L k h => v.readCov L (r8 k h).toLoadRect := fun L k h hr a b => by
  show v.readCov L (r8 k h).toLoadRect (ix3 0 a b) = _
  rw [View.readCov_eq_canon']
  exact (congrArg _ (emb8 k h a b)).trans (hr hQ a b)

theorem fair_ld (old : Sum8) (V : FVec Ideal S8x128x128 .f32) (hV : ∀ h a b, V (ix3 h a b) = old h a b) :
    Fair False old fun _ k h => View.ld (Val := Elt Ideal) (e' := .f32) V (r8 k h) := fun L k h _ a b =>
  (congrArg V (emb8 k h a b)).trans (hV ⟨k, h.lt⟩ a b)

end Cert.Proof.Mix

end
-- ==== Proof.MixSums.lean ====
/- The sums of the mixing matrices and of the bias, from point to point. -/
module

public import proofs.«01_k».proof.Proof.MixFwd
public import proofs.«01_k».proof.Proof.MixSw

@[expose] public section

set_option maxRecDepth 16384

noncomputable section

namespace Cert.Proof.MixFwd

open Idealize.ShloMosaic Cert.Kernel4Ideal Cert.Kernel4Ideal.Gen Cert.Proof.Mix Cert.Proof.Reals
variable (m : (ℓ : Loc nD τ sig) → Buf (Elt Ideal) ℓ)

variable {W : Weights} {X : Fin 2 → Chunk}

theorem zeroW (h : Fin 8) (a b : Fin 128) : k0_pay14 (F := Ideal) (ix3 h a b) = 0 := by
  pointwise [k0_pay14]

theorem zeroB (s : Fin 128) (q : Fin 512) : k0_pay15 (F := Ideal) (ix2 s q) = 0 := by
  pointwise [k0_pay15]

set_option maxHeartbeats 4000000 in
theorem swA (c : Dev nD) (t : Fin cfg0.N) (h0 : t.val % 32 = 0) (H : (pt m c t).Holds W X) (h : Fin 8) (a b : Fin 128) :
    (outsAt0 m c t.val t.isLt).2.2.2.2.2.2.1 (ix3 h a b) = 0 + ((sw W (X 0) h a b + sw W (X 1) h a b : ℝ) : EReal) := by
  rw [outsAt0_A m c t h0 (by omega), EReal.coe_add, ← add_assoc]
  frame_out
  have e := H.sw (fair_cov trivial (fun _ _ _ => 0) (ms0_25 t).view) (fair_cov trivial _ (ms0_25 t).view)
    (L := [⟨Rect.unit (s := S8x128x128) ![0, 0, 0] S8x128x128.size inb_S8x128x128_S8x128x128_0_0_0, k0_pay14 (F := Ideal)⟩])
    (fun _ h a b => (congrFun (View.canon_cons_unit_lit _ _ _ (by decide)) _).trans (zeroW h a b)) h a b
  dsimp only [Blk.swLo, Blk.swHi, pt, w8, b4, Blk.gu, Blk.hu, Blk.hv, Blk.r, Blk.vh, Blk.vl, Blk.mixL, Blk.mx, Blk.ya, Blk.ra, Blk.du, Blk.dm, Blk.db, Blk.dlL, Blk.dl, Blk.dvh, Blk.dv] at e
  exact e

set_option maxHeartbeats 4000000 in
theorem swB (c : Dev nD) (t : Fin cfg0.N) (h0 : ¬ t.val % 32 = 0) (H : (pt m c t).Holds W X) (h : Fin 8) (a b : Fin 128) :
    (outsAt0 m c t.val t.isLt).2.2.2.2.2.2.1 (ix3 h a b)
      = (outsAt0 m c (t.val - 1) (Nat.lt_of_le_of_lt (Nat.sub_le _ _) t.isLt)).2.2.2.2.2.2.1 (ix3 h a b) + ((sw W (X 0) h a b + sw W (X 1) h a b : ℝ) : EReal) := by
  by_cases h1 : t.val % 32 = 31
  on_goal 1 => rw [outsAt0_C m c t h0 h1]
  on_goal 2 => rw [outsAt0_B m c t h0 h1]
  all_goals
    rw [EReal.coe_add, ← add_assoc]
    frame_out
    have e := H.sw (fair_ld _ (outsAt0 m c (t.val - 1) (Nat.lt_of_le_of_lt (Nat.sub_le _ _) t.isLt)).2.2.2.2.2.2.1 fun _ _ _ => rfl)
      (fair_cov trivial _ (ms0_25 t).view) (L := []) (fun hf => hf.elim) h a b
    dsimp only [Blk.swLo, Blk.swHi, pt, w8, b4, Blk.gu, Blk.hu, Blk.hv, Blk.r, Blk.vh, Blk.vl, Blk.mixL, Blk.mx, Blk.ya, Blk.ra, Blk.du, Blk.dm, Blk.db, Blk.dlL, Blk.dl, Blk.dvh, Blk.dv] at e
    exact e

set_option maxHeartbeats 4000000 in
theorem sbA (c : Dev nD) (t : Fin cfg0.N) (h0 : t.val % 32 = 0) (H : (pt m c t).Holds W X) (s : Fin 128) (q : Fin 512) :
    (outsAt0 m c t.val t.isLt).2.2.2.2.2.2.2.1 (ix2 s q) = ((dm W (X 0) s q + dm W (X 1) s q : ℝ) : EReal) := by
  rw [outsAt0_A m c t h0 (by omega)]
  frame_out
  have e := H.sums_b (k0_pay15 (F := Ideal)) s q
  dsimp only [pt, w8, b4, Blk.gu, Blk.hu, Blk.hv, Blk.r, Blk.vh, Blk.vl, Blk.mixL, Blk.mx, Blk.ya, Blk.ra, Blk.du, Blk.dm, Blk.db, Blk.dlL, Blk.dl, Blk.dvh, Blk.dv] at e
  exact e.trans ((congrArg (· + _) (zeroB s q)).trans (zero_add _))

set_option maxHeartbeats 4000000 in
theorem sbB (c : Dev nD) (t : Fin cfg0.N) (h0 : ¬ t.val % 32 = 0) (h1 : ¬ t.val % 32 = 31) (H : (pt m c t).Holds W X) (s : Fin 128) (q : Fin 512) :
    (outsAt0 m c t.val t.isLt).2.2.2.2.2.2.2.1 (ix2 s q)
      = (outsAt0 m c (t.val - 1) (Nat.lt_of_le_of_lt (Nat.sub_le _ _) t.isLt)).2.2.2.2.2.2.2.1 (ix2 s q) + ((dm W (X 0) s q + dm W (X 1) s q : ℝ) : EReal) := by
  rw [outsAt0_B m c t h0 h1]
  frame_out
  have e := H.sums_b (outsAt0 m c (t.val - 1) (Nat.lt_of_le_of_lt (Nat.sub_le _ _) t.isLt)).2.2.2.2.2.2.2.1 s q
  dsimp only [pt, w8, b4, Blk.gu, Blk.hu, Blk.hv, Blk.r, Blk.vh, Blk.vl, Blk.mixL, Blk.mx, Blk.ya, Blk.ra, Blk.du, Blk.dm, Blk.db, Blk.dlL, Blk.dl, Blk.dvh, Blk.dv] at e
  exact e

set_option maxHeartbeats 4000000 in
/-- At the last point every column takes the sum over its head's columns. -/
theorem sbC (c : Dev nD) (t : Fin cfg0.N) (h0 : ¬ t.val % 32 = 0) (h1 : t.val % 32 = 31) (H : (pt m c t).Holds W X) (g : Fin 128 → Fin 512 → ℝ)
    (hg : ∀ s q, (outsAt0 m c (t.val - 1) (Nat.lt_of_le_of_lt (Nat.sub_le _ _) t.isLt)).2.2.2.2.2.2.2.1 (ix2 s q) = (g s q : EReal)) (s : Fin 128) (q : Fin 512) :
    (outsAt0 m c t.val t.isLt).2.2.2.2.2.2.2.1 (ix2 s q)
      = ((∑ j, (g s (col (head q) j) + (dm W (X 0) s (col (head q) j) + dm W (X 1) s (col (head q) j))) : ℝ) : EReal) := by
  rw [outsAt0_C m c t h0 h1]
  frame_out
  have e := spread_at _ (fun s q => g s q + (dm W (X 0) s q + dm W (X 1) s q))
    (fun s q => (H.sums_b (outsAt0 m c (t.val - 1) (Nat.lt_of_le_of_lt (Nat.sub_le _ _) t.isLt)).2.2.2.2.2.2.2.1 s q).trans
      ((congrArg (· + _) (hg s q)).trans (EReal.coe_add _ _).symm)) s q
  dsimp only [spread, pt, w8, b4, Blk.gu, Blk.hu, Blk.hv, Blk.r, Blk.vh, Blk.vl, Blk.mixL, Blk.mx, Blk.ya, Blk.ra, Blk.du, Blk.dm, Blk.db, Blk.dlL, Blk.dl, Blk.dvh, Blk.dv] at e
  exact e

end Cert.Proof.MixFwd

end
-- ==== Proof.MixCols.lean ====
/- The first row of the column sums of the gradient, from point to point. -/
module

public import proofs.«01_k».proof.Proof.MixFwd
public import proofs.«01_k».proof.Proof.Rows

@[expose] public section

set_option maxRecDepth 16384

noncomputable section

namespace Cert.Proof.MixFwd

open Idealize.ShloMosaic Cert.Kernel4Ideal Cert.Kernel4Ideal.Gen Cert.Proof.Mix Cert.Proof.Reals
variable (m : (ℓ : Loc nD τ sig) → Buf (Elt Ideal) ℓ)

variable {W : Weights} {X : Fin 2 → Chunk}

section cols
variable (v : View sig .tc .vmem S8x2048 .f32) (f : v.ty.Contents (Elt Ideal)) {o : ℕ}
  {inb : ∀ a : Fin 2, (![0, o] : Fin 2 → ℕ) a + (![1, 512] : Fin 2 → ℕ) a ≤ (![8, 2048] : Fin 2 → ℕ) a}
  {w : S1x512.Idx → Elt Ideal .f32} {L : List (View.Piece (Elt Ideal) S8x2048 .f32)} {j : Fin 2048} {q : Fin 512}

/-- Part of the first row read back, over what was there or over what was stored before. -/
theorem read_col_mem (h : j.val = o + q.val) :
    v.read (Elt Ideal) (v.writes (Elt Ideal) f ((⟨Rect.unit ![0, o] ![1, 512] inb, w⟩ : View.Piece (Elt Ideal) S8x2048 .f32) :: L)) (ix2 0 j) = w (ix2 0 q) :=
  View.read_writes_cons_unit_of_mem v _ inb w L (ix2 0 j) (ix2 0 q) rfl fun a => match a with
    | ⟨0, _⟩ => rfl
    | ⟨1, _⟩ => h

theorem read_col_skip (h : j.val < o ∨ o + 512 ≤ j.val) :
    v.read (Elt Ideal) (v.writes (Elt Ideal) f ((⟨Rect.unit ![0, o] ![1, 512] inb, w⟩ : View.Piece (Elt Ideal) S8x2048 .f32) :: L)) (ix2 0 j)
      = v.read (Elt Ideal) (v.writes (Elt Ideal) f L) (ix2 0 j) :=
  View.read_writes_cons_unit_of_not_mem v _ inb w L (ix2 0 j) rfl (1 : Fin 2) h

include v in
theorem canon_col_mem (h : j.val = o + q.val) :
    View.canon ((⟨Rect.unit ![0, o] ![1, 512] inb, w⟩ : View.Piece (Elt Ideal) S8x2048 .f32) :: L) (ix2 0 j) = w (ix2 0 q) := by
  rw [← View.read_writes_junk_eq_canon v]
  exact read_col_mem v _ h

include v in
theorem canon_col_skip (h : j.val < o ∨ o + 512 ≤ j.val) :
    View.canon ((⟨Rect.unit ![0, o] ![1, 512] inb, w⟩ : View.Piece (Elt Ideal) S8x2048 .f32) :: L) (ix2 0 j) = View.canon L (ix2 0 j) := by
  rw [← View.read_writes_junk_eq_canon v, ← View.read_writes_junk_eq_canon v]
  exact read_col_skip v _ h

theorem ld_col (V : S8x2048.Idx → Elt Ideal .f32) (h : j.val = o + q.val) :
    View.ld (Val := Elt Ideal) (e' := .f32) V (Rect.unit (s := S8x2048) ![0, o] ![1, 512] inb) (ix2 0 q) = V (ix2 0 j) :=
  View.ld_unit_apply_of _ _ _ _ _ _ fun a => match a with
    | ⟨0, _⟩ => rfl
    | ⟨1, _⟩ => h

theorem readCov_col (h : j.val = o + q.val) :
    v.readCov L (Rect.unit (s := S8x2048) ![0, o] ![1, 512] inb).toLoadRect (ix2 (0 : Fin 1) q : S1x512.Idx) = View.canon L (ix2 0 j) := by
  rw [View.readCov_eq_canon']
  exact ld_col (inb := inb) (View.canon L) h
end cols

theorem zero2 (r : Fin 8) (j : Fin 2048) : k0_pay11 (F := Ideal) (ix2 r j) = 0 := by
  pointwise [k0_pay11]

/-- What a block adds to a column. -/
def t2 (W : Weights) (X : Fin 2 → Chunk) (j : Fin 1024) : ℝ := ∑ s, (duv W (X 0) s j + duv W (X 1) s j)

theorem t2_lo (W : Weights) (X : Fin 2 → Chunk) (j : Fin 1024) (h : j.val < 512) :
    t2 W X j = ∑ s, (du W (X 0) s ⟨j.val, h⟩ + du W (X 1) s ⟨j.val, h⟩) := by
  simp only [t2, duv, h, dif_pos]

theorem t2_hi (W : Weights) (X : Fin 2 → Chunk) (j : Fin 1024) (h : ¬ j.val < 512) :
    t2 W X j = ∑ s, (dv W (X 0) s ⟨j.val - 512, by omega⟩ + dv W (X 1) s ⟨j.val - 512, by omega⟩) := by
  simp only [t2, duv, h, dif_neg, not_false_eq_true]

/-- A partial row to which the block's sums are added, whatever the row. -/
theorem lift_u (o R : FVec Ideal S1x512 .f32) (q : Fin 512) (r : EReal)
    (h : ∀ o, k0_pay1560 (F := Ideal) (k0_pay1558 (F := Ideal) o) R (ix2 0 q) = o (ix2 0 q) + r) :
    k0_pay1560 (F := Ideal) (k0_pay1558 (F := Ideal) o) R (ix2 0 q) = o (ix2 0 q) + r := h o

theorem lift_v (D : FVec Ideal S256x512 .f32) (o : FVec Ideal S1x512 .f32) (q : Fin 512) (r : EReal)
    (h : ∀ o, k0_pay1562 (F := Ideal) D o (ix2 0 q) = o (ix2 0 q) + r) :
    k0_pay1562 (F := Ideal) D o (ix2 0 q) = o (ix2 0 q) + r := h o

set_option maxHeartbeats 4000000 in
theorem a2A (c : Dev nD) (t : Fin cfg0.N) (h0 : t.val % 32 = 0) (H : (pt m c t).Holds W X) (p : Fin 2048) (hp : p.val < 1024) :
    (outsAt0 m c t.val t.isLt).2.2.2.1 (ix2 0 p) = 0 + (t2 W X ⟨p.val, hp⟩ : EReal) := by
  rw [outsAt0_A m c t h0 (by omega)]
  frame_out
  refine (canon_col_skip (ms0_22 t).view (by omega)).trans ((canon_col_skip (ms0_22 t).view (by omega)).trans ?_)
  by_cases hq : p.val < 512
  · rw [t2_lo W X ⟨p.val, hp⟩ hq]
    refine (canon_col_skip (ms0_22 t).view (by omega)).trans ((canon_col_mem (ms0_22 t).view (q := ⟨p.val, hq⟩) (Nat.zero_add _).symm).trans ?_)
    refine (lift_u _ _ ⟨p.val, hq⟩ _ fun o => ?_).trans (congrArg (· + _) ((readCov_col (ms0_22 t).view (j := p) (Nat.zero_add _).symm).trans
      ((congrFun (View.canon_cons_unit_lit _ _ _ (by decide)) _).trans (zero2 _ p))))
    have h := H.row_du o ⟨p.val, hq⟩
    dsimp only [pt, w8, b4, Blk.gu, Blk.hu, Blk.hv, Blk.r, Blk.vh, Blk.vl, Blk.mixL, Blk.mx, Blk.ya, Blk.ra, Blk.du, Blk.dm, Blk.db, Blk.dlL, Blk.dl, Blk.dvh, Blk.dv] at h
    exact h
  · rw [t2_hi W X ⟨p.val, hp⟩ hq]
    refine (canon_col_mem (ms0_22 t).view (q := ⟨p.val - 512, by omega⟩) (by show p.val = 512 + (p.val - 512); omega)).trans ?_
    refine (lift_v _ _ ⟨p.val - 512, by omega⟩ _ fun o => ?_).trans (congrArg (· + _)
      ((readCov_col (ms0_22 t).view (j := p) (by show p.val = 512 + (p.val - 512); omega)).trans
      ((canon_col_skip (ms0_22 t).view (by omega)).trans ((congrFun (View.canon_cons_unit_lit _ _ _ (by decide)) _).trans (zero2 _ p)))))
    have h := H.row_dv o ⟨p.val - 512, by omega⟩
    dsimp only [pt, w8, b4, Blk.gu, Blk.hu, Blk.hv, Blk.r, Blk.vh, Blk.vl, Blk.mixL, Blk.mx, Blk.ya, Blk.ra, Blk.du, Blk.dm, Blk.db, Blk.dlL, Blk.dl, Blk.dvh, Blk.dv] at h
    exact h

set_option maxHeartbeats 4000000 in
theorem a2B (c : Dev nD) (t : Fin cfg0.N) (h0 : ¬ t.val % 32 = 0) (H : (pt m c t).Holds W X) (p : Fin 2048) (hp : p.val < 1024) :
    (outsAt0 m c t.val t.isLt).2.2.2.1 (ix2 0 p)
      = (outsAt0 m c (t.val - 1) (Nat.lt_of_le_of_lt (Nat.sub_le _ _) t.isLt)).2.2.2.1 (ix2 0 p) + (t2 W X ⟨p.val, hp⟩ : EReal) := by
  by_cases h1 : t.val % 32 = 31
  on_goal 1 => rw [outsAt0_C m c t h0 h1]
  on_goal 2 => rw [outsAt0_B m c t h0 h1]
  all_goals
    frame_out
    refine (read_col_skip (ms0_22 t).view _ (by omega)).trans ((read_col_skip (ms0_22 t).view _ (by omega)).trans ?_)
    by_cases hq : p.val < 512
    · rw [t2_lo W X ⟨p.val, hp⟩ hq]
      refine (read_col_skip (ms0_22 t).view _ (by omega)).trans ((read_col_mem (ms0_22 t).view _ (q := ⟨p.val, hq⟩) (Nat.zero_add _).symm).trans ?_)
      refine (lift_u _ _ ⟨p.val, hq⟩ _ fun o => ?_).trans (congrArg (· + _) (ld_col _ (j := p) (Nat.zero_add _).symm))
      have h := H.row_du o ⟨p.val, hq⟩
      dsimp only [pt, w8, b4, Blk.gu, Blk.hu, Blk.hv, Blk.r, Blk.vh, Blk.vl, Blk.mixL, Blk.mx, Blk.ya, Blk.ra, Blk.du, Blk.dm, Blk.db, Blk.dlL, Blk.dl, Blk.dvh, Blk.dv] at h
      exact h
    · rw [t2_hi W X ⟨p.val, hp⟩ hq]
      refine (read_col_mem (ms0_22 t).view _ (q := ⟨p.val - 512, by omega⟩) (by show p.val = 512 + (p.val - 512); omega)).trans ?_
      refine (lift_v _ _ ⟨p.val - 512, by omega⟩ _ fun o => ?_).trans (congrArg (· + _) (ld_col _ (j := p) (by show p.val = 512 + (p.val - 512); omega)))
      have h := H.row_dv o ⟨p.val - 512, by omega⟩
      dsimp only [pt, w8, b4, Blk.gu, Blk.hu, Blk.hv, Blk.r, Blk.vh, Blk.vl, Blk.mixL, Blk.mx, Blk.ya, Blk.ra, Blk.du, Blk.dm, Blk.db, Blk.dlL, Blk.dl, Blk.dvh, Blk.dv] at h
      exact h

end Cert.Proof.MixFwd

end
-- ==== Proof.MixArr.lean ====
/- The arrays the spatial gating kernel returns, in real numbers. -/
module

public import proofs.«01_k».proof.Proof.MixIn
public import proofs.«01_k».proof.Proof.MixRows
public import proofs.«01_k».proof.Proof.MixSums
public import proofs.«01_k».proof.Proof.MixCols

@[expose] public section

set_option maxRecDepth 16384

noncomputable section

namespace Cert.Proof.MixFwd

open Idealize.ShloMosaic Cert.Kernel4Ideal Cert.Kernel4Ideal.Gen Cert.Proof.Reals Cert.Proof.Mix

variable (m : (ℓ : Loc nD τ sig) → Buf (Elt Ideal) ℓ) (c : Dev nD) {N : Net}

/-- Two chunks a point, from the last to the first, are all chunks. -/
theorem sum_cc (f : Fin 64 → ℝ) : ∑ s : Fin 32, (f (cc s.val s.isLt 0) + f (cc s.val s.isLt 1)) = ∑ k, f k := by
  have e : ∑ s : Fin 32, ∑ i : Fin 2, f (cc (Fin.rev s).val (Fin.rev s).isLt i) = ∑ k, f k :=
    Fin.sum_mul_add_congr (S := 32) (n := 2) fun s i hl => congrArg f (Fin.ext (by simp only [cc, Fin.val_rev]; omega))
  rw [← e, ← Equiv.sum_comp Fin.revPerm]
  refine Finset.sum_congr rfl fun s _ => ?_
  rw [Fin.sum_univ_two]
  rfl

/-- A sum that each point adds its two chunks to ends as the sum over all chunks. -/
theorem fold {ι : Type} (v : (n : ℕ) → n < cfg0.N → ι → EReal) (f : Fin 64 → ι → ℝ)
    (h0 : ∀ t : Fin cfg0.N, t.val % 32 = 0 → ∀ i, v t.val t.isLt i = 0 + ((f (cc t.val (lt32 t) 0) i + f (cc t.val (lt32 t) 1) i : ℝ) : EReal))
    (h1 : ∀ t : Fin cfg0.N, ¬ t.val % 32 = 0 → ∀ i, v t.val t.isLt i = v (t.val - 1) (Nat.lt_of_le_of_lt (Nat.sub_le _ _) t.isLt) i
      + ((f (cc t.val (lt32 t) 0) i + f (cc t.val (lt32 t) 1) i : ℝ) : EReal))
    (t : Fin cfg0.N) (h : t.val % 32 = 31) (i : ι) : v t.val t.isLt i = ((∑ k, f k i : ℝ) : EReal) := by
  rw [Pipeline.eq_sum_fin_of_reset_step_apply_of_flush v 32 (fun _ => 0)
    (fun t i => ((f (cc t.val (lt32 t) 0) i + f (cc t.val (lt32 t) 1) i : ℝ) : EReal)) h0 h1 t h i, zero_add, ← sum_cc, ← coe_sum]
  have hN := lt32 t
  refine Finset.sum_congr rfl fun s _ => ?_
  have e : 32 * (t.val / 32) + s.val = s.val := by omega
  simp only [e]

/-- What is known of an entry of each result. -/
def okZ (N : Net) (i : S8192x2048.Idx) (v : EReal) : Prop := ∀ h : (i 1).val < 1024, v = (N.dz (i 0) ⟨(i 1).val, h⟩ : EReal)
def okS (N : Net) (i : S8x2048.Idx) (v : EReal) : Prop := (i 0).val = 0 → ∀ h : (i 1).val < 1024, v = ((∑ s, N.dz s ⟨(i 1).val, h⟩ : ℝ) : EReal)
def okR (N : Net) (i : S8x512.Idx) (v : EReal) : Prop :=
  ((i 0).val = 0 → v = (N.dga (i 1) : EReal)) ∧ ((i 0).val = 2 → v = (N.dlg (i 1) : EReal)) ∧ ((i 0).val = 3 → v = (N.dlb (i 1) : EReal))
def resW (N : Net) : FVec Ideal S8x128x128 .f32 := fun i => ((∑ k, Mix.sw N.W (N.X k) (i 0) (i 1) (i 2) : ℝ) : EReal)
def resB (N : Net) : FVec Ideal S128x512 .f32 := fun i => (N.dbs (head (i 1)) (i 0) : EReal)

theorem ch_rowAt (t : ℕ) (ht : t < 32) (i : Fin 256) : ch (rowAt t ht i) = cc t ht (ck i) := by rw [← row_cc, ch_row]
theorem rr_rowAt (t : ℕ) (ht : t < 32) (i : Fin 256) : rr (rowAt t ht i) = rw_ i := by rw [← row_cc, rr_row]

theorem arr20 (E : Mem m c N) (i : S8192x2048.Idx) : okZ N i ((dats m 0 c).arrAt 20 cfg0.N i) := by
  refine (dats m 0 c).arrAt_forall_of_covers 20 (okZ N) (by decide +kernel) (fun t hf y => ?_) i
  idx_vars y
  have he : (win0_20.blk t).view.emb (ix2 y0 y1) = ix2 (rowAt t.val (lt32 t) y0) y1 := by
    blk_ext [idx t]
    rfl
  blk_simp
  rw [after0_20, he]
  intro h
  refine (dz m c t (holds m c E t) y0 y1 h).trans ?_
  show _ = (N.dz (rowAt t.val (lt32 t) y0) ⟨y1.val, h⟩ : EReal)
  rw [Net.dz, ch_rowAt, rr_rowAt]
  rfl

theorem sum_duv (N : Net) (p : Fin 1024) : ∑ k, ∑ s, duv N.W (N.X k) s p = ∑ s, N.dz s p := sum_net fun k s => duv N.W (N.X k) s p

theorem arr22 (E : Mem m c N) (i : S8x2048.Idx) : okS N i ((dats m 0 c).arrAt 22 cfg0.N i) := by
  refine (dats m 0 c).arrAt_forall_of_covers 22 (okS N) (by decide +kernel) (fun t hf y => ?_) i
  have h := (flush0_22 t).mp hf
  idx_vars y
  have he : (win0_22.blk t).view.emb (ix2 y0 y1) = ix2 y0 y1 := by
    blk_ext [idx t]
  blk_simp
  rw [after0_22, he]
  intro h0 hp
  obtain rfl : y0 = 0 := Fin.ext h0
  refine (fold (ι := Unit) (fun n hn _ => (outsAt0 m c n hn).2.2.2.1 (ix2 0 y1)) (fun k _ => ∑ s, duv N.W (N.X k) s ⟨y1.val, hp⟩)
    (fun t h0 _ => ?_) (fun t h0 _ => ?_) t h ()).trans (congrArg _ (sum_duv N _))
  · rw [← Finset.sum_add_distrib]
    exact a2A m c t h0 (holds m c E t) y1 hp
  · rw [← Finset.sum_add_distrib]
    exact a2B m c t h0 (holds m c E t) y1 hp

theorem t5_0 (W : Weights) (X : Fin 2 → Chunk) (q : Fin 512) : t5 W X 0 q = (∑ s, tg W (X 0) s q) + ∑ s, tg W (X 1) s q := by
  rw [t5, if_pos (by decide), Finset.sum_add_distrib]
theorem t5_2 (W : Weights) (X : Fin 2 → Chunk) (q : Fin 512) : t5 W X 2 q = (∑ s, dl W (X 0) s q * vh (X 0) s q) + ∑ s, dl W (X 1) s q * vh (X 1) s q := by
  rw [t5, if_neg (by decide), if_pos (by decide), Finset.sum_add_distrib]
theorem t5_3 (W : Weights) (X : Fin 2 → Chunk) (q : Fin 512) : t5 W X 3 q = (∑ s, dl W (X 0) s q) + ∑ s, dl W (X 1) s q := by
  rw [t5, if_neg (by decide), if_neg (by decide), Finset.sum_add_distrib]

theorem rows5 (E : Mem m c N) (t : Fin cfg0.N) (h : t.val % 32 = 31) (q : Fin 512) :
    (outsAt0 m c t.val t.isLt).2.2.2.2.1 (ix2 0 q) = (N.dga q : EReal) ∧ (outsAt0 m c t.val t.isLt).2.2.2.2.1 (ix2 2 q) = (N.dlg q : EReal)
      ∧ (outsAt0 m c t.val t.isLt).2.2.2.2.1 (ix2 3 q) = (N.dlb q : EReal) := by
  refine ⟨?_, ?_, ?_⟩
  · refine (fold (ι := Unit) (fun n hn _ => (outsAt0 m c n hn).2.2.2.2.1 (ix2 0 q)) (fun k _ => ∑ s, tg N.W (N.X k) s q)
      (fun t h0 _ => ?_) (fun t h0 _ => ?_) t h ()).trans (congrArg _ (sum_net fun k s => tg N.W (N.X k) s q))
    · exact ((a5A m c t h0 (holds m c E t) q).1).trans (by rw [t5_0])
    · exact ((a5B m c t h0 (holds m c E t) q).1).trans (by rw [t5_0])
  · refine (fold (ι := Unit) (fun n hn _ => (outsAt0 m c n hn).2.2.2.2.1 (ix2 2 q)) (fun k _ => ∑ s, dl N.W (N.X k) s q * vh (N.X k) s q)
      (fun t h0 _ => ?_) (fun t h0 _ => ?_) t h ()).trans (congrArg _ (sum_net fun k s => dl N.W (N.X k) s q * vh (N.X k) s q))
    · exact ((a5A m c t h0 (holds m c E t) q).2.1).trans (by rw [t5_2])
    · exact ((a5B m c t h0 (holds m c E t) q).2.1).trans (by rw [t5_2])
  · refine (fold (ι := Unit) (fun n hn _ => (outsAt0 m c n hn).2.2.2.2.1 (ix2 3 q)) (fun k _ => ∑ s, dl N.W (N.X k) s q)
      (fun t h0 _ => ?_) (fun t h0 _ => ?_) t h ()).trans (congrArg _ (sum_net fun k s => dl N.W (N.X k) s q))
    · exact ((a5A m c t h0 (holds m c E t) q).2.2).trans (by rw [t5_3])
    · exact ((a5B m c t h0 (holds m c E t) q).2.2).trans (by rw [t5_3])

theorem arr23 (E : Mem m c N) (i : S8x512.Idx) : okR N i ((dats m 0 c).arrAt 23 cfg0.N i) := by
  refine (dats m 0 c).arrAt_forall_of_covers 23 (okR N) (by decide +kernel) (fun t hf y => ?_) i
  have h := (flush0_23 t).mp hf
  idx_vars y
  have he : (win0_23.blk t).view.emb (ix2 y0 y1) = ix2 y0 y1 := by
    blk_ext [idx t]
  blk_simp
  rw [after0_23, he]
  obtain ⟨e0, e2, e3⟩ := rows5 m c E t h y1
  refine ⟨fun hy => ?_, fun hy => ?_, fun hy => ?_⟩
  · obtain rfl : y0 = 0 := Fin.ext hy
    exact e0
  · obtain rfl : y0 = 2 := Fin.ext hy
    exact e2
  · obtain rfl : y0 = 3 := Fin.ext hy
    exact e3

theorem arr25 (E : Mem m c N) : (dats m 0 c).arrAt 25 cfg0.N = resW N := by
  refine (dats m 0 c).arrAt_eq_of_covers 25 _ (by decide +kernel) fun t hf y => ?_
  have h := (flush0_25 t).mp hf
  idx_vars y
  have he : (win0_25.blk t).view.emb (ix3 y0 y1 y2) = ix3 y0 y1 y2 := by
    blk_ext [idx t]
  blk_simp
  rw [after0_25, he]
  exact fold (ι := Unit) (fun n hn _ => (outsAt0 m c n hn).2.2.2.2.2.2.1 (ix3 y0 y1 y2)) (fun k _ => Mix.sw N.W (N.X k) y0 y1 y2)
    (fun t h0 _ => swA m c t h0 (holds m c E t) y0 y1 y2) (fun t h0 _ => swB m c t h0 (holds m c E t) y0 y1 y2) t h ()

/-- What the points add to the bias's gradient before its columns are summed. -/
def bAt (N : Net) (s : Fin 128) (q : Fin 512) (n : ℕ) : ℝ :=
  if h : n < 32 then dm N.W (N.X (cc n h 0)) s q + dm N.W (N.X (cc n h 1)) s q else 0

theorem bAt_pt (t : Fin cfg0.N) (s : Fin 128) (q : Fin 512) :
    bAt N s q t.val = dm N.W (Xs N t.val (lt32 t) 0) s q + dm N.W (Xs N t.val (lt32 t) 1) s q := dif_pos (lt32 t)

theorem part26 (E : Mem m c N) (s : Fin 128) (q : Fin 512) : ∀ (n : ℕ) (hn : n < cfg0.N), n < 31 →
    (outsAt0 m c n hn).2.2.2.2.2.2.2.1 (ix2 s q) = ((∑ k ∈ Finset.range (n + 1), bAt N s q k : ℝ) : EReal) := by
  intro n
  induction n with
  | zero =>
    intro hn _
    rw [sbA m c ⟨0, hn⟩ rfl (holds m c E ⟨0, hn⟩) s q, ← bAt_pt, Finset.sum_range_one]
  | succ n ih =>
    intro hn h
    refine (sbB m c ⟨n + 1, hn⟩ (by dsimp only; omega) (by dsimp only; omega) (holds m c E ⟨n + 1, hn⟩) s q).trans ?_
    rw [← bAt_pt, Finset.sum_range_succ _ (n + 1), EReal.coe_add]
    exact congrArg (· + _) (ih _ (by omega))

theorem last26 (E : Mem m c N) (t : Fin cfg0.N) (h : t.val % 32 = 31) (s : Fin 128) (q : Fin 512) :
    (outsAt0 m c t.val t.isLt).2.2.2.2.2.2.2.1 (ix2 s q) = (N.dbs (head q) s : EReal) := by
  have hN := lt32 t
  have h31 : t.val = 31 := by omega
  refine (sbC m c t (by omega) h (holds m c E t) (fun s q => ∑ k ∈ Finset.range 31, bAt N s q k) (fun s q => ?_) s q).trans (congrArg _ ?_)
  · refine (part26 m c E s q (t.val - 1) _ (by omega)).trans ?_
    rw [show t.val - 1 + 1 = 31 by omega]
  · have e : ∀ q, (∑ k ∈ Finset.range 31, bAt N s q k) + (dm N.W (Xs N t.val (lt32 t) 0) s q + dm N.W (Xs N t.val (lt32 t) 1) s q)
        = ∑ k, dm N.W (N.X k) s q := fun q => by
      rw [← bAt_pt, h31, ← Finset.sum_range_succ, ← sum_cc, Finset.sum_range]
      exact Finset.sum_congr rfl fun k _ => dif_pos k.isLt
    rw [Finset.sum_congr rfl fun j _ => e (col (head q) j), Finset.sum_comm]
    rfl

theorem arr26 (E : Mem m c N) : (dats m 0 c).arrAt 26 cfg0.N = resB N := by
  refine (dats m 0 c).arrAt_eq_of_covers 26 _ (by decide +kernel) fun t hf y => ?_
  have h := (flush0_26 t).mp hf
  idx_vars y
  have he : (win0_26.blk t).view.emb (ix2 y0 y1) = ix2 y0 y1 := by
    blk_ext [idx t]
  blk_simp
  rw [after0_26, he]
  exact last26 m c E t h y0 y1

end Cert.Proof.MixFwd

end
-- ==== Proof.RefMixBwd.lean ====
/- The spatial gating branch and its derivative, as the reference program computes them, in real numbers: backward. -/
module

public import proofs.«01_k».proof.Proof.RefMix

@[expose] public section

set_option maxRecDepth 16384

noncomputable section

namespace Cert.Proof.RefMix

open Idealize.ShloMosaic Cert.Reference4Ideal Cert.Reference4Ideal.Read Cert.Proof.Reals Cert.Proof.Mix

variable {N : Net} {X0 X1 : FVec Ideal S8192x1024 .f32} {X2 X3 : FVec Ideal S1x8192 .f32} {X4 : FVec Ideal S1x1024 .f32} {X5 : FVec Ideal S1x1024x2048 .f32}
  {X6 : FVec Ideal S1x2048 .f32} {X7 X8 : FVec Ideal S1x512 .f32} {X9 : FVec Ideal S1x8x128x128 .f32} {X10 : FVec Ideal S1x8x128 .f32}
  {X15 : FVec Ideal S1x512 .f32} {X17 : FVec Ideal S1x1024x1024 .f32} (E : Entries N X0 X1 X2 X3 X4 X5 X6 X7 X8 X9 X10 X15 X17)
include E

theorem tg_at (s : Fin 8192) (q : Fin 512) : val_main_v123 (F := Ideal) X0 X1 X2 X3 X4 X5 X6 X7 X8 X9 X10 X17 (ix2 s q) = (tg N.W (N.X (ch s)) (rr s) q : EReal) := by
  pointwise [val_main_v111, val_main_v112, val_main_v123]
  rw [ya_at E, ra_at E, d_at E, ← EReal.coe_mul, ← EReal.coe_mul, tg]
  exact congrArg _ (by ring)

theorem dga_at (q : Fin 512) : val_main_v125 (F := Ideal) X0 X1 X2 X3 X4 X5 X6 X7 X8 X9 X10 X17 (ix2 0 q) = (N.dga q : EReal) := by
  pointwise [val_main_v124, val_main_v125, val_main_cst_20]
  simp only [tg_at E, coe_sum]
  rfl

theorem ta_at (s : Fin 8192) (q : Fin 512) : val_main_v127 (F := Ideal) X0 X2 X3 X15 X17 (ix2 s q) = (ta N.W (N.X (ch s)) (rr s) q : EReal) := by
  pointwise [val_main_v126, val_main_v127]
  rw [d_at E, E.ga, ← EReal.coe_mul]
  rfl

theorem half_a (s : Fin 8192) : val_main_v136 (F := Ideal) X0 X1 X2 X3 X4 X5 X6 X7 X8 X9 X10 X15 X17 (ix1 s)
    = (((∑ k, ya N.W (N.X (ch s)) (rr s) k * ta N.W (N.X (ch s)) (rr s) k) * (-(1 / 2) * (ra N.W (N.X (ch s)) (rr s) / msq (ya N.W (N.X (ch s)) (rr s)))) / 512 : ℝ) : EReal) := by
  pointwise [val_main_v128, val_main_v129, val_main_v130, val_main_v133, val_main_v134, val_main_v135, val_main_v136, val_main_v108, val_main_v109, val_main_v110,
    val_main_cst_19, val_main_cst_21, val_main_cst_22, val_main_cst_23]
  simp only [Finset.univ_unique, Finset.sum_singleton, show (default : Fin 1) = 0 from rfl, ya_at E, ta_at E, ra_at E, ms_at E, n512_word, neg_half_word,
    ← EReal.coe_mul, coe_sum, div_real _ (msq_pos _).ne', div_real _ (show (512 : ℝ) ≠ 0 by norm_num)]

theorem dya_at (s : Fin 8192) (q : Fin 512) : val_main_v141 (F := Ideal) X0 X1 X2 X3 X4 X5 X6 X7 X8 X9 X10 X15 X17 (ix2 s q) = (dya N.W (N.X (ch s)) (rr s) q : EReal) := by
  pointwise [val_main_v131, val_main_v132, val_main_v137, val_main_v138, val_main_v139, val_main_v140, val_main_v141]
  rw [ta_at E, ra_at E, ya_at E, half_a E]
  simp only [← EReal.coe_mul, ← EReal.coe_add]
  refine congrArg _ ?_
  rw [dya, ra, rstd_cube, show (∑ k, ya N.W (N.X (ch s)) (rr s) k * ta N.W (N.X (ch s)) (rr s) k) = ∑ k, ta N.W (N.X (ch s)) (rr s) k * ya N.W (N.X (ch s)) (rr s) k from
    Finset.sum_congr rfl fun k _ => mul_comm _ _]
  ring

theorem dm_at (s : Fin 8192) (q : Fin 512) : val_main_v142 (F := Ideal) X0 X1 X2 X3 X4 X5 X6 X7 X8 X9 X10 X15 X17 (ix2 s q) = (dm N.W (N.X (ch s)) (rr s) q : EReal) := by
  pointwise [val_main_v142]
  rw [dya_at E, gu_at E, ← EReal.coe_mul, mul_comm]
  rfl

theorem dgu_at (s : Fin 8192) (q : Fin 512) : val_main_v143 (F := Ideal) X0 X1 X2 X3 X4 X5 X6 X7 X8 X9 X10 X15 X17 (ix2 s q)
    = ((dya N.W (N.X (ch s)) (rr s) q * mx N.W (N.X (ch s)) (rr s) q : ℝ) : EReal) := by
  pointwise [val_main_v143]
  rw [dya_at E, mx_at E, ← EReal.coe_mul]

theorem dm4_at (c : Fin 64) (r : Fin 128) (h : Fin 8) (j : Fin 64) :
    val_main_v144 (F := Ideal) X0 X1 X2 X3 X4 X5 X6 X7 X8 X9 X10 X15 X17 (ix4 c r h j) = (dm N.W (N.X c) r (col h j) : EReal) := by
  refine (split_at _ _ c r h j).trans ((dm_at E _ _).trans ?_)
  rw [ch_row, rr_row]

theorem dl4_at (c : Fin 64) (t : Fin 128) (h : Fin 8) (j : Fin 64) :
    val_main_v152 (F := Ideal) X0 X1 X2 X3 X4 X5 X6 X7 X8 X9 X10 X15 X17 (ix4 c t h j) = (dl N.W (N.X c) t (col h j) : EReal) := by
  have hh : head (col h j) = h := Fin.ext (by simp only [head, col]; omega)
  pointwise [val_main_v149, val_main_v151, val_main_v152]
  simp only [dm4_at E, w_at E, ← EReal.coe_mul, coe_sum]
  rw [dl, hh]
  exact congrArg _ (Finset.sum_congr rfl fun t _ => mul_comm _ _)

theorem dl_at (s : Fin 8192) (q : Fin 512) : val_main_v154 (F := Ideal) X0 X1 X2 X3 X4 X5 X6 X7 X8 X9 X10 X15 X17 (ix2 s q) = (dl N.W (N.X (ch s)) (rr s) q : EReal) := by
  refine (join_at _ _ s q).trans ((dl4_at E _ _ _ _).trans ?_)
  rw [show col (head q) ⟨q.val % 64, by omega⟩ = q from Fin.ext (by simp only [head, col]; omega)]

theorem dlb_at (q : Fin 512) : val_main_v156 (F := Ideal) X0 X1 X2 X3 X4 X5 X6 X7 X8 X9 X10 X15 X17 (ix2 0 q) = (N.dlb q : EReal) := by
  pointwise [val_main_v155, val_main_v156, val_main_cst_26]
  simp only [dl_at E, coe_sum]
  rfl

theorem dlg_at (q : Fin 512) : val_main_v159 (F := Ideal) X0 X1 X2 X3 X4 X5 X6 X7 X8 X9 X10 X15 X17 (ix2 0 q) = (N.dlg q : EReal) := by
  pointwise [val_main_v157, val_main_v158, val_main_v159, val_main_cst_27]
  simp only [dl_at E, vh_at E, ← EReal.coe_mul, coe_sum]
  exact congrArg _ (Finset.sum_congr rfl fun s _ => mul_comm _ _)

theorem dvh_at (s : Fin 8192) (q : Fin 512) : val_main_v161 (F := Ideal) X0 X1 X2 X3 X4 X5 X6 X7 X8 X9 X10 X15 X17 (ix2 s q) = (dvh N.W (N.X (ch s)) (rr s) q : EReal) := by
  pointwise [val_main_v160, val_main_v161]
  rw [dl_at E, E.lg, ← EReal.coe_mul]
  rfl

theorem half_v (s : Fin 8192) : val_main_v170 (F := Ideal) X0 X1 X2 X3 X4 X5 X6 X7 X8 X9 X10 X15 X17 (ix1 s)
    = (((∑ k, vc (N.X (ch s)) (rr s) k * dvh N.W (N.X (ch s)) (rr s) k) * (-(1 / 2) * (vr (N.X (ch s)) (rr s) / msq (vc (N.X (ch s)) (rr s)))) / 512 : ℝ) : EReal) := by
  pointwise [val_main_v162, val_main_v163, val_main_v164, val_main_v167, val_main_v168, val_main_v169, val_main_v170, val_main_v77, val_main_v78, val_main_v79,
    val_main_cst_14, val_main_cst_28, val_main_cst_29, val_main_cst_30]
  simp only [Finset.univ_unique, Finset.sum_singleton, show (default : Fin 1) = 0 from rfl, vc_at E, dvh_at E, vr_at E, var_at E, n512_word, neg_half_word,
    ← EReal.coe_mul, coe_sum, div_real _ (msq_pos _).ne', div_real _ (show (512 : ℝ) ≠ 0 by norm_num)]

omit E in
/-- The gradient at a centred row: what the row's own entries get, before the mean is taken off. -/
def dvc (W : Weights) (X : Chunk) (t : Fin 128) (q : Fin 512) : ℝ :=
  vr X t * dvh W X t q - vc X t q * (vr X t * vr X t * vr X t * ((∑ k, vc X t k * dvh W X t k) * (1 / 512)))

omit E in
theorem sum_dvc (W : Weights) (X : Chunk) (t : Fin 128) : ∑ q, dvc W X t q = vr X t * ∑ q, dvh W X t q := by
  simp only [dvc, Finset.sum_sub_distrib]
  rw [← Finset.mul_sum, ← Finset.sum_mul, sum_vc, zero_mul, sub_zero]

theorem dvc_at (s : Fin 8192) (q : Fin 512) : val_main_v175 (F := Ideal) X0 X1 X2 X3 X4 X5 X6 X7 X8 X9 X10 X15 X17 (ix2 s q) = (dvc N.W (N.X (ch s)) (rr s) q : EReal) := by
  pointwise [val_main_v165, val_main_v166, val_main_v171, val_main_v172, val_main_v173, val_main_v174, val_main_v175]
  rw [dvh_at E, vr_at E, vc_at E, half_v E]
  simp only [← EReal.coe_mul, ← EReal.coe_add]
  refine congrArg _ ?_
  rw [dvc, vr, rstd_cube]
  ring

theorem dgv_at (s : Fin 8192) (q : Fin 512) : val_main_v183 (F := Ideal) X0 X1 X2 X3 X4 X5 X6 X7 X8 X9 X10 X15 X17 (ix2 s q)
    = ((vr (N.X (ch s)) (rr s) * (dvh N.W (N.X (ch s)) (rr s) q - (∑ k, dvh N.W (N.X (ch s)) (rr s) k) * (1 / 512)
      - vh (N.X (ch s)) (rr s) q * ((∑ k, dvh N.W (N.X (ch s)) (rr s) k * vh (N.X (ch s)) (rr s) k) * (1 / 512))) : ℝ) : EReal) := by
  pointwise [val_main_v176, val_main_v177, val_main_v178, val_main_v179, val_main_v180, val_main_v181, val_main_v182, val_main_v183, val_main_cst_31, val_main_cst_32, val_main_cst_33]
  simp only [Finset.univ_unique, Finset.sum_singleton, show (default : Fin 1) = 0 from rfl, dvc_at E, n512_word, ← EReal.coe_neg, coe_sum,
    div_real _ (show (512 : ℝ) ≠ 0 by norm_num), ← EReal.coe_add, Finset.sum_neg_distrib, sum_dvc]
  refine congrArg _ ?_
  rw [dvc, show (∑ k, dvh N.W (N.X (ch s)) (rr s) k * vh (N.X (ch s)) (rr s) k)
    = (∑ k, vc (N.X (ch s)) (rr s) k * dvh N.W (N.X (ch s)) (rr s) k) * vr (N.X (ch s)) (rr s) from by
      rw [Finset.sum_mul]; exact Finset.sum_congr rfl fun k _ => by rw [vh]; ring, vh]
  ring

/-- The gradient after the gelu, both halves side by side. -/
theorem both_at (s : Fin 8192) (p : Fin 1024) :
    ∃ g : ℝ, val_main_v184 (F := Ideal) X0 X1 X2 X3 X4 X5 X6 X7 X8 X9 X10 X15 X17 (ix2 s p) = (g : EReal) ∧ N.dz s p = g * dgel (N.z s p) := by
  by_cases h : p.val < 512
  · refine ⟨dya N.W (N.X (ch s)) (rr s) ⟨p.val, h⟩ * mx N.W (N.X (ch s)) (rr s) ⟨p.val, h⟩, ?_, ?_⟩
    · refine Eq.trans ?_ (dgu_at E s ⟨p.val, h⟩)
      pointwise [val_main_v184]
      simp only [h, dif_pos, if_pos]
    · rw [Net.dz, dif_pos h, du, X_u E]
      rfl
  · refine ⟨vr (N.X (ch s)) (rr s) * (dvh N.W (N.X (ch s)) (rr s) ⟨p.val - 512, by omega⟩ - (∑ k, dvh N.W (N.X (ch s)) (rr s) k) * (1 / 512)
      - vh (N.X (ch s)) (rr s) ⟨p.val - 512, by omega⟩ * ((∑ k, dvh N.W (N.X (ch s)) (rr s) k * vh (N.X (ch s)) (rr s) k) * (1 / 512))), ?_, ?_⟩
    rotate_left
    · rw [Net.dz, dif_neg h, dv, X_v E, show hi ⟨p.val - 512, by omega⟩ = p from Fin.ext (by simp only [hi]; omega)]
    · refine Eq.trans ?_ (dgv_at E s ⟨p.val - 512, by omega⟩)
      pointwise [val_main_v184]
      simp only [h, dif_neg, if_neg, not_false_eq_true]

theorem dz_at (s : Fin 8192) (p : Fin 1024) : val_main_v192 (F := Ideal) X0 X1 X2 X3 X4 X5 X6 X7 X8 X9 X10 X15 X17 (ix2 s p) = (N.dz s p : EReal) := by
  obtain ⟨g, hg, hz⟩ := both_at E s p
  pointwise [val_main_v185, val_main_v186, val_main_v187, val_main_v188, val_main_v189, val_main_v190, val_main_v191, val_main_v192, val_main_cst_34]
  rw [hg, z_at E, cdf_at E, slope_at E, sqrt2, Loss.half_word, hz]
  simp only [← EReal.coe_mul, div_real _ sqrt2_ne, ← EReal.coe_add]
  refine congrArg _ ?_
  rw [dgel, ← bell_eq]
  ring

theorem cols_at (p : Fin 1024) : val_main_v195 (F := Ideal) X0 X1 X2 X3 X4 X5 X6 X7 X8 X9 X10 X15 X17 (ix2 0 p) = ((∑ s, N.dz s p : ℝ) : EReal) := by
  pointwise [val_main_v194, val_main_v195, val_main_cst_35]
  simp only [dz_at E, coe_sum]

theorem dws_at (h : Fin 8) (s t : Fin 128) : val_main_v153 (F := Ideal) X0 X1 X2 X3 X4 X5 X6 X7 X8 X9 X10 X15 X17 (ix3 h s t) = (N.dws h s t : EReal) := by
  have e : val_main_v150 (F := Ideal) X0 X1 X2 X3 X4 X5 X6 X7 X8 X9 X10 X15 X17 (ix3 h s t) = ((∑ c, sw N.W (N.X c) h s t : ℝ) : EReal) := by
    pointwise [val_main_v149, val_main_v150]
    simp only [dm4_at E, vl4_at E, ← EReal.coe_mul, coe_sum]
    rfl
  pointwise [val_main_v153, val_main_call2_v0, val_main_call2_cst]
  rw [mask_at, e, Net.dws]
  split <;> rfl

omit E in
/-- A sum over the first and the last axis of four. -/
theorem sum_ends {n0 n1 n2 n3 : ℕ} (h : (⟨4, ![n0, n1, n2, n3]⟩ : Shape).ReducesTo [0, 3] (⟨2, ![n1, n2]⟩ : Shape))
    (v : (⟨4, ![n0, n1, n2, n3]⟩ : Shape).Idx → EReal) (i : EReal) (b : Fin n1) (d : Fin n2) :
    Ideal.hostReduceAdd h v i (ix2 b d) = i + ∑ a : Fin n0, ∑ e : Fin n3, v (ix4 a b d e) := by
  rw [← Fintype.sum_prod_type' fun (a : Fin n0) (e : Fin n3) => v (ix4 a b d e)]
  refine congrArg (i + ·) (Finset.sum_filter_eq_sum_of_fiber _ (fun k : Fin n0 × Fin n3 => ix4 k.1 b d k.2)
    (fun _ _ e => Prod.ext (congrFun e 0) (congrFun e 3)) (fun j => ?_) v)
  constructor
  · intro e
    refine ⟨(j 0, j 3), funext fun a => Fin.ext ?_⟩
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext a
    apply Fin.ext
    match a with
    | ⟨0, _⟩ => rfl
    | ⟨1, _⟩ => rfl

theorem dbs_at (h : Fin 8) (s : Fin 128) : val_main_v148 (F := Ideal) X0 X1 X2 X3 X4 X5 X6 X7 X8 X9 X10 X15 X17 (ix2 h s) = (N.dbs h s : EReal) := by
  have e : val_main_v145 (F := Ideal) X0 X1 X2 X3 X4 X5 X6 X7 X8 X9 X10 X15 X17 (ix2 s h) = (N.dbs h s : EReal) := by
    refine (sum_ends _ _ _ s h).trans ?_
    simp only [dm4_at E, coe_sum]
    pointwise [val_main_cst_24]
    rfl
  have e1 : val_main_v147 (F := Ideal) X0 X1 X2 X3 X4 X5 X6 X7 X8 X9 X10 X15 X17 (ix2 s h) = (N.dbs h s : EReal) := by
    refine (sum_ends _ _ _ s h).trans ?_
    pointwise [val_main_v146, val_main_cst_25]
    simp only [Finset.univ_unique, Finset.sum_singleton]
    exact e
  pointwise [val_main_v148]
  exact e1

end Cert.Proof.RefMix

end
-- ==== Proof.MixPair.lean ====
/- The seven results of the mixer's backward call: what the kernel returns is what the reference returns, over arguments that hold real arrays. -/
module

public import proofs.«01_k».proof.Proof.MixArr
public import proofs.«01_k».proof.Proof.RefMixBwd
public import proofs.«01_k».proof.Proof.Finite
public import proofs.«01_k».proof.Proof.Gen.Kernel4Ideal.Run

@[expose] public section

set_option maxRecDepth 16384

noncomputable section

namespace Cert.Proof.MixFwd

open Idealize.ShloMosaic Cert.Kernel4Ideal Cert.Kernel4Ideal.Gen Cert.Kernel4Ideal.Value Cert.Proof.Reals Cert.Proof.Mix
open Cert.Reference4Ideal.Read (val_main_v193 val_main_v195 val_main_v125 val_main_v159 val_main_v156 val_main_v153 val_main_v148)

section finite
open Cert.Proof.Finite

instance finite4 : Cert.Pre_finite4.Facts where
  bcast_S_S8192x1024 := by decide
  reducesTo_S8192x1024_S_d0_1 := by decide
  h_S_ := by decide
  bcast_S_S1x8192 := by decide
  reducesTo_S1x8192_S_d0_1 := by decide
  bcast_S_S1x1024 := by decide
  reducesTo_S1x1024_S_d0_1 := by decide
  bcast_S_S1x1024x2048 := by decide
  reducesTo_S1x1024x2048_S_d0_1_2 := by decide
  bcast_S_S1x2048 := by decide
  reducesTo_S1x2048_S_d0_1 := by decide
  bcast_S_S1x512 := by decide
  reducesTo_S1x512_S_d0_1 := by decide
  bcast_S_S1x8x128x128 := by decide
  reducesTo_S1x8x128x128_S_d0_1_2_3 := by decide
  bcast_S_S1x8x128 := by decide
  reducesTo_S1x8x128_S_d0_1_2 := by decide
  bcast_S_S1x1024x1024 := by decide
  reducesTo_S1x1024x1024_S_d0_1_2 := by decide

variable {X0 X1 : FVec Ideal S8192x1024 .f32} {X2 X3 : FVec Ideal S1x8192 .f32} {X4 : FVec Ideal S1x1024 .f32} {X5 : FVec Ideal S1x1024x2048 .f32}
  {X6 : FVec Ideal S1x2048 .f32} {X7 X8 : FVec Ideal S1x512 .f32} {X9 : FVec Ideal S1x8x128x128 .f32} {X10 : FVec Ideal S1x8x128 .f32}
  {X15 : FVec Ideal S1x512 .f32} {X17 : FVec Ideal S1x1024x1024 .f32}

/-- Arguments of which the precondition holds hold real arrays. -/
theorem entries_of {X11 X12 X13 X14 X16} (j : (⟨0, ![]⟩ : Shape).Idx)
    (h : Cert.Pre_finite4.fn (F := Ideal) X0 X1 X2 X3 X4 X5 X6 X7 X8 X9 X10 X11 X12 X13 X14 X15 X16 X17 j = 1#1) :
    ∃ N, Entries N X0 X1 X2 X3 X4 X5 X6 X7 X8 X9 X10 X15 X17 := by
  obtain ⟨h, h17⟩ := and_one h
  obtain ⟨h, h15⟩ := and_one h
  obtain ⟨h, h10⟩ := and_one h
  obtain ⟨h, h9⟩ := and_one h
  obtain ⟨h, h8⟩ := and_one h
  obtain ⟨h, h7⟩ := and_one h
  obtain ⟨h, h6⟩ := and_one h
  obtain ⟨h, h5⟩ := and_one h
  obtain ⟨h, h4⟩ := and_one h
  obtain ⟨h, h3⟩ := and_one h
  obtain ⟨h, h2⟩ := and_one h
  obtain ⟨h0, h1⟩ := and_one h
  obtain ⟨f0, e0⟩ := realVec_of (all_real X0 _ (fun _ => inf_word) _ _ _ _ h0)
  obtain ⟨f1, e1⟩ := realVec_of (all_real X1 _ (fun _ => inf_word) _ _ _ _ h1)
  obtain ⟨f2, e2⟩ := realVec_of (all_real X2 _ (fun _ => inf_word) _ _ _ _ h2)
  obtain ⟨f3, e3⟩ := realVec_of (all_real X3 _ (fun _ => inf_word) _ _ _ _ h3)
  obtain ⟨f4, e4⟩ := realVec_of (all_real X4 _ (fun _ => inf_word) _ _ _ _ h4)
  obtain ⟨f5, e5⟩ := realVec_of (all_real X5 _ (fun _ => inf_word) _ _ _ _ h5)
  obtain ⟨f6, e6⟩ := realVec_of (all_real X6 _ (fun _ => inf_word) _ _ _ _ h6)
  obtain ⟨f7, e7⟩ := realVec_of (all_real X7 _ (fun _ => inf_word) _ _ _ _ h7)
  obtain ⟨f8, e8⟩ := realVec_of (all_real X8 _ (fun _ => inf_word) _ _ _ _ h8)
  obtain ⟨f9, e9⟩ := realVec_of (all_real X9 _ (fun _ => inf_word) _ _ _ _ h9)
  obtain ⟨f10, e10⟩ := realVec_of (all_real X10 _ (fun _ => inf_word) _ _ _ _ h10)
  obtain ⟨f15, e15⟩ := realVec_of (all_real X15 _ (fun _ => inf_word) _ _ _ _ h15)
  obtain ⟨f17, e17⟩ := realVec_of (all_real X17 _ (fun _ => inf_word) _ _ _ _ h17)
  exact ⟨{ dx := fun s k => f0 (ix2 s k), x := fun s k => f1 (ix2 s k), mod := fun k => f2 (ix2 0 k) + f3 (ix2 0 k), g := fun k => f4 (ix2 0 k),
           wi := fun k j => f5 (ix3 0 k j), bi := fun j => f6 (ix2 0 j), lg := fun q => f7 (ix2 0 q), lb := fun q => f8 (ix2 0 q),
           ws := fun h s t => f9 (ix4 0 h s t), bs := fun h s => f10 (ix3 0 h s), ga := fun q => f15 (ix2 0 q), wo := fun j k => f17 (ix3 0 j k) },
    { dx := fun s k => e0 _, x := fun s k => e1 _, mod := fun k => by rw [e2, e3, ← EReal.coe_add], g := fun k => e4 _, wi := fun k j => e5 _,
      bi := fun j => e6 _, lg := fun q => e7 _, lb := fun q => e8 _, ws := fun h s t => e9 _, bs := fun h s => e10 _, ga := fun q => e15 _,
      wo := fun j k => e17 _ }⟩
end finite

theorem head_64 (h : Fin 8) (q : Fin 512) (e : q.val = 64 * h.val) : head q = h := Fin.ext (by show q.val / 64 = h.val; omega)

variable (m : (ℓ : Loc nD τ sig) → Buf (Elt Ideal) ℓ) {N : Net} (c : Dev nD) (E : Mem m c N)
  {X0 X1 : FVec Ideal S8192x1024 .f32} {X2 X3 : FVec Ideal S1x8192 .f32} {X4 : FVec Ideal S1x1024 .f32} {X5 : FVec Ideal S1x1024x2048 .f32}
  {X6 : FVec Ideal S1x2048 .f32} {X7 X8 : FVec Ideal S1x512 .f32} {X9 : FVec Ideal S1x8x128x128 .f32} {X10 : FVec Ideal S1x8x128 .f32}
  {X15 : FVec Ideal S1x512 .f32} {X17 : FVec Ideal S1x1024x1024 .f32} (R : Entries N X0 X1 X2 X3 X4 X5 X6 X7 X8 X9 X10 X15 X17)
include E R

theorem res_z : val_main_v193 (F := Ideal) X0 X1 X2 X3 X4 X5 X6 X7 X8 X9 X10 X15 X17
    = extractStridedSlice S8192x1024 ![0, 0] (reg_main_v74_1 m c) slices_S8192x2048_S8192x1024_0_0 := by
  funext i
  idx_vars i
  have a := arr20 m c E (ix2 i0 ⟨i1.val, by omega⟩) i1.isLt
  pointwise [val_main_v193]
  rw [RefMix.dz_at R]
  exact a.symm

theorem res_cols : val_main_v195 (F := Ideal) X0 X1 X2 X3 X4 X5 X6 X7 X8 X9 X10 X15 X17
    = extractStridedSlice S1x1024 ![0, 0] (reg_main_v74_3 m c) slices_S8x2048_S1x1024_0_0 := by
  funext i
  idx_vars i
  obtain rfl : i0 = 0 := Subsingleton.elim _ _
  have a := arr22 m c E (ix2 0 ⟨i1.val, by omega⟩) rfl i1.isLt
  rw [RefMix.cols_at R]
  pointwise []
  exact a.symm

theorem res_ga : val_main_v125 (F := Ideal) X0 X1 X2 X3 X4 X5 X6 X7 X8 X9 X10 X17
    = extractStridedSlice S1x512 ![0, 0] (reg_main_v74_4 m c) slices_S8x512_S1x512_0_0 := by
  funext i
  idx_vars i
  obtain rfl : i0 = 0 := Subsingleton.elim _ _
  have a := (arr23 m c E (ix2 0 i1)).1 rfl
  rw [RefMix.dga_at R]
  pointwise []
  exact a.symm

theorem res_lg : val_main_v159 (F := Ideal) X0 X1 X2 X3 X4 X5 X6 X7 X8 X9 X10 X15 X17
    = extractStridedSlice S1x512 ![2, 0] (reg_main_v74_4 m c) slices_S8x512_S1x512_2_0 := by
  funext i
  idx_vars i
  obtain rfl : i0 = 0 := Subsingleton.elim _ _
  have a := (arr23 m c E (ix2 2 i1)).2.1 rfl
  rw [RefMix.dlg_at R]
  pointwise []
  exact a.symm

theorem res_lb : val_main_v156 (F := Ideal) X0 X1 X2 X3 X4 X5 X6 X7 X8 X9 X10 X15 X17
    = extractStridedSlice S1x512 ![3, 0] (reg_main_v74_4 m c) slices_S8x512_S1x512_3_0 := by
  funext i
  idx_vars i
  obtain rfl : i0 = 0 := Subsingleton.elim _ _
  have a := (arr23 m c E (ix2 3 i1)).2.2 rfl
  rw [RefMix.dlb_at R]
  pointwise []
  exact a.symm

theorem res_ws : val_main_v153 (F := Ideal) X0 X1 X2 X3 X4 X5 X6 X7 X8 X9 X10 X15 X17
    = select (Cert.Reference4Ideal.Read.val_main_v91_1 (F := Ideal)) (reg_main_v74_6 m c : FVec Ideal S8x128x128 .f32)
      (broadcastInDim S8x128x128 ![] bcast_S_S8x128x128 (id (constant (F := Ideal) S_ .f32 0x00000000#32) : FVec Ideal S_ .f32)) := by
  funext i
  idx_vars i
  have a := congrFun (arr25 m c E) (ix3 i0 i1 i2)
  rw [RefMix.dws_at R]
  have b : (if i2.val ≤ i1.val then 1#1 else 0#1 : BitVec 1) = Cert.Reference4Ideal.Read.val_main_v91_1 (F := Ideal) (ix3 i0 i1 i2) := (RefMix.mask_at i0 i1 i2).symm
  pointwise []
  rw [← b]
  by_cases hc : i2.val ≤ i1.val
  · simp only [hc, if_true, Net.dws]
    exact a.symm
  · simp only [hc, if_false, Net.dws]
    show ((0 : ℝ) : EReal) = constant (F := Ideal) S_ .f32 0x00000000#32 ix0
    pointwise []
    exact EReal.coe_zero

theorem res_bs : val_main_v148 (F := Ideal) X0 X1 X2 X3 X4 X5 X6 X7 X8 X9 X10 X15 X17
    = transpose S8x128 [1, 0] (Host.slice S128x8 ![0, 0] ![1, 64] (reg_main_v74_7 m c) slicesBy_S128x512_S128x8_0s1_0s64) transposes_S128x8_S8x128_1_0 := by
  funext i
  idx_vars i
  have a := congrFun (arr26 m c E) (ix2 i1 ⟨64 * i0.val, by omega⟩)
  rw [RefMix.dbs_at R]
  pointwise []
  refine Eq.trans ?_ (Eq.trans a.symm ?_)
  · show _ = (N.dbs (head ⟨64 * i0.val, by omega⟩) i1 : EReal)
    rw [head_64 i0 _ rfl]
  · refine congrArg (reg_main_v74_7 m c) ?_
    funext k
    fin_cases k <;> apply Fin.ext
    · simp
    · simp [mul_comm]

end Cert.Proof.MixFwd

end
-- ==== Proof.lean ====
/- The proof of the claims: the frames are the generated runs; the values are `Pair`. -/
module

public import proofs.«01_k».proof.Proof.Pair
public import proofs.«01_k».proof.Proof.FfnGrad
public import proofs.«01_k».proof.Proof.Gen.Reference2Ideal
public import proofs.«01_k».proof.Proof.Gen.Reference2Ideal.Run
public import proofs.«01_k».proof.Proof.Gen.Kernel2.Frame
public import proofs.«01_k».proof.Proof.LossArr
public import proofs.«01_k».proof.Proof.Gen.Kernel3.Frame
public import proofs.«01_k».proof.Proof.Gen.Reference3Ideal
public import proofs.«01_k».proof.Proof.Gen.Reference3Ideal.Run
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.MixPair
public import proofs.«01_k».proof.Proof.Gen.Kernel4.Frame
public import Idealize.ShloMosaic.Adequacy
public import Idealize.ShloMosaic.Init

@[expose] public section

noncomputable section

namespace Cert.Proof

open Idealize.ShloMosaic Idealize.SL.Sem

theorem reference_frame : Cert.quiescent_ReferenceIdeal := fun m g _ =>
  (θ_run _ _ _).mono (fun r h => ⟨fun c => (h c).2.2, sem_eq_zero_of_no_sems (by decide) r.2⟩) (Cert.ReferenceIdeal.Value.run m g)

theorem algebraic : Cert.algebraic_KernelIdeal_ReferenceIdeal_pre_finite := by
  intro m g m' g' hpre hagree
  refine ⟨fun c => Cert.KernelIdeal.Value.G4 m c, fun c => Cert.KernelIdeal.Value.G5 m c, Cert.KernelIdeal.Value.run m g, ?_⟩
  refine (θ_run _ _ _).mono (fun r h c => ?_) (Cert.ReferenceIdeal.Value.run m' g')
  obtain ⟨e0, e1, hk⟩ := h c
  obtain ⟨a0, a1, a2, a3, a4, a5, a6⟩ := hagree c
  obtain ⟨A, E⟩ := Finite.entries_of (Finite.reals _ _ _ _ _ _ _ (fun a => a.elim0) (congrFun (hpre c) _))
  obtain ⟨v0, v1⟩ := Pair.values _ _ _ _ _ _ _ E
  refine ⟨e0.trans ?_, e1.trans ?_, hk⟩
  · rw [Cert.ReferenceIdeal.Read.val_main_v44_eq, a0, a1, a2, a3, a4, a5]
    exact v0.trans (GradOut.G4_eq m c).symm
  · rw [Cert.ReferenceIdeal.Read.val_main_v46_eq, a0, a1, a2, a3, a4, a5, a6]
    exact v1.trans (GradOut.G5_eq m c).symm

theorem reference2_frame : Cert.quiescent_Reference2Ideal := fun m g _ =>
  (θ_run _ _ _).mono (fun r h => ⟨fun c => (h c).2.2.2, sem_eq_zero_of_no_sems (by decide) r.2⟩) (Cert.Reference2Ideal.Value.run m g)

theorem algebraic2 : Cert.algebraic_Kernel2Ideal_Reference2Ideal_pre_finite := by
  intro m g m' g' hpre hagree
  refine ⟨_, _, _, Cert.Kernel2Ideal.Value.run_blocks m g, ?_⟩
  refine (θ_run _ _ _).mono (fun r h c => ?_) (Cert.Reference2Ideal.Value.run m' g')
  obtain ⟨e0, e1, e2, hk⟩ := h c
  obtain ⟨a0, a1, a2, a3, a4, a5, a6⟩ := hagree c
  obtain ⟨A, E⟩ := Finite.entries_of (Finite.reals _ _ _ _ _ _ _ (fun a => a.elim0) (congrFun (hpre c) _))
  refine ⟨e0.trans ?_, e1.trans ?_, e2.trans ?_, hk⟩
  · rw [Cert.Reference2Ideal.Read.val_main_v74_eq, a0, a1, a2, a3, a4, a5, a6]
    exact (funext fun i => by idx_vars i; exact RefBwd.dff_at E i0 i1 : _ = FfnBwd.gradFf A).trans (FfnBwd.arr9_eq m c E).symm
  · rw [Cert.Reference2Ideal.Read.val_main_v75_eq, a0, a1, a2, a3, a4, a5, a6]
    exact (funext fun i => by idx_vars i; exact RefBwd.dx_at E i0 i1 : _ = FfnBwd.gradX A).trans (FfnBwd.arr10_eq m c E).symm
  · rw [Cert.Reference2Ideal.Read.val_main_v77_eq, a0, a1, a2, a3, a4, a5, a6]
    exact (funext fun i => by idx_vars i; exact RefBwd.acc_at E i0 i1 : _ = FfnBwd.gradRows A).trans (FfnBwd.arr11_eq m c E).symm

theorem reference3_frame : Cert.quiescent_Reference3Ideal := fun m g _ =>
  (θ_run _ _ _).mono (fun r h => ⟨fun c => (h c).2.2.2.2.2.2, sem_eq_zero_of_no_sems (by decide) r.2⟩) (Cert.Reference3Ideal.Value.run m g)

theorem algebraic3 : Cert.algebraic_Kernel3Ideal_Reference3Ideal_pre_finite3 := by
  intro m g m' g' hpre hagree
  refine ⟨_, _, _, _, _, _, Cert.Kernel3Ideal.Value.run_blocks m g, ?_⟩
  refine (θ_run _ _ _).mono (fun r h c => ?_) (Cert.Reference3Ideal.Value.run m' g')
  obtain ⟨e0, e1, e2, e3, e4, e5, hk⟩ := h c
  have b0 : StableHlo.launchContents m' c (Proc.devRef .tc Cert.Reference3Ideal.main_arg0) = _ := (hagree c).1
  have b1 : StableHlo.launchContents m' c (Proc.devRef .tc Cert.Reference3Ideal.main_arg1) = _ := (hagree c).2.1
  have b2 : StableHlo.launchContents m' c (Proc.devRef .tc Cert.Reference3Ideal.main_arg2) = _ := (hagree c).2.2.1
  have b3 : StableHlo.launchContents m' c (Proc.devRef .tc Cert.Reference3Ideal.main_arg3) = _ := (hagree c).2.2.2.1
  have b4 : StableHlo.launchContents m' c (Proc.devRef .tc Cert.Reference3Ideal.main_arg4) = _ := (hagree c).2.2.2.2.1
  have b5 : StableHlo.launchContents m' c (Proc.devRef .tc Cert.Reference3Ideal.main_arg5) = _ := (hagree c).2.2.2.2.2.1
  have b6 : StableHlo.launchContents m' c (Proc.devRef .tc Cert.Reference3Ideal.main_arg6) = _ := (hagree c).2.2.2.2.2.2.1
  have b7 : StableHlo.launchContents m' c (Proc.devRef .tc Cert.Reference3Ideal.main_arg7) = _ := (hagree c).2.2.2.2.2.2.2
  obtain ⟨L, E⟩ := LossFwd.entries_of (fun a => a.elim0) (congrFun (hpre c) _)
  refine ⟨e0.trans ?_, e1.trans ?_, e2.trans ?_, e3.trans ?_, e4.trans ?_, e5.trans ?_, hk⟩
  · rw [Cert.Reference3Ideal.Read.val_main_v125_eq, b0, b2, b3, b4, b6]
    exact (funext fun i => by idx_vars i; exact RefLoss.g_at E i0 i1 : _ = LossFwd.resG L).trans (LossFwd.arr8_eq m c E).symm
  · rw [Cert.Reference3Ideal.Read.val_main_v126_eq, b0, b2, b3, b4, b6]
    exact (funext fun i => by idx_vars i; exact RefLoss.u_at E i0 i1 : _ = LossFwd.resU L).trans (LossFwd.arr9_eq m c E).symm
  · rw [Cert.Reference3Ideal.Read.val_main_v127_eq, b0, b2, b3, b4, b6]
    exact (funext fun i => by idx_vars i; exact RefLoss.a_at E i0 i1 : _ = LossFwd.resA L).trans (LossFwd.arr10_eq m c E).symm
  · rw [Cert.Reference3Ideal.Read.val_main_v128_eq, b0, b2, b3, b4]
    exact (funext fun i => by idx_vars i; exact RefLoss.h_at E i0 i1 : _ = LossFwd.resH L).trans (LossFwd.arr11_eq m c E).symm
  · rw [Cert.Reference3Ideal.Read.val_main_v99_eq, b0, b1, b2, b3, b4, b5, b6, b7]
    exact (funext fun i => by idx_vars i; exact RefLoss.dx_at E i0 i1 : _ = LossFwd.resX L).trans (LossFwd.arr12_eq m c E).symm
  · rw [Cert.Reference3Ideal.Read.val_main_v124_eq, b0, b1, b2, b3, b4, b5, b6, b7]
    exact (funext fun i => by idx_vars i; exact RefLoss.acc_at E i0 i1 : _ = LossFwd.resRows L).trans (LossFwd.arr13_eq m c E).symm

theorem reference4_frame : Cert.quiescent_Reference4Ideal := fun m g _ =>
  (θ_run _ _ _).mono (fun r h => ⟨fun c => (h c).2.2.2.2.2.2.2, sem_eq_zero_of_no_sems (by decide) r.2⟩) (Cert.Reference4Ideal.Value.run m g)

theorem preserves4 : Cert.preserves_Kernel4_Kernel4Ideal :=
  ⟨IdealRules.named_const.statement _ _ _ _ _ rfl, IdealRules.named_const.statement _ _ _ _ _ rfl⟩

theorem algebraic4 : Cert.algebraic_Kernel4Ideal_Reference4Ideal_pre_finite4 := by
  intro m g m' g' hpre hagree
  refine ⟨_, _, _, _, _, _, _, Cert.Kernel4Ideal.Value.run m g, ?_⟩
  refine (θ_run _ _ _).mono (fun r h c => ?_) (Cert.Reference4Ideal.Value.run m' g')
  obtain ⟨e0, e1, e2, e3, e4, e5, e6, hk⟩ := h c
  have b0 : StableHlo.launchContents m' c (Proc.devRef .tc Cert.Reference4Ideal.main_arg0) = _ := (hagree c).1
  have b1 : StableHlo.launchContents m' c (Proc.devRef .tc Cert.Reference4Ideal.main_arg1) = _ := (hagree c).2.1
  have b2 : StableHlo.launchContents m' c (Proc.devRef .tc Cert.Reference4Ideal.main_arg2) = _ := (hagree c).2.2.1
  have b3 : StableHlo.launchContents m' c (Proc.devRef .tc Cert.Reference4Ideal.main_arg3) = _ := (hagree c).2.2.2.1
  have b4 : StableHlo.launchContents m' c (Proc.devRef .tc Cert.Reference4Ideal.main_arg4) = _ := (hagree c).2.2.2.2.1
  have b5 : StableHlo.launchContents m' c (Proc.devRef .tc Cert.Reference4Ideal.main_arg5) = _ := (hagree c).2.2.2.2.2.1
  have b6 : StableHlo.launchContents m' c (Proc.devRef .tc Cert.Reference4Ideal.main_arg6) = _ := (hagree c).2.2.2.2.2.2.1
  have b7 : StableHlo.launchContents m' c (Proc.devRef .tc Cert.Reference4Ideal.main_arg7) = _ := (hagree c).2.2.2.2.2.2.2.1
  have b8 : StableHlo.launchContents m' c (Proc.devRef .tc Cert.Reference4Ideal.main_arg8) = _ := (hagree c).2.2.2.2.2.2.2.2.1
  have b9 : StableHlo.launchContents m' c (Proc.devRef .tc Cert.Reference4Ideal.main_arg9) = _ := (hagree c).2.2.2.2.2.2.2.2.2.1
  have b10 : StableHlo.launchContents m' c (Proc.devRef .tc Cert.Reference4Ideal.main_arg10) = _ := (hagree c).2.2.2.2.2.2.2.2.2.2.1
  have b15 : StableHlo.launchContents m' c (Proc.devRef .tc Cert.Reference4Ideal.main_arg15) = _ := (hagree c).2.2.2.2.2.2.2.2.2.2.2.2.2.2.2.1
  have b17 : StableHlo.launchContents m' c (Proc.devRef .tc Cert.Reference4Ideal.main_arg17) = _ := (hagree c).2.2.2.2.2.2.2.2.2.2.2.2.2.2.2.2.2
  obtain ⟨N, E⟩ := MixFwd.entries_of (fun a => a.elim0) (congrFun (hpre c) _)
  refine ⟨e0.trans ?_, e1.trans ?_, e2.trans ?_, e3.trans ?_, e4.trans ?_, e5.trans ?_, e6.trans ?_, hk⟩
  · rw [Cert.Reference4Ideal.Read.val_main_v193_eq, b0, b1, b2, b3, b4, b5, b6, b7, b8, b9, b10, b15, b17]
    exact MixFwd.res_z m c E E
  · rw [Cert.Reference4Ideal.Read.val_main_v195_eq, b0, b1, b2, b3, b4, b5, b6, b7, b8, b9, b10, b15, b17]
    exact MixFwd.res_cols m c E E
  · rw [Cert.Reference4Ideal.Read.val_main_v125_eq, b0, b1, b2, b3, b4, b5, b6, b7, b8, b9, b10, b17]
    exact MixFwd.res_ga m c E E
  · rw [Cert.Reference4Ideal.Read.val_main_v159_eq, b0, b1, b2, b3, b4, b5, b6, b7, b8, b9, b10, b15, b17]
    exact MixFwd.res_lg m c E E
  · rw [Cert.Reference4Ideal.Read.val_main_v156_eq, b0, b1, b2, b3, b4, b5, b6, b7, b8, b9, b10, b15, b17]
    exact MixFwd.res_lb m c E E
  · rw [Cert.Reference4Ideal.Read.val_main_v153_eq, b0, b1, b2, b3, b4, b5, b6, b7, b8, b9, b10, b15, b17]
    exact MixFwd.res_ws m c E E
  · rw [Cert.Reference4Ideal.Read.val_main_v148_eq, b0, b1, b2, b3, b4, b5, b6, b7, b8, b9, b10, b15, b17]
    exact MixFwd.res_bs m c E E

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Proof.Finite.facts, Cert.Proof.LossFwd.facts, Cert.Proof.MixFwd.finite4,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, fun m ρ _ => Cert.Kernel2Ideal.Gen.frame m ρ,
  reference2_frame, fun m ρ _ => reference2_frame m ρ trivial,
  fun m ρ _ => Cert.Kernel3.Gen.frame m ρ, fun m ρ _ => Cert.Kernel3Ideal.Gen.frame m ρ, fun m ρ _ => Cert.Kernel3Ideal.Gen.frame m ρ,
  reference3_frame, fun m ρ _ => reference3_frame m ρ trivial,
  fun m ρ _ => Cert.Kernel4.Gen.frame m ρ, fun m ρ _ => Cert.Kernel4Ideal.Gen.frame m ρ, fun m ρ _ => Cert.Kernel4Ideal.Gen.frame m ρ,
  reference4_frame, fun m ρ _ => reference4_frame m ρ trivial, trivial, algebraic, trivial, algebraic2, trivial, algebraic3, preserves4, algebraic4⟩

end Cert.Proof

end
